-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_5) = v0 c
          ∧ r.2.mem ((c.tc : Thread Cert.ReferenceIdeal.nD Cert.ReferenceIdeal.τ).loc Cert.ReferenceIdeal.main_v0_6) = v1 c
          ∧ r.2.mem ((c.tc : Thread Cert.ReferenceIdeal.nD Cert.ReferenceIdeal.τ).loc Cert.ReferenceIdeal.main_v0_7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel) (hPre_drawn := hPre_drawn)
    ∧ quiescent_KernelIdeal (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal (hKernelIdeal := hKernelIdeal) (hReferenceIdeal := hReferenceIdeal) (hPre_drawn := hPre_drawn)
-- ==== Pre_drawn.lean ====
abbrev S1024x8192 : Shape := ⟨2, ![1024, 8192]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024x8192 32) (main_arg1 : FVec F S1024x8192 .f32) (main_arg2 : IVec S1024 32) (main_arg3 : IVec S1024 32) (main_arg4 : IVec S1024 32) (main_arg5 : FVec F S1024 .f32) (main_arg6 : IVec S_ 32) : IVec S_ 1 :=
  let main_c : IVec S_ 32 := constantI S_ 32 1024#32
  let main_v0 : IVec S_ 1 := cmpi .eq main_arg6 main_c
  let main_c_0 : IVec S_ 32 := constantI S_ 32 0#32
  let main_v1 : IVec S1024 32 := broadcastInDim S1024 ![] bcast_S_S1024 main_c_0
  let main_v2 : IVec S1024 1 := cmpi .sge main_arg2 main_v1
  let main_c_1 : IVec S_ 32 := constantI S_ 32 4096#32
  let main_v3 : IVec S1024 32 := broadcastInDim S1024 ![] bcast_S_S1024 main_c_1
  let main_v4 : IVec S1024 1 := cmpi .slt main_arg2 main_v3
  let main_v5 : IVec S1024 1 := andi main_v2 main_v4
  let main_c_2 : IVec S_ 1 := constantI S_ 1 1#1
  let main_v6 : IVec S_ 1 := (fun x v => Host.reduce IntOp.andi x v reducesTo_S1024_S_d0 h_S_) main_v5 main_c_2
  let main_v7 : IVec S_ 1 := andi main_v0 main_v6
  let main_c_3 : IVec S_ 32 := constantI S_ 32 0#32
  let main_v8 : IVec S1024 32 := broadcastInDim S1024 ![] bcast_S_S1024 main_c_3
  let main_v9 : IVec S1024 1 := cmpi .sge main_arg3 main_v8
  let main_c_4 : IVec S_ 32 := constantI S_ 32 1024#32
  let main_v10 : IVec S1024 32 := broadcastInDim S1024 ![] bcast_S_S1024 main_c_4
  let main_v11 : IVec S1024 1 := cmpi .slt main_arg3 main_v10
  let main_v12 : IVec S1024 1 := andi main_v9 main_v11
  let main_c_5 : IVec S_ 1 := constantI S_ 1 1#1
  let main_v13 : IVec S_ 1 := (fun x v => Host.reduce IntOp.andi x v reducesTo_S1024_S_d0 h_S_) main_v12 main_c_5
  let main_v14 : IVec S_ 1 := andi main_v7 main_v13
  main_v14
-- ==== Kernel.lean ====
abbrev S1024x8192 : Shape := ⟨2, ![1024, 8192]⟩
abbrev S1024 : Shape := ⟨1, ![1024]⟩
abbrev S_ : Shape := ⟨0, ![]⟩
abbrev S16 : Shape := ⟨1, ![16]⟩
abbrev S128x8192 : Shape := ⟨2, ![128, 8192]⟩
abbrev S8x128 : Shape := ⟨2, ![8, 128]⟩
abbrev S1 : Shape := ⟨1, ![1]⟩

abbrev nBuf : Table → Nat
  | .hbm => 16
  | .local .tc .vmem => 8
  | .local .tc .smem => 6
  | .local .scVector .vmem => 12
  | _ => 0

abbrev bufTy : (tb : Table) → Fin (nBuf tb) → BufTy
  | .hbm, ⟨0, _⟩ => ⟨S1024x8192, .i32⟩
  | .hbm, ⟨1, _⟩ => ⟨S1024x8192, .f32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S1024, .f32⟩
  | .hbm, ⟨6, _⟩ => ⟨S_, .i32⟩
  | .hbm, ⟨7, _⟩ => ⟨S1024, .i32⟩
  | .hbm, ⟨8, _⟩ => ⟨S16, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024, .f32⟩
  | .hbm, ⟨14, _⟩ => ⟨S1024x8192, .i32⟩
  | .hbm, ⟨15, _⟩ => ⟨S1024x8192, .f32⟩
  | .local .tc .vmem, ⟨0, _⟩ => ⟨S128x8192, .i32⟩
  | .local .tc .vmem, ⟨1, _⟩ => ⟨S128x8192, .i32⟩
  | .local .tc .vmem, ⟨2, _⟩ => ⟨S128x8192, .f32⟩
  | .local .tc .vmem, ⟨3, _⟩ => ⟨S128x8192, .f32⟩
  | .local .tc .vmem, ⟨4, _⟩ => ⟨S128x8192, .i32⟩
  | .local .tc .vmem, ⟨5, _⟩ => ⟨S128x8192, .i32⟩
  | .local .tc .vmem, ⟨6, _⟩ => ⟨S128x8192, .f32⟩
  | .local .tc .vmem, ⟨7, _⟩ => ⟨S128x8192, .f32⟩
  | .local .tc .smem, ⟨0, _⟩ => ⟨S16, .i32⟩
  | .local .tc .smem, ⟨1, _⟩ => ⟨S1024, .i32⟩
  | .local .tc .smem, ⟨2, _⟩ => ⟨S1024, .i32⟩
  | .local .tc .smem, ⟨3, _⟩ => ⟨S1024, .i32⟩
  | .local .tc .smem, ⟨4, _⟩ => ⟨S1024, .i32⟩
  | .local .tc .smem, ⟨5, _⟩ => ⟨S1024, .f32⟩
  | .local .scVector .vmem, ⟨0, _⟩ => ⟨S1024, .i32⟩
  | .local .scVector .vmem, ⟨1, _⟩ => ⟨S1024, .i32⟩
  | .local .scVector .vmem, ⟨2, _⟩ => ⟨S1024, .f32⟩
  | .local .scVector .vmem, ⟨3, _⟩ => ⟨S1024, .i32⟩
  | .local .scVector .vmem, ⟨4, _⟩ => ⟨S1024, .i32⟩
  | .local .scVector .vmem, ⟨5, _⟩ => ⟨S16, .i32⟩
  | .local .scVector .vmem, ⟨6, _⟩ => ⟨S1024, .i32⟩
  | .local .scVector .vmem, ⟨7, _⟩ => ⟨S1024, .i32⟩
  | .local .scVector .vmem, ⟨8, _⟩ => ⟨S1024, .i32⟩
  | .local .scVector .vmem, ⟨9, _⟩ => ⟨S1024, .i32⟩
  | .local .scVector .vmem, ⟨10, _⟩ => ⟨S1024, .f32⟩
  | .local .scVector .vmem, ⟨11, _⟩ => ⟨S16, .i32⟩
  | _, _ => ⟨S1024x8192, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v1_0 : Ref sig .tc := ⟨.hbm, 14, rfl⟩
abbrev main_v1_1 : Ref sig .tc := ⟨.hbm, 15, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v0_0_scv : Ref sig .scVector := ⟨.hbm, 7, rfl⟩
abbrev main_v0_1_scv : Ref sig .scVector := ⟨.hbm, 8, rfl⟩
abbrev main_v0_2_scv : Ref sig .scVector := ⟨.hbm, 9, rfl⟩
abbrev main_v0_3_scv : Ref sig .scVector := ⟨.hbm, 10, rfl⟩
abbrev main_v0_4_scv : Ref sig .scVector := ⟨.hbm, 11, rfl⟩
abbrev main_v0_5_scv : Ref sig .scVector := ⟨.hbm, 12, rfl⟩
abbrev main_v0_6_scv : Ref sig .scVector := ⟨.hbm, 13, rfl⟩
abbrev cc1_stg6_0 : Ref sig .tc := ⟨.vmem, 0, rfl⟩
abbrev cc1_stg6_1 : Ref sig .tc := ⟨.vmem, 1, rfl⟩
abbrev cc1_stg7_0 : Ref sig .tc := ⟨.vmem, 2, rfl⟩
abbrev cc1_stg7_1 : Ref sig .tc := ⟨.vmem, 3, rfl⟩
abbrev cc1_stg8_0 : Ref sig .tc := ⟨.vmem, 4, rfl⟩
abbrev cc1_stg8_1 : Ref sig .tc := ⟨.vmem, 5, rfl⟩
abbrev cc1_stg9_0 : Ref sig .tc := ⟨.vmem, 6, rfl⟩
abbrev cc1_stg9_1 : Ref sig .tc := ⟨.vmem, 7, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc1_stg3_0 : Ref sig .tc := ⟨.smem, 3, rfl⟩
abbrev cc1_stg4_0 : Ref sig .tc := ⟨.smem, 4, rfl⟩
abbrev cc1_stg5_0 : Ref sig .tc := ⟨.smem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem6_1 : DmaSem sig := 11
abbrev cc1_sem7_0 : DmaSem sig := 12
abbrev cc1_sem7_1 : DmaSem sig := 13
abbrev cc1_sem8_0 : DmaSem sig := 14
abbrev cc1_sem8_1 : DmaSem sig := 15
abbrev cc1_sem9_0 : DmaSem sig := 16
abbrev cc1_sem9_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_3 : BitVec 32 := 0#32
  let c64_i32 : BitVec 32 := 64#32
  let v7 : BitVec 32 := Scalar.addi c0_i32_3 c64_i32
  let c1_i32 : BitVec 32 := 1#32
  ⟨c0_i32_3, v7, c1_i32⟩
def k0_off1 (k0_t1 : Fin k0_t1_loop.trips) : Fin 1 → Nat :=
  let c0_i32_13 : BitVec 32 := 0#32
  let c0_i32_3 : BitVec 32 := 0#32
  let c1_i32 : BitVec 32 := 1#32
  let arg29 : BitVec 32 := Scf.iv c0_i32_3 c1_i32 k0_t1
  let c1_i32_12 : BitVec 32 := 1#32
  let v20 : BitVec 32 := Scalar.muli arg29 c1_i32_12
  let v21 : BitVec 32 := Scalar.addi c0_i32_13 v20
  let c16_i32 : BitVec 32 := 16#32
  let v22 : BitVec 32 := Scalar.muli v21 c16_i32
  let v23 : Index := Scalar.indexCast v22
  ![v23.toNat]

def k0_chk1 (i : grid0.Coords) (v24 : IVec S16 32) : Prop :=
  (∀ (k0_h1 : k0_cond1 i = 1#1), ∀ a x, ((![v24] : Fin 1 → IVec S16 32) a x).toNat < S1024.size a) ∧
  (∀ (k0_h1 : k0_cond1 i = 1#1), ∀ a x, ((![v24] : Fin 1 → IVec S16 32) a x).toNat < S1024.size a)
theorem k0_idx1_inb : ∀ (i : grid0.Coords) (v24 : IVec S16 32) (k0_hw1 : k0_chk1 i v24), ∀ (k0_h1 : k0_cond1 i = 1#1), ∀ a x, ((![v24] : Fin 1 → IVec S16 32) a x).toNat < S1024.size a := fun i v24 k0_hw1 k0_h1 => k0_hw1.1 k0_h1
theorem k0_idx2_inb : ∀ (i : grid0.Coords) (v24 : IVec S16 32) (k0_hw1 : k0_chk1 i v24), ∀ (k0_h1 : k0_cond1 i = 1#1), ∀ a x, ((![v24] : Fin 1 → IVec S16 32) a x).toNat < S1024.size a := fun i v24 k0_hw1 k0_h1 => k0_hw1.2 k0_h1
def k0_off2 (k0_t1 : Fin k0_t1_loop.trips) : Fin 1 → Nat :=
  let c0_i32_13 : BitVec 32 := 0#32
  let c0_i32_3 : BitVec 32 := 0#32
  let c1_i32 : BitVec 32 := 1#32
  let arg29 : BitVec 32 := Scf.iv c0_i32_3 c1_i32 k0_t1
  let c1_i32_12 : BitVec 32 := 1#32
  let v20 : BitVec 32 := Scalar.muli arg29 c1_i32_12
  let v21 : BitVec 32 := Scalar.addi c0_i32_13 v20
  let c16_i32_17 : BitVec 32 := 16#32
  let v32 : BitVec 32 := Scalar.muli v21 c16_i32_17
  let v33 : Index := Scalar.indexCast v32
  ![v33.toNat]

def k0_chk2 (i : grid0.Coords) (v36 : IVec S16 32) : Prop :=
  (∀ (k0_h1 : k0_cond1 i = 1#1), ∀ a x, ((![v36] : Fin 1 → IVec S16 32) a x).toNat < S16.size a) ∧
  (∀ (k0_h1 : k0_cond1 i = 1#1), ∀ a x, ((![v36] : Fin 1 → IVec S16 32) a x).toNat < S16.size a)
theorem k0_idx3_inb : ∀ (i : grid0.Coords) (v36 : IVec S16 32) (k0_hw2 : k0_chk2 i v36), ∀ (k0_h1 : k0_cond1 i = 1#1), ∀ a x, ((![v36] : Fin 1 → IVec S16 32) a x).toNat < S16.size a := fun i v36 k0_hw2 k0_h1 => k0_hw2.1 k0_h1
theorem k0_idx4_inb : ∀ (i : grid0.Coords) (v36 : IVec S16 32) (k0_hw2 : k0_chk2 i v36), ∀ (k0_h1 : k0_cond1 i = 1#1), ∀ a x, ((![v36] : Fin 1 → IVec S16 32) a x).toNat < S16.size a := fun i v36 k0_hw2 k0_h1 => k0_hw2.2 k0_h1
@[reducible] def k0_t2_loop : Scf.Loop 32 :=
  let c0_i32_8 : BitVec 32 := 0#32
  let c64_i32_9 : BitVec 32 := 64#32
  let v19 : BitVec 32 := Scalar.addi c0_i32_8 c64_i32_9
  let c1_i32_10 : BitVec 32 := 1#32
  ⟨c0_i32_8, v19, c1_i32_10⟩
def k0_off3 (k0_t2 : Fin k0_t2_loop.trips) : Fin 1 → Nat :=
  let c0_i32_13 : BitVec 32 := 0#32
  let c0_i32_8 : BitVec 32 := 0#32
  let c1_i32_10 : BitVec 32 := 1#32
  let arg29 : BitVec 32 := Scf.iv c0_i32_8 c1_i32_10 k0_t2
  let c1_i32_12 : BitVec 32 := 1#32
  let v20 : BitVec 32 := Scalar.muli arg29 c1_i32_12
  let v21 : BitVec 32 := Scalar.addi c0_i32_13 v20
  let c16_i32 : BitVec 32 := 16#32
  let v22 : BitVec 32 := Scalar.muli v21 c16_i32
  let v23 : Index := Scalar.indexCast v22
  ![v23.toNat]

def k0_chk3 (i : grid0.Coords) (v26 : IVec S16 32) : Prop :=
  (∀ (k0_h1 : k0_cond1 i = 1#1), ∀ a x, ((![v26] : Fin 1 → IVec S16 32) a x).toNat < S16.size a) ∧
  (∀ (k0_h1 : k0_cond1 i = 1#1), ∀ a x, ((![v26] : Fin 1 → IVec S16 32) a x).toNat < S16.size a)
theorem k0_idx5_inb : ∀ (i : grid0.Coords) (v26 : IVec S16 32) (k0_hw3 : k0_chk3 i v26), ∀ (k0_h1 : k0_cond1 i = 1#1), ∀ a x, ((![v26] : Fin 1 → IVec S16 32) a x).toNat < S16.size a := fun i v26 k0_hw3 k0_h1 => k0_hw3.1 k0_h1
theorem k0_idx6_inb : ∀ (i : grid0.Coords) (v26 : IVec S16 32) (k0_hw3 : k0_chk3 i v26), ∀ (k0_h1 : k0_cond1 i = 1#1), ∀ a x, ((![v26] : Fin 1 → IVec S16 32) a x).toNat < S16.size a := fun i v26 k0_hw3 k0_h1 => k0_hw3.2 k0_h1
def k0_off4 (k0_t2 : Fin k0_t2_loop.trips) : Fin 1 → Nat :=
  let c0_i32_13 : BitVec 32 := 0#32
  let c0_i32_8 : BitVec 32 := 0#32
  let c1_i32_10 : BitVec 32 := 1#32
  let arg29 : BitVec 32 := Scf.iv c0_i32_8 c1_i32_10 k0_t2
  let c1_i32_12 : BitVec 32 := 1#32
  let v20 : BitVec 32 := Scalar.muli arg29 c1_i32_12
  let v21 : BitVec 32 := Scalar.addi c0_i32_13 v20
  let c16_i32_16 : BitVec 32 := 16#32
  let v35 : BitVec 32 := Scalar.muli v21 c16_i32_16
  let v36 : Index := Scalar.indexCast v35
  ![v36.toNat]
def k0_off5 (k0_t2 : Fin k0_t2_loop.trips) : Fin 1 → Nat :=
  let c0_i32_13 : BitVec 32 := 0#32
  let c0_i32_8 : BitVec 32 := 0#32
  let c1_i32_10 : BitVec 32 := 1#32
  let arg29 : BitVec 32 := Scf.iv c0_i32_8 c1_i32_10 k0_t2
  let c1_i32_12 : BitVec 32 := 1#32
  let v20 : BitVec 32 := Scalar.muli arg29 c1_i32_12
  let v21 : BitVec 32 := Scalar.addi c0_i32_13 v20
  let c16_i32_18 : BitVec 32 := 16#32
  let v48 : BitVec 32 := Scalar.muli v21 c16_i32_18
  let v49 : Index := Scalar.indexCast v48
  ![v49.toNat]

def k0_chk4 (i : grid0.Coords) (v31 : IVec S16 32) : Prop :=
  (∀ (k0_h1 : k0_cond1 i = 1#1), ∀ a x, ((![v31] : Fin 1 → IVec S16 32) a x).toNat < S1024.size a) ∧
  (∀ (k0_h1 : k0_cond1 i = 1#1), ∀ a x, ((![v31] : Fin 1 → IVec S16 32) a x).toNat < S1024.size a) ∧
  (∀ (k0_h1 : k0_cond1 i = 1#1), ∀ a x, ((![v31] : Fin 1 → IVec S16 32) a x).toNat < S1024.size a) ∧
  (∀ (k0_h1 : k0_cond1 i = 1#1), ∀ a x, ((![v31] : Fin 1 → IVec S16 32) a x).toNat < S1024.size a) ∧
  (∀ (k0_h1 : k0_cond1 i = 1#1), ∀ a x, ((![v31] : Fin 1 → IVec S16 32) a x).toNat < S1024.size a)
theorem k0_idx7_inb : ∀ (i : grid0.Coords) (v31 : IVec S16 32) (k0_hw4 : k0_chk4 i v31), ∀ (k0_h1 : k0_cond1 i = 1#1), ∀ a x, ((![v31] : Fin 1 → IVec S16 32) a x).toNat < S1024.size a := fun i v31 k0_hw4 k0_h1 => k0_hw4.1 k0_h1
theorem k0_idx8_inb : ∀ (i : grid0.Coords) (v31 : IVec S16 32) (k0_hw4 : k0_chk4 i v31), ∀ (k0_h1 : k0_cond1 i = 1#1), ∀ a x, ((![v31] : Fin 1 → IVec S16 32) a x).toNat < S1024.size a := fun i v31 k0_hw4 k0_h1 => k0_hw4.2.1 k0_h1
theorem k0_idx9_inb : ∀ (i : grid0.Coords) (v31 : IVec S16 32) (k0_hw4 : k0_chk4 i v31), ∀ (k0_h1 : k0_cond1 i = 1#1), ∀ a x, ((![v31] : Fin 1 → IVec S16 32) a x).toNat < S1024.size a := fun i v31 k0_hw4 k0_h1 => k0_hw4.2.2.1 k0_h1
theorem k0_idx10_inb : ∀ (i : grid0.Coords) (v31 : IVec S16 32) (k0_hw4 : k0_chk4 i v31), ∀ (k0_h1 : k0_cond1 i = 1#1), ∀ a x, ((![v31] : Fin 1 → IVec S16 32) a x).toNat < S1024.size a := fun i v31 k0_hw4 k0_h1 => k0_hw4.2.2.2.1 k0_h1
theorem k0_idx11_inb : ∀ (i : grid0.Coords) (v31 : IVec S16 32) (k0_hw4 : k0_chk4 i v31), ∀ (k0_h1 : k0_cond1 i = 1#1), ∀ a x, ((![v31] : Fin 1 → IVec S16 32) a x).toNat < S1024.size a := fun i v31 k0_hw4 k0_h1 => k0_hw4.2.2.2.2 k0_h1
abbrev grid1 : Pipeline.Grid := ⟨1, ![8], ![false]⟩

def k1_off1 (i : grid1.Coords) : Fin 1 → Nat :=
  let arg0 : BitVec 32 := BitVec.ofNat 32 (i 0).val
  let v9 : Index := Scalar.indexCast arg0
  ![v9.toNat]
def k1_off2 (i : grid1.Coords) : Fin 1 → Nat :=
  let arg0 : BitVec 32 := BitVec.ofNat 32 (i 0).val
  let c1_i32 : BitVec 32 := 1#32
  let v11 : BitVec 32 := Scalar.addi arg0 c1_i32
  let v12 : Index := Scalar.indexCast v11
  ![v12.toNat]
@[reducible] def k1_t1_loop (v10 : BitVec 32) (v13 : BitVec 32) : Scf.Loop 32 :=
  let v14 : BitVec 32 := Scalar.subi v13 v10
  let c1_i32_7 : BitVec 32 := 1#32
  let v16 : BitVec 32 := Scalar.divsi v14 c1_i32_7
  let v17 : BitVec 32 := Scalar.muli v16 c1_i32_7
  let v18 : BitVec 32 := Scalar.addi v10 v17
  let c1_i32_8 : BitVec 32 := 1#32
  ⟨v10, v18, c1_i32_8⟩

def k1_off3 (v10 : BitVec 32) (v13 : BitVec 32) (k1_t1 : Fin (k1_t1_loop v10 v13).trips) : Fin 1 → Nat :=
  let c1_i32_8 : BitVec 32 := 1#32
  let arg11 : BitVec 32 := Scf.iv v10 c1_i32_8 k1_t1
  let v21 : Index := Scalar.indexCast arg11
  ![v21.toNat]
def k1_mult1 (v22 : BitVec 32) : BitVec 32 :=
  v22

def k1_chk2 (v22 : BitVec 32) : Prop :=
  (8 ∣ (k1_mult1 v22).toNat)
theorem k1_mult1_dvd : ∀ (v22 : BitVec 32) (k1_hw2 : k1_chk2 v22), 8 ∣ (k1_mult1 v22).toNat := fun v22 k1_hw2 => k1_hw2

def k1_off4 (v10 : BitVec 32) (v13 : BitVec 32) (k1_t1 : Fin (k1_t1_loop v10 v13).trips) : Fin 1 → Nat :=
  let c1_i32_8 : BitVec 32 := 1#32
  let arg11 : BitVec 32 := Scf.iv v10 c1_i32_8 k1_t1
  let v24 : Index := Scalar.indexCast arg11
  ![v24.toNat]
def k1_mult2 (v25 : BitVec 32) : BitVec 32 :=
  v25

def k1_off5 (v10 : BitVec 32) (v13 : BitVec 32) (k1_t1 : Fin (k1_t1_loop v10 v13).trips) : Fin 1 → Nat :=
  let c1_i32_8 : BitVec 32 := 1#32
  let arg11 : BitVec 32 := Scf.iv v10 c1_i32_8 k1_t1
  let v27 : Index := Scalar.indexCast arg11
  ![v27.toNat]
def k1_off6 (v22 : BitVec 32) (v25 : BitVec 32) : Fin 2 → Nat :=
  let v23 : BitVec 32 := v22
  let v31 : Index := Scalar.indexCast v23
  let v26 : BitVec 32 := v25
  let v32 : Index := Scalar.indexCast v26
  ![v31.toNat, v32.toNat]

def k1_chk3 (v22 : BitVec 32) (v25 : BitVec 32) : Prop :=
  (128 ∣ (k1_mult2 v25).toNat) ∧
  (∀ a, (k1_off6 v22 v25) a + S8x128.size a ≤ S128x8192.size a)
theorem k1_mult2_dvd : ∀ (v22 : BitVec 32) (v25 : BitVec 32) (k1_hw3 : k1_chk3 v22 v25), 128 ∣ (k1_mult2 v25).toNat := fun v22 v25 k1_hw3 => k1_hw3.1
theorem k1_off6_inb : ∀ (v22 : BitVec 32) (v25 : BitVec 32) (k1_hw3 : k1_chk3 v22 v25), ∀ a, (k1_off6 v22 v25) a + S8x128.size a ≤ S128x8192.size a := fun v22 v25 k1_hw3 => k1_hw3.2

@[reducible] def k1_t2_loop (v10 : BitVec 32) (v13 : BitVec 32) : Scf.Loop 32 :=
  let v14 : BitVec 32 := Scalar.subi v13 v10
  let c1_i32_7 : BitVec 32 := 1#32
  let v16 : BitVec 32 := Scalar.divsi v14 c1_i32_7
  let v17 : BitVec 32 := Scalar.muli v16 c1_i32_7
  let v18 : BitVec 32 := Scalar.addi v10 v17
  let v15 : BitVec 32 := Scalar.addi v10 v14
  let c1_i32_9 : BitVec 32 := 1#32
  ⟨v18, v15, c1_i32_9⟩
def k1_off7 (v10 : BitVec 32) (v13 : BitVec 32) (k1_t2 : Fin (k1_t2_loop v10 v13).trips) : Fin 1 → Nat :=
  let v14 : BitVec 32 := Scalar.subi v13 v10
  let c1_i32_7 : BitVec 32 := 1#32
  let v16 : BitVec 32 := Scalar.divsi v14 c1_i32_7
  let v17 : BitVec 32 := Scalar.muli v16 c1_i32_7
  let v18 : BitVec 32 := Scalar.addi v10 v17
  let c1_i32_9 : BitVec 32 := 1#32
  let arg11 : BitVec 32 := Scf.iv v18 c1_i32_9 k1_t2
  let v21 : Index := Scalar.indexCast arg11
  ![v21.toNat]
def k1_mult3 (v22 : BitVec 32) : BitVec 32 :=
  v22

def k1_chk4 (v22 : BitVec 32) : Prop :=
  (8 ∣ (k1_mult3 v22).toNat)
theorem k1_mult3_dvd : ∀ (v22 : BitVec 32) (k1_hw4 : k1_chk4 v22), 8 ∣ (k1_mult3 v22).toNat := fun v22 k1_hw4 => k1_hw4

def k1_off8 (v10 : BitVec 32) (v13 : BitVec 32) (k1_t2 : Fin (k1_t2_loop v10 v13).trips) : Fin 1 → Nat :=
  let v14 : BitVec 32 := Scalar.subi v13 v10
  let c1_i32_7 : BitVec 32 := 1#32
  let v16 : BitVec 32 := Scalar.divsi v14 c1_i32_7
  let v17 : BitVec 32 := Scalar.muli v16 c1_i32_7
  let v18 : BitVec 32 := Scalar.addi v10 v17
  let c1_i32_9 : BitVec 32 := 1#32
  let arg11 : BitVec 32 := Scf.iv v18 c1_i32_9 k1_t2
  let v24 : Index := Scalar.indexCast arg11
  ![v24.toNat]
def k1_mult4 (v25 : BitVec 32) : BitVec 32 :=
  v25

def k1_off9 (v10 : BitVec 32) (v13 : BitVec 32) (k1_t2 : Fin (k1_t2_loop v10 v13).trips) : Fin 1 → Nat :=
  let v14 : BitVec 32 := Scalar.subi v13 v10
  let c1_i32_7 : BitVec 32 := 1#32
  let v16 : BitVec 32 := Scalar.divsi v14 c1_i32_7
  let v17 : BitVec 32 := Scalar.muli v16 c1_i32_7
  let v18 : BitVec 32 := Scalar.addi v10 v17
  let c1_i32_9 : BitVec 32 := 1#32
  let arg11 : BitVec 32 := Scf.iv v18 c1_i32_9 k1_t2
  let v27 : Index := Scalar.indexCast arg11
  ![v27.toNat]

def k1_chk1 (v10 : BitVec 32) (v13 : BitVec 32) : Prop :=
  ((k1_t1_loop v10 v13).OK) ∧
  (∀ k1_t1 : Fin (k1_t1_loop v10 v13).trips, ∀ a, (k1_off3 v10 v13 k1_t1) a + S1.size a ≤ S1024.size a) ∧
  (∀ k1_t1 : Fin (k1_t1_loop v10 v13).trips, ∀ a, (k1_off4 v10 v13 k1_t1) a + S1.size a ≤ S1024.size a) ∧
  (∀ k1_t1 : Fin (k1_t1_loop v10 v13).trips, ∀ a, (k1_off5 v10 v13 k1_t1) a + S1.size a ≤ S1024.size a) ∧
  ((k1_t2_loop v10 v13).OK) ∧
  (∀ k1_t2 : Fin (k1_t2_loop v10 v13).trips, ∀ a, (k1_off7 v10 v13 k1_t2) a + S1.size a ≤ S1024.size a) ∧
  (∀ k1_t2 : Fin (k1_t2_loop v10 v13).trips, ∀ a, (k1_off8 v10 v13 k1_t2) a + S1.size a ≤ S1024.size a) ∧
  (∀ k1_t2 : Fin (k1_t2_loop v10 v13).trips, ∀ a, (k1_off9 v10 v13 k1_t2) a + S1.size a ≤ S1024.size a)
theorem k1_t1_ok : ∀ (v10 : BitVec 32) (v13 : BitVec 32) (k1_hw1 : k1_chk1 v10 v13), (k1_t1_loop v10 v13).OK := fun v10 v13 k1_hw1 => k1_hw1.1
theorem k1_off3_inb : ∀ (v10 : BitVec 32) (v13 : BitVec 32) (k1_hw1 : k1_chk1 v10 v13) (k1_t1 : Fin (k1_t1_loop v10 v13).trips), ∀ a, (k1_off3 v10 v13 k1_t1) a + S1.size a ≤ S1024.size a := fun v10 v13 k1_hw1 k1_t1 => k1_hw1.2.1 k1_t1
theorem k1_off4_inb : ∀ (v10 : BitVec 32) (v13 : BitVec 32) (k1_hw1 : k1_chk1 v10 v13) (k1_t1 : Fin (k1_t1_loop v10 v13).trips), ∀ a, (k1_off4 v10 v13 k1_t1) a + S1.size a ≤ S1024.size a := fun v10 v13 k1_hw1 k1_t1 => k1_hw1.2.2.1 k1_t1
theorem k1_off5_inb : ∀ (v10 : BitVec 32) (v13 : BitVec 32) (k1_hw1 : k1_chk1 v10 v13) (k1_t1 : Fin (k1_t1_loop v10 v13).trips), ∀ a, (k1_off5 v10 v13 k1_t1) a + S1.size a ≤ S1024.size a := fun v10 v13 k1_hw1 k1_t1 => k1_hw1.2.2.2.1 k1_t1
theorem k1_t2_ok : ∀ (v10 : BitVec 32) (v13 : BitVec 32) (k1_hw1 : k1_chk1 v10 v13), (k1_t2_loop v10 v13).OK := fun v10 v13 k1_hw1 => k1_hw1.2.2.2.2.1
theorem k1_off7_inb : ∀ (v10 : BitVec 32) (v13 : BitVec 32) (k1_hw1 : k1_chk1 v10 v13) (k1_t2 : Fin (k1_t2_loop v10 v13).trips), ∀ a, (k1_off7 v10 v13 k1_t2) a + S1.size a ≤ S1024.size a := fun v10 v13 k1_hw1 k1_t2 => k1_hw1.2.2.2.2.2.1 k1_t2
theorem k1_off8_inb : ∀ (v10 : BitVec 32) (v13 : BitVec 32) (k1_hw1 : k1_chk1 v10 v13) (k1_t2 : Fin (k1_t2_loop v10 v13).trips), ∀ a, (k1_off8 v10 v13 k1_t2) a + S1.size a ≤ S1024.size a := fun v10 v13 k1_hw1 k1_t2 => k1_hw1.2.2.2.2.2.2.1 k1_t2
theorem k1_off9_inb : ∀ (v10 : BitVec 32) (v13 : BitVec 32) (k1_hw1 : k1_chk1 v10 v13) (k1_t2 : Fin (k1_t2_loop v10 v13).trips), ∀ a, (k1_off9 v10 v13 k1_t2) a + S1.size a ≤ S1024.size a := fun v10 v13 k1_hw1 k1_t2 => k1_hw1.2.2.2.2.2.2.2 k1_t2

def k1_off10 (v22 : BitVec 32) (v25 : BitVec 32) : Fin 2 → Nat :=
  let v23 : BitVec 32 := v22
  let v31 : Index := Scalar.indexCast v23
  let v26 : BitVec 32 := v25
  let v32 : Index := Scalar.indexCast v26
  ![v31.toNat, v32.toNat]

def k1_chk5 (v22 : BitVec 32) (v25 : BitVec 32) : Prop :=
  (128 ∣ (k1_mult4 v25).toNat) ∧
  (∀ a, (k1_off10 v22 v25) a + S8x128.size a ≤ S128x8192.size a)
theorem k1_mult4_dvd : ∀ (v22 : BitVec 32) (v25 : BitVec 32) (k1_hw5 : k1_chk5 v22 v25), 128 ∣ (k1_mult4 v25).toNat := fun v22 v25 k1_hw5 => k1_hw5.1
theorem k1_off10_inb : ∀ (v22 : BitVec 32) (v25 : BitVec 32) (k1_hw5 : k1_chk5 v22 v25), ∀ a, (k1_off10 v22 v25) a + S8x128.size a ≤ S128x8192.size a := fun v22 v25 k1_hw5 => k1_hw5.2

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1024 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1024 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1024 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1024 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x8192 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x8192 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x8192 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x8192 : Shape := ⟨2, ![1024, 8192]⟩
abbrev S1024 : Shape := ⟨1, ![1024]⟩
abbrev S_ : Shape := ⟨0, ![]⟩
abbrev S1 : Shape := ⟨1, ![1]⟩
abbrev S2 : Shape := ⟨1, ![2]⟩

abbrev nBuf : Space → Nat
  | .hbm => 92
  | .vmem => 0
  | .smem => 0
  | _ => 0

abbrev bufTy : (tb : Table) → Fin (tcTables nBuf tb) → BufTy
  | .hbm, ⟨0, _⟩ => ⟨S1024x8192, .i32⟩
  | .hbm, ⟨1, _⟩ => ⟨S1024x8192, .f32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S1024, .f32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .f32⟩
  | .hbm, ⟨11, _⟩ => ⟨S_, .i32⟩
  | .hbm, ⟨12, _⟩ => ⟨S_, .i32⟩
  | .hbm, ⟨13, _⟩ => ⟨S1024x8192, .i32⟩
  | .hbm, ⟨14, _⟩ => ⟨S1024x8192, .f32⟩
  | .hbm, ⟨15, _⟩ => ⟨S1024, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S1024x8192, .i32⟩
  | .hbm, ⟨31, _⟩ => ⟨S1024x8192, .f32⟩
  | .hbm, ⟨32, _⟩ => ⟨S1024, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S2, .i32⟩
  | .hbm, ⟨61, _⟩ => ⟨S1024x8192, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1, .f32⟩
  | .hbm, ⟨69, _⟩ => ⟨S_, .f32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1, .i32⟩
  | .hbm, ⟨81, _⟩ => ⟨S1, .i32⟩
  | .hbm, ⟨82, _⟩ => ⟨S2, .i32⟩
  | .hbm, ⟨83, _⟩ => ⟨S1024x8192, .f32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1, .i32⟩
  | .hbm, ⟨90, _⟩ => ⟨S_, .i32⟩
  | .hbm, ⟨91, _⟩ => ⟨S1024, .i32⟩
  | _, _ => ⟨S1024x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_while0c_v1 : Ref sig .tc := ⟨.hbm, 16, rfl⟩
abbrev main_while0b_c_7 : Ref sig .tc := ⟨.hbm, 17, rfl⟩
abbrev main_while0b_v1 : Ref sig .tc := ⟨.hbm, 18, rfl⟩
abbrev main_while0b_c_8 : Ref sig .tc := ⟨.hbm, 19, rfl⟩
abbrev main_while0b_v2 : Ref sig .tc := ⟨.hbm, 20, rfl⟩
abbrev main_while0b_v3 : Ref sig .tc := ⟨.hbm, 21, rfl⟩
abbrev main_while0b_c_9 : Ref sig .tc := ⟨.hbm, 22, rfl⟩
abbrev main_while0b_v4 : Ref sig .tc := ⟨.hbm, 23, rfl⟩
abbrev main_while0b_v5 : Ref sig .tc := ⟨.hbm, 24, rfl⟩
abbrev main_while0b_v6 : Ref sig .tc := ⟨.hbm, 25, rfl⟩
abbrev main_while0b_v7 : Ref sig .tc := ⟨.hbm, 26, rfl⟩
abbrev main_while0b_c_10 : Ref sig .tc := ⟨.hbm, 27, rfl⟩
abbrev main_while0b_v8 : Ref sig .tc := ⟨.hbm, 28, rfl⟩
abbrev main_while0b_v9 : Ref sig .tc := ⟨.hbm, 29, rfl⟩
abbrev main_while0b_v10_0 : Ref sig .tc := ⟨.hbm, 30, rfl⟩
abbrev main_while0b_v10_1 : Ref sig .tc := ⟨.hbm, 31, rfl⟩
abbrev main_while0b_v10_2 : Ref sig .tc := ⟨.hbm, 32, rfl⟩
abbrev main_while0b_case0b1_c_11 : Ref sig .tc := ⟨.hbm, 33, rfl⟩
abbrev main_while0b_case0b1_v11 : Ref sig .tc := ⟨.hbm, 34, rfl⟩
abbrev main_while0b_case0b1_c_12 : Ref sig .tc := ⟨.hbm, 35, rfl⟩
abbrev main_while0b_case0b1_v12 : Ref sig .tc := ⟨.hbm, 36, rfl⟩
abbrev main_while0b_case0b1_v13 : Ref sig .tc := ⟨.hbm, 37, rfl⟩
abbrev main_while0b_case0b1_v14 : Ref sig .tc := ⟨.hbm, 38, rfl⟩
abbrev main_while0b_case0b1_v15 : Ref sig .tc := ⟨.hbm, 39, rfl⟩
abbrev main_while0b_case0b1_c_13 : Ref sig .tc := ⟨.hbm, 40, rfl⟩
abbrev main_while0b_case0b1_v16 : Ref sig .tc := ⟨.hbm, 41, rfl⟩
abbrev main_while0b_case0b1_v17 : Ref sig .tc := ⟨.hbm, 42, rfl⟩
abbrev main_while0b_case0b1_c_14 : Ref sig .tc := ⟨.hbm, 43, rfl⟩
abbrev main_while0b_case0b1_v18 : Ref sig .tc := ⟨.hbm, 44, rfl⟩
abbrev main_while0b_case0b1_v19 : Ref sig .tc := ⟨.hbm, 45, rfl⟩
abbrev main_while0b_case0b1_v20 : Ref sig .tc := ⟨.hbm, 46, rfl⟩
abbrev main_while0b_case0b1_v21 : Ref sig .tc := ⟨.hbm, 47, rfl⟩
abbrev main_while0b_case0b1_c_15 : Ref sig .tc := ⟨.hbm, 48, rfl⟩
abbrev main_while0b_case0b1_v22 : Ref sig .tc := ⟨.hbm, 49, rfl⟩
abbrev main_while0b_case0b1_c_16 : Ref sig .tc := ⟨.hbm, 50, rfl⟩
abbrev main_while0b_case0b1_v23 : Ref sig .tc := ⟨.hbm, 51, rfl⟩
abbrev main_while0b_case0b1_v24 : Ref sig .tc := ⟨.hbm, 52, rfl⟩
abbrev main_while0b_case0b1_c_17 : Ref sig .tc := ⟨.hbm, 53, rfl⟩
abbrev main_while0b_case0b1_v25 : Ref sig .tc := ⟨.hbm, 54, rfl⟩
abbrev main_while0b_case0b1_c_18 : Ref sig .tc := ⟨.hbm, 55, rfl⟩
abbrev main_while0b_case0b1_v26 : Ref sig .tc := ⟨.hbm, 56, rfl⟩
abbrev main_while0b_case0b1_v27 : Ref sig .tc := ⟨.hbm, 57, rfl⟩
abbrev main_while0b_case0b1_v28 : Ref sig .tc := ⟨.hbm, 58, rfl⟩
abbrev main_while0b_case0b1_v29 : Ref sig .tc := ⟨.hbm, 59, rfl⟩
abbrev main_while0b_case0b1_v30 : Ref sig .tc := ⟨.hbm, 60, rfl⟩
abbrev main_while0b_case0b1_v31 : Ref sig .tc := ⟨.hbm, 61, rfl⟩
abbrev main_while0b_case0b1_c_19 : Ref sig .tc := ⟨.hbm, 62, rfl⟩
abbrev main_while0b_case0b1_v32 : Ref sig .tc := ⟨.hbm, 63, rfl⟩
abbrev main_while0b_case0b1_v33 : Ref sig .tc := ⟨.hbm, 64, rfl⟩
abbrev main_while0b_case0b1_c_20 : Ref sig .tc := ⟨.hbm, 65, rfl⟩
abbrev main_while0b_case0b1_v34 : Ref sig .tc := ⟨.hbm, 66, rfl⟩
abbrev main_while0b_case0b1_v35 : Ref sig .tc := ⟨.hbm, 67, rfl⟩
abbrev main_while0b_case0b1_v36 : Ref sig .tc := ⟨.hbm, 68, rfl⟩
abbrev main_while0b_case0b1_v37 : Ref sig .tc := ⟨.hbm, 69, rfl⟩
abbrev main_while0b_case0b1_c_21 : Ref sig .tc := ⟨.hbm, 70, rfl⟩
abbrev main_while0b_case0b1_v38 : Ref sig .tc := ⟨.hbm, 71, rfl⟩
abbrev main_while0b_case0b1_c_22 : Ref sig .tc := ⟨.hbm, 72, rfl⟩
abbrev main_while0b_case0b1_v39 : Ref sig .tc := ⟨.hbm, 73, rfl⟩
abbrev main_while0b_case0b1_v40 : Ref sig .tc := ⟨.hbm, 74, rfl⟩
abbrev main_while0b_case0b1_c_23 : Ref sig .tc := ⟨.hbm, 75, rfl⟩
abbrev main_while0b_case0b1_v41 : Ref sig .tc := ⟨.hbm, 76, rfl⟩
abbrev main_while0b_case0b1_c_24 : Ref sig .tc := ⟨.hbm, 77, rfl⟩
abbrev main_while0b_case0b1_v42 : Ref sig .tc := ⟨.hbm, 78, rfl⟩
abbrev main_while0b_case0b1_v43 : Ref sig .tc := ⟨.hbm, 79, rfl⟩
abbrev main_while0b_case0b1_v44 : Ref sig .tc := ⟨.hbm, 80, rfl⟩
abbrev main_while0b_case0b1_v45 : Ref sig .tc := ⟨.hbm, 81, rfl⟩
abbrev main_while0b_case0b1_v46 : Ref sig .tc := ⟨.hbm, 82, rfl⟩
abbrev main_while0b_case0b1_v47 : Ref sig .tc := ⟨.hbm, 83, rfl⟩
abbrev main_while0b_case0b1_c_25 : Ref sig .tc := ⟨.hbm, 84, rfl⟩
abbrev main_while0b_case0b1_v48 : Ref sig .tc := ⟨.hbm, 85, rfl⟩
abbrev main_while0b_case0b1_c_26 : Ref sig .tc := ⟨.hbm, 86, rfl⟩
abbrev main_while0b_case0b1_v49 : Ref sig .tc := ⟨.hbm, 87, rfl⟩
abbrev main_while0b_case0b1_v50 : Ref sig .tc := ⟨.hbm, 88, rfl⟩
abbrev main_while0b_case0b1_v51 : Ref sig .tc := ⟨.hbm, 89, rfl⟩
abbrev main_while0b_case0b1_c_27 : Ref sig .tc := ⟨.hbm, 90, rfl⟩
abbrev main_while0b_case0b1_v52 : Ref sig .tc := ⟨.hbm, 91, rfl⟩

abbrev nD : Nat := 1
abbrev τ : Topo := Topo.v7x

variable {F : FTy → Type} [FloatOps F]
-- ==== Proof.Plan.lean ====
/-
  The plan of the 1024 tokens as plain functions: which row and which column each token goes to, in which bucket of 128
  rows its row lies, and at which place of the bucketed order it stands.
-/
module

public import Idealize.ShloMosaic.PureOps
public import Mathlib.Order.Interval.Finset.Nat
public import Mathlib.Data.Nat.Count
public import Mathlib.Data.Fintype.EquivFin

@[expose] public section

noncomputable section

namespace Cert.Proof.Plan

open Idealize.ShloMosaic

/-- A one-dimensional array's shape. -/
abbrev A (n : ℕ) : Shape := ⟨1, ![n]⟩

/-- Index `i` of a one-dimensional array of `n + 1` elements (taken modulo its length). -/
def ix {n : ℕ} (i : ℕ) : (A (n + 1)).Idx := fun a => ⟨i % (n + 1), by
  have : a = 0 := Subsingleton.elim _ _
  subst this; exact Nat.mod_lt _ (Nat.succ_pos n)⟩

theorem ix_val {n : ℕ} {i : ℕ} (h : i < n + 1) (a : Fin 1) : ((ix (n := n) i) a).val = i := Nat.mod_eq_of_lt h

theorem idx_eq {n : ℕ} (j : (A (n + 1)).Idx) : j = ix (j 0).val := by
  funext a
  have : a = 0 := Subsingleton.elim _ _
  subst this
  exact Fin.ext (Nat.mod_eq_of_lt (j 0).isLt).symm

theorem idx_lt {n : ℕ} (j : (A n).Idx) : (j 0).val < n := (j 0).isLt

theorem ix_ext {n : ℕ} {j k : (A (n + 1)).Idx} (h : (j 0).val = (k 0).val) : j = k := by
  rw [idx_eq j, idx_eq k, h]

variable (nt s : (A 1024).Idx → BitVec 32)

/-- The row of token `i`. -/
def row (i : ℕ) : ℕ := (s (ix i)).toNat
/-- The bucket of token `i`: its row divided by 128. -/
def bucket (i : ℕ) : ℕ := row s i / 128
/-- How many of the first `n` tokens go to row `r`. -/
def inRow (r n : ℕ) : ℕ := Nat.count (fun j => row s j = r) n
/-- How many of the first `n` tokens lie in bucket `b`. -/
def inBucket (b n : ℕ) : ℕ := Nat.count (fun j => bucket s j = b) n
/-- How many of the first `n` tokens lie in a bucket before `b`. -/
def before (b n : ℕ) : ℕ := Nat.count (fun j => bucket s j < b) n
/-- The first place of bucket `b` in the bucketed order. -/
def first (b : ℕ) : ℕ := before s b 1024
/-- The column token `i` is written to: its row's length plus the number of earlier tokens of the same row. -/
def col (i : ℕ) : BitVec 32 := nt (ix (row s i)) + BitVec.ofNat 32 (inRow s (row s i) i)
/-- The place of token `i` in the bucketed order. -/
def place (i : ℕ) : ℕ := first s (bucket s i) + inBucket s (bucket s i) i

/-- All rows are below 1024. -/
def RowsOk : Prop := ∀ j, (s j).toNat < 1024
/-- All lengths are below 4096. -/
def LensOk : Prop := ∀ j, (nt j).toNat < 4096

variable {nt s}

theorem RowsOk.row_lt (h : RowsOk s) (i : ℕ) : row s i < 1024 := h _
theorem RowsOk.bucket_lt (h : RowsOk s) (i : ℕ) : bucket s i < 8 := Nat.div_lt_of_lt_mul (h.row_lt i)

theorem inRow_le (r n : ℕ) : inRow s r n ≤ n := Nat.count_le _
theorem inBucket_le (b n : ℕ) : inBucket s b n ≤ n := Nat.count_le _

theorem inRow_mono (r : ℕ) {m n : ℕ} (h : m ≤ n) : inRow s r m ≤ inRow s r n := Nat.count_monotone _ h
theorem inBucket_mono (b : ℕ) {m n : ℕ} (h : m ≤ n) : inBucket s b m ≤ inBucket s b n := Nat.count_monotone _ h

theorem inRow_lt_of_lt {i j : ℕ} (hij : i < j) : inRow s (row s i) i < inRow s (row s i) j := by
  have h : inRow s (row s i) (i + 1) = inRow s (row s i) i + 1 := by
    unfold inRow; rw [Nat.count_succ]; simp
  exact (Nat.lt_of_lt_of_eq (Nat.lt_succ_self _) h.symm).trans_le (inRow_mono _ hij)

theorem inBucket_lt_of_lt {i j : ℕ} (hij : i < j) : inBucket s (bucket s i) i < inBucket s (bucket s i) j := by
  have h : inBucket s (bucket s i) (i + 1) = inBucket s (bucket s i) i + 1 := by
    unfold inBucket; rw [Nat.count_succ]; simp
  exact (Nat.lt_of_lt_of_eq (Nat.lt_succ_self _) h.symm).trans_le (inBucket_mono _ hij)

theorem before_succ (b n : ℕ) : before s (b + 1) n = before s b n + inBucket s b n := by
  unfold before inBucket
  induction n with
  | zero => simp
  | succ n ih =>
    rw [Nat.count_succ, Nat.count_succ, Nat.count_succ, ih]
    by_cases h1 : bucket s n < b
    · have : bucket s n < b + 1 := by omega
      have h3 : bucket s n ≠ b := by omega
      simp [h1, this, h3]; omega
    · by_cases h2 : bucket s n = b
      · simp [h2]; omega
      · have : ¬ bucket s n < b + 1 := by omega
        simp [h1, h2, this]

theorem first_succ (b : ℕ) : first s (b + 1) = first s b + inBucket s b 1024 := before_succ b 1024
theorem first_zero : first s 0 = 0 := by
  unfold first before
  have h := Nat.count_iff_forall_not (p := fun j => bucket s j < 0) (n := 1024)
  exact h.mpr fun i _ => Nat.not_lt_zero _
theorem first_le (b : ℕ) : first s b ≤ 1024 := Nat.count_le _
theorem first_mono {a b : ℕ} (h : a ≤ b) : first s a ≤ first s b :=
  Nat.count_mono_left fun _ _ hk => lt_of_lt_of_le hk h
theorem RowsOk.first_top (h : RowsOk s) {b : ℕ} (hb : 8 ≤ b) : first s b = 1024 :=
  Nat.count_iff_forall.mpr fun i _ => (h.bucket_lt i).trans_le hb

/-- A token of bucket `b` stands before the first place of the next bucket, -/
theorem place_lt_first {i : ℕ} (hi : i < 1024) : place s i < first s (bucket s i + 1) := by
  rw [first_succ]; exact Nat.add_lt_add_left (inBucket_lt_of_lt hi) _
/-- and not before the first of its own. -/
theorem first_le_place (i : ℕ) : first s (bucket s i) ≤ place s i := Nat.le_add_right _ _

theorem place_lt {i : ℕ} (hi : i < 1024) : place s i < 1024 := (place_lt_first hi).trans_le (first_le _)

theorem place_lt_of_bucket_lt {i j : ℕ} (hi : i < 1024) (h : bucket s i < bucket s j) : place s i < place s j :=
  (place_lt_first hi).trans_le ((first_mono h).trans (first_le_place j))

theorem place_lt_of_bucket_eq {i j : ℕ} (hij : i < j) (h : bucket s i = bucket s j) : place s i < place s j := by
  unfold place; rw [← h]; exact Nat.add_lt_add_left (inBucket_lt_of_lt hij) _

/-- Two tokens stand at different places. -/
theorem place_inj {i j : ℕ} (hi : i < 1024) (hj : j < 1024) (h : place s i = place s j) : i = j := by
  rcases lt_trichotomy (bucket s i) (bucket s j) with hb | hb | hb
  · exact absurd h (place_lt_of_bucket_lt hi hb).ne
  · rcases lt_trichotomy i j with hij | hij | hij
    · exact absurd h (place_lt_of_bucket_eq hij hb).ne
    · exact hij
    · exact absurd h (place_lt_of_bucket_eq hij hb.symm).ne'
  · exact absurd h (place_lt_of_bucket_lt hj hb).ne'

/-- Every place holds a token. -/
theorem exists_place {p : ℕ} (hp : p < 1024) : ∃ i < 1024, place s i = p := by
  have hinj : Function.Injective (fun i : Fin 1024 => (⟨place s i.val, place_lt i.isLt⟩ : Fin 1024)) :=
    fun i j h => Fin.ext (place_inj i.isLt j.isLt (congrArg Fin.val h))
  obtain ⟨i, hi⟩ := (Finite.injective_iff_surjective.mp hinj) ⟨p, hp⟩
  exact ⟨i.val, i.isLt, congrArg Fin.val hi⟩

variable (s) in
open Classical in
/-- The token standing at place `p`. -/
def token (p : ℕ) : ℕ := if h : ∃ i < 1024, place s i = p then h.choose else 0

theorem token_spec {p : ℕ} (hp : p < 1024) : token s p < 1024 ∧ place s (token s p) = p := by
  unfold token; rw [dif_pos (exists_place hp)]; exact (exists_place hp).choose_spec
theorem token_lt {p : ℕ} (hp : p < 1024) : token s p < 1024 := (token_spec hp).1
theorem place_token {p : ℕ} (hp : p < 1024) : place s (token s p) = p := (token_spec hp).2
theorem token_place {i : ℕ} (hi : i < 1024) : token s (place s i) = i :=
  place_inj (token_lt (place_lt hi)) hi (place_token (place_lt hi))

/-! ## The columns -/

theorem col_toNat (hr : RowsOk s) (hl : LensOk nt) {i : ℕ} (hi : i ≤ 1024) :
    (col nt s i).toNat = (nt (ix (row s i))).toNat + inRow s (row s i) i := by
  have h1 := hl (ix (row s i))
  have h2 := inRow_le (s := s) (row s i) i
  unfold col
  rw [BitVec.toNat_add, BitVec.toNat_ofNat, Nat.mod_eq_of_lt (a := inRow s (row s i) i) (by omega), Nat.mod_eq_of_lt (by omega)]

theorem col_lt (hr : RowsOk s) (hl : LensOk nt) {i : ℕ} (hi : i ≤ 1024) : (col nt s i).toNat < 5120 := by
  have h1 := hl (ix (row s i))
  have h2 := inRow_le (s := s) (row s i) i
  rw [col_toNat hr hl hi]; omega

/-- Two tokens go to different elements. -/
theorem target_inj (hr : RowsOk s) (hl : LensOk nt) {i j : ℕ} (hi : i < 1024) (hj : j < 1024)
    (h1 : row s i = row s j) (h2 : (col nt s i).toNat = (col nt s j).toNat) : i = j := by
  rw [col_toNat hr hl hi.le, col_toNat hr hl hj.le, h1] at h2
  rcases lt_trichotomy i j with hij | hij | hij
  · have := inRow_lt_of_lt (s := s) hij; rw [h1] at this; omega
  · exact hij
  · have := inRow_lt_of_lt (s := s) hij; omega

/-! ## What the arrays hold -/

open Classical in
/-- The two-dimensional array `T` with value `v i` written at row `row i`, column `col i` for every token `i` of `P`. -/
def written {α : Type} (nt s : (A 1024).Idx → BitVec 32) (T : ℕ → ℕ → α) (v : ℕ → α) (P : ℕ → Prop) (r c : ℕ) : α :=
  if h : ∃ i, i < 1024 ∧ P i ∧ row s i = r ∧ (col nt s i).toNat = c then v h.choose else T r c

theorem written_hit {α : Type} (hr : RowsOk s) (hl : LensOk nt) {T : ℕ → ℕ → α} {v : ℕ → α} {P : ℕ → Prop} {r c i : ℕ}
    (hi : i < 1024) (hP : P i) (h1 : row s i = r) (h2 : (col nt s i).toNat = c) : written nt s T v P r c = v i := by
  have hex : ∃ i, i < 1024 ∧ P i ∧ row s i = r ∧ (col nt s i).toNat = c := ⟨i, hi, hP, h1, h2⟩
  unfold written; rw [dif_pos hex]
  have hs := hex.choose_spec
  rw [target_inj hr hl hs.1 hi (hs.2.2.1.trans h1.symm) (hs.2.2.2.trans h2.symm)]

theorem written_miss {α : Type} {T : ℕ → ℕ → α} {v : ℕ → α} {P : ℕ → Prop} {r c : ℕ}
    (h : ∀ i, i < 1024 → P i → row s i = r → (col nt s i).toNat ≠ c) : written nt s T v P r c = T r c := by
  unfold written; rw [dif_neg]
  rintro ⟨i, hi, hP, h1, h2⟩
  exact h i hi hP h1 h2

theorem written_congr {α : Type} (hr : RowsOk s) (hl : LensOk nt) {T T' : ℕ → ℕ → α} {v v' : ℕ → α} {P P' : ℕ → Prop} {r c : ℕ}
    (hP : ∀ i, i < 1024 → row s i = r → (col nt s i).toNat = c → (P i ↔ P' i)) (hv : ∀ i, i < 1024 → v i = v' i) (hT : T r c = T' r c) :
    written nt s T v P r c = written nt s T' v' P' r c := by
  by_cases h : ∃ i, i < 1024 ∧ P i ∧ row s i = r ∧ (col nt s i).toNat = c
  · obtain ⟨i, hi, hPi, h1, h2⟩ := h
    rw [written_hit hr hl hi hPi h1 h2, written_hit hr hl hi ((hP i hi h1 h2).mp hPi) h1 h2, hv i hi]
  · rw [written_miss, written_miss, hT]
    · exact fun i hi hPi h1 h2 => h ⟨i, hi, (hP i hi h1 h2).mpr hPi, h1, h2⟩
    · exact fun i hi hPi h1 h2 => h ⟨i, hi, hPi, h1, h2⟩

/-- One more token written: the element it goes to takes its value, every other keeps its own. -/
theorem written_step {α : Type} (hr : RowsOk s) (hl : LensOk nt) {T : ℕ → ℕ → α} {v : ℕ → α} {P P' : ℕ → Prop} {r c i : ℕ}
    (hi : i < 1024) (hP : ∀ k, k < 1024 → (P' k ↔ P k ∨ k = i)) [Decidable (row s i = r ∧ (col nt s i).toNat = c)] :
    written nt s T v P' r c = if row s i = r ∧ (col nt s i).toNat = c then v i else written nt s T v P r c := by
  split_ifs with h
  · exact written_hit hr hl hi ((hP i hi).mpr (.inr rfl)) h.1 h.2
  · refine written_congr hr hl (fun k hk h1 h2 => ?_) (fun _ _ => rfl) rfl
    rw [hP k hk]
    refine or_iff_left fun e => ?_
    subst e; exact h ⟨h1, h2⟩

end Cert.Proof.Plan

end
-- ==== Proof.Lanes.lean ====
/-
  What the sixteen-lane operations compute: a store at the indices of a vector (the lanes that go to one element agree), the
  running counts of a vector's words, and the counting step a group of sixteen tokens makes with them.
-/
module

public import proofs.«01_k».proof.Proof.Plan

@[expose] public section

noncomputable section

namespace Cert.Proof.Lanes

open Idealize.ShloMosaic Cert.Proof.Plan

variable {F : FTy → Type} [FloatOps F]

/-- Lane `k` of sixteen. -/
abbrev ln (k : Fin 16) : (A 16).Idx := Shape.ofLane (d := ![16]) k

theorem ln_val (k : Fin 16) (a : Fin 1) : ((ln k) a).val = k.val := rfl

theorem ln_eq (x : (A 16).Idx) : x = ln (x 0) := ix_ext (n := 15) rfl

theorem ln_ix (k : Fin 16) : ln k = ix k.val := ix_ext (by rw [ix_val k.isLt]; rfl)

theorem pos_eq (x : (A 16).Idx) : ((A 16).rowMajor x).val = (x 0).val :=
  Shape.rowMajor_val_one x

/-! ## Stores at indices -/

theorem fold_miss {N : ℕ} {e : EltTy} (idxs : Fin 1 → IVec (A 16) 32) (v : Vec F (A 16) e) (mask : IVec (A 16) 1)
    (h : ∀ a x, (idxs a x).toNat < (A N).size a) (j : (A N).Idx) (l : List (Fin 16)) (g : Vec F (A N) e)
    (hm : ∀ k ∈ l, mask (ln k) = 1 → (idxs 0 (ln k)).toNat ≠ (j 0).val) :
    l.foldl (fun g k => if mask (ln k) = 1 then
      fun j => if (∀ a, (j a).val = (idxAt idxs h (ln k) a).val) then v (ln k) else g j else g) g j = g j := by
  induction l generalizing g with
  | nil => rfl
  | cons k l ih =>
    rw [List.foldl_cons, ih _ fun k hk => hm k (List.mem_cons_of_mem _ hk)]
    by_cases hk : mask (ln k) = 1
    · rw [if_pos hk, if_neg]
      exact fun e => hm k List.mem_cons_self hk (e 0).symm
    · rw [if_neg hk]

theorem fold_hit {N : ℕ} {e : EltTy} (idxs : Fin 1 → IVec (A 16) 32) (v : Vec F (A 16) e) (mask : IVec (A 16) 1)
    (h : ∀ a x, (idxs a x).toNat < (A N).size a) (j : (A N).Idx) (y : Elt F e) (l : List (Fin 16)) (g : Vec F (A N) e)
    (hy : ∀ k ∈ l, mask (ln k) = 1 → (idxs 0 (ln k)).toNat = (j 0).val → v (ln k) = y)
    (hex : g j = y ∨ ∃ k ∈ l, mask (ln k) = 1 ∧ (idxs 0 (ln k)).toNat = (j 0).val) :
    l.foldl (fun g k => if mask (ln k) = 1 then
      fun j => if (∀ a, (j a).val = (idxAt idxs h (ln k) a).val) then v (ln k) else g j else g) g j = y := by
  induction l generalizing g with
  | nil =>
    rcases hex with hex | ⟨k, hk, _⟩
    · exact hex
    · exact absurd hk List.not_mem_nil
  | cons k l ih =>
    rw [List.foldl_cons]
    refine ih _ (fun k hk => hy k (List.mem_cons_of_mem _ hk)) ?_
    by_cases hk : mask (ln k) = 1 ∧ (idxs 0 (ln k)).toNat = (j 0).val
    · refine .inl ?_
      rw [if_pos hk.1, if_pos]
      · exact hy k List.mem_cons_self hk.1 hk.2
      · intro a; have : a = 0 := Subsingleton.elim _ _
        subst this; exact hk.2.symm
    · rcases hex with hex | ⟨k', hk', h1, h2⟩
      · refine .inl ?_
        by_cases hm : mask (ln k) = 1
        · rw [if_pos hm, if_neg]
          · exact hex
          · exact fun e => hk ⟨hm, (e 0).symm⟩
        · rw [if_neg hm]; exact hex
      · rcases List.mem_cons.mp hk' with rfl | hk'
        · exact absurd ⟨h1, h2⟩ hk
        · exact .inr ⟨k', hk', h1, h2⟩

/-- The element no stored lane goes to keeps its value, -/
theorem store_miss {N : ℕ} {e : EltTy} (f : Vec F (A N) e) (idxs : Fin 1 → IVec (A 16) 32) (v : Vec F (A 16) e) (mask : IVec (A 16) 1)
    (h : ∀ a x, (idxs a x).toNat < (A N).size a) (j : (A N).Idx)
    (hm : ∀ k : Fin 16, mask (ln k) = 1 → (idxs 0 (ln k)).toNat ≠ (j 0).val) :
    storeIdx f idxs v mask false h j = f j :=
  fold_miss idxs v mask h j (List.finRange 16) f fun k _ => hm k

/-- and the element all of whose lanes bring one value takes it. -/
theorem store_hit {N : ℕ} {e : EltTy} (f : Vec F (A N) e) (idxs : Fin 1 → IVec (A 16) 32) (v : Vec F (A 16) e) (mask : IVec (A 16) 1)
    (h : ∀ a x, (idxs a x).toNat < (A N).size a) (j : (A N).Idx) (y : Elt F e)
    (hy : ∀ k : Fin 16, mask (ln k) = 1 → (idxs 0 (ln k)).toNat = (j 0).val → v (ln k) = y)
    (k : Fin 16) (h1 : mask (ln k) = 1) (h2 : (idxs 0 (ln k)).toNat = (j 0).val) :
    storeIdx f idxs v mask false h j = y :=
  fold_hit idxs v mask h j y (List.finRange 16) f (fun k _ => hy k) (.inr ⟨k, List.mem_finRange k, h1, h2⟩)

/-! ## Counting a group of sixteen tokens -/

/-- The running count of a lane's word: how many of the lanes up to it hold the same word. -/
theorem counts_eq (K : ℕ → ℕ) (n : ℕ) (v : IVec (A 16) 32) (hv : ∀ k : Fin 16, (v (ln k)).toNat = K (n + k.val)) (k : Fin 16) :
    (scanCount (fun _ => 1#1) v).2 (ln k) = BitVec.ofNat 32 (Nat.count (fun t => K (n + t) = K (n + k.val)) (k.val + 1)) := by
  show (if (1#1 : BitVec 1) = 1 then BitVec.ofNat 32 (Finset.univ.filter fun j : (A 16).Idx =>
    ((A 16).rowMajor j).val ≤ ((A 16).rowMajor (ln k)).val ∧ (1#1 : BitVec 1) = 1 ∧ v j = v (ln k)).card else 1) = _
  rw [if_pos (show (1#1 : BitVec 1) = 1 from rfl)]
  congr 1
  rw [Nat.count_eq_card_filter_range]
  refine Finset.card_bij (fun x _ => (x 0).val) ?_ ?_ ?_
  · intro x hx
    have hx := (Finset.mem_filter.mp hx).2
    rw [pos_eq, pos_eq] at hx
    refine Finset.mem_filter.mpr ⟨Finset.mem_range.mpr (Nat.lt_succ_of_le hx.1), ?_⟩
    have e := congrArg BitVec.toNat hx.2.2
    rw [hv k] at e
    exact (hv (x 0)).symm.trans ((congrArg (fun y => (v y).toNat) (ln_eq x).symm).trans e)
  · intro x _ y _ e
    exact ix_ext (n := 15) e
  · intro t ht
    obtain ⟨h1, h2⟩ := Finset.mem_filter.mp ht
    have h1 := Nat.le_of_lt_succ (Finset.mem_range.mp h1)
    have h16 : t < 16 := lt_of_le_of_lt h1 k.isLt
    refine ⟨ln ⟨t, h16⟩, Finset.mem_filter.mpr ⟨Finset.mem_univ _, ?_, rfl, ?_⟩, rfl⟩
    · rw [pos_eq, pos_eq]; exact h1
    · apply BitVec.eq_of_toNat_eq; rw [hv, hv]; exact h2

/-- A lane kept by the last-occurrence mask: no later lane holds its word. -/
theorem last_iff (v : IVec (A 16) 32) (k : Fin 16) :
    (scanCount (fun _ => 1#1) v).1 (ln k) = 1 ↔ ∀ k' : Fin 16, k < k' → v (ln k') ≠ v (ln k) := by
  have hp : ∀ k' : Fin 16, ((A 16).rowMajor (ln k')).val = k'.val := fun k' => pos_eq (ln k')
  show (if (1#1 : BitVec 1) = 1 ∧ ∀ j : (A 16).Idx, ((A 16).rowMajor (ln k)).val < ((A 16).rowMajor j).val →
    ¬((1#1 : BitVec 1) = 1 ∧ v j = v (ln k)) then (1 : BitVec 1) else 0) = 1 ↔ _
  constructor
  · intro h k' hk' e
    split_ifs at h with hc
    · exact hc.2 (ln k') (by rw [hp, hp]; exact hk') ⟨rfl, e⟩
    · exact absurd h (by decide)
  · intro h
    refine if_pos ⟨rfl, fun j hj e => ?_⟩
    rw [pos_eq, pos_eq] at hj
    exact h (j 0) hj (by rw [← ln_eq j]; exact e.2)

/-- The counter of element `j` moves from the count of the tokens before the group to the count of the tokens before the next. -/
theorem count_step {N : ℕ} (K : ℕ → ℕ) (n : ℕ) (v : IVec (A 16) 32) (hv : ∀ k : Fin 16, (v (ln k)).toNat = K (n + k.val))
    (h : ∀ a x, ((![v] : Fin 1 → IVec (A 16) 32) a x).toNat < (A N).size a)
    (base f : (A N).Idx → BitVec 32) (hf : ∀ j, f j = base j + BitVec.ofNat 32 (Nat.count (fun t => K t = (j 0).val) n))
    (w : IVec (A 16) 32) (hw : ∀ k, w (ln k) = f (idxAt ![v] h (ln k)) + (scanCount (fun _ => 1#1) v).2 (ln k)) (j : (A N).Idx) :
    storeIdx (F := F) (e := .i32) f ![v] w (scanCount (fun _ => 1#1) v).1 false h j
      = base j + BitVec.ofNat 32 (Nat.count (fun t => K t = (j 0).val) (n + 16)) := by
  have hadd : Nat.count (fun t => K t = (j 0).val) (n + 16)
      = Nat.count (fun t => K t = (j 0).val) n + Nat.count (fun t => K (n + t) = (j 0).val) 16 := Nat.count_add _ _ _
  by_cases hex : ∃ k : Fin 16, K (n + k.val) = (j 0).val
  · -- the last lane of this word
    obtain ⟨k, hk, hmax⟩ : ∃ k : Fin 16, K (n + k.val) = (j 0).val ∧ ∀ k' : Fin 16, k < k' → K (n + k'.val) ≠ (j 0).val := by
      classical
      have hne : (Finset.univ.filter fun k : Fin 16 => K (n + k.val) = (j 0).val).Nonempty := by
        obtain ⟨k, hk⟩ := hex; exact ⟨k, Finset.mem_filter.mpr ⟨Finset.mem_univ _, hk⟩⟩
      refine ⟨Finset.max' _ hne, (Finset.mem_filter.mp (Finset.max'_mem _ hne)).2, fun k' hk' e => ?_⟩
      exact absurd (Finset.le_max' _ k' (Finset.mem_filter.mpr ⟨Finset.mem_univ _, e⟩)) (not_le.mpr hk')
    have hlast : ∀ k' : Fin 16, (scanCount (fun _ => 1#1) v).1 (ln k') = 1 → (v (ln k')).toNat = (j 0).val → k' = k := by
      intro k' h1 h2
      rw [last_iff] at h1
      rcases lt_trichotomy k' k with hlt | heq | hgt
      · exact absurd (BitVec.eq_of_toNat_eq (by rw [h2, hv, hk])) (h1 k hlt)
      · exact heq
      · rw [hv] at h2; exact absurd h2 (hmax k' hgt)
    refine store_hit (F := F) (e := .i32) f ![v] w (scanCount (fun _ => 1#1) v).1 h j
      (base j + BitVec.ofNat 32 (Nat.count (fun t => K t = (j 0).val) (n + 16))) ?_ k ((last_iff v k).mpr ?_) ?_
    · intro k' h1 h2
      have hkk := hlast k' h1 h2
      subst hkk
      have hidx : idxAt (s := A N) (![v] : Fin 1 → IVec (A 16) 32) h (ln k') = j := by
        funext a
        have : a = 0 := Subsingleton.elim _ _
        subst this; exact Fin.ext h2
      rw [hw, hidx, hf, counts_eq K n v hv, hadd, hk, BitVec.add_assoc, ← BitVec.ofNat_add]
      congr 3
      -- no lane after the last holds the word
      have h16 : Nat.count (fun t => K (n + t) = (j 0).val) 16 = Nat.count (fun t => K (n + t) = (j 0).val) ((k'.val + 1) + (15 - k'.val)) := by
        congr 1; have := k'.isLt; omega
      rw [h16, Nat.count_add (p := fun t => K (n + t) = (j 0).val) (k'.val + 1)]
      have hz : Nat.count (fun t => K (n + (k'.val + 1 + t)) = (j 0).val) (15 - k'.val) = 0 := by
        rw [Nat.count_iff_forall_not]
        intro t ht e
        have hlt : k'.val + 1 + t < 16 := by omega
        exact hmax ⟨k'.val + 1 + t, hlt⟩ (by show k'.val < k'.val + 1 + t; omega) e
      rw [hz]; rfl
    · intro k' hk' e
      have e' := congrArg BitVec.toNat e
      rw [hv, hv, hk] at e'
      exact hmax k' hk' e'
    · show (v (ln k)).toNat = _
      rw [hv, hk]
  · rw [store_miss (F := F) (e := .i32) f ![v] w _ h j fun k _ e => hex ⟨k, by
      have e : (v (ln k)).toNat = _ := e
      rw [hv] at e; exact e⟩, hf, hadd]
    have hz : Nat.count (fun t => K (n + t) = (j 0).val) 16 = 0 := by
      rw [Nat.count_iff_forall_not]
      exact fun t ht e => hex ⟨⟨t, ht⟩, e⟩
    rw [hz]; rfl

/-- What a lane reads plus its running count less one: the counter as it stands just before its own token. -/
theorem lane_count {N : ℕ} (K : ℕ → ℕ) (n : ℕ) (v : IVec (A 16) 32) (hv : ∀ k : Fin 16, (v (ln k)).toNat = K (n + k.val))
    (h : ∀ a x, ((![v] : Fin 1 → IVec (A 16) 32) a x).toNat < (A N).size a)
    (base f : (A N).Idx → BitVec 32) (hf : ∀ j, f j = base j + BitVec.ofNat 32 (Nat.count (fun t => K t = (j 0).val) n)) (k : Fin 16) :
    f (idxAt ![v] h (ln k)) + (scanCount (fun _ => 1#1) v).2 (ln k) - 1#32
      = base (idxAt ![v] h (ln k)) + BitVec.ofNat 32 (Nat.count (fun t => K t = K (n + k.val)) (n + k.val)) := by
  have hj : ((idxAt (s := A N) (![v] : Fin 1 → IVec (A 16) 32) h (ln k)) 0).val = K (n + k.val) := hv k
  rw [hf, hj, counts_eq K n v hv, Nat.count_succ, if_pos rfl, Nat.count_add, BitVec.ofNat_add, BitVec.ofNat_add]
  generalize BitVec.ofNat 32 _ = a
  generalize BitVec.ofNat 32 _ = b
  bv_omega

/-! ## Running sums -/

/-- The running sum of the words `g 0, g 1, …` less the word itself: the sum of the words before. -/
theorem scan_sub (v : IVec (A 16) 32) (g : ℕ → ℕ) (hg : ∀ k : Fin 16, v (ln k) = BitVec.ofNat 32 (g k.val))
    (S : ℕ → ℕ) (h0 : S 0 = 0) (hS : ∀ b, S (b + 1) = S b + g b) (k : Fin 16) :
    scan .sum v (ln k) - v (ln k) = BitVec.ofNat 32 (S k.val) := by
  have hf : ∀ (m : ℕ) (hm : m < 16), (((List.finRange 16).take (m + 1)).filter fun k' : Fin 16 => decide (0 < k'.val)).foldl
      (fun r k' => IntOp.addi r (v (ln k'))) (v (ln 0)) = BitVec.ofNat 32 (S (m + 1)) := by
    intro m hm
    induction m with
    | zero =>
      show v (ln 0) = _
      rw [hS, h0, Nat.zero_add]
      exact hg 0
    | succ m ih =>
      have hlen : m + 1 < (List.finRange 16).length := by rw [List.length_finRange]; exact hm
      rw [List.take_add_one, List.getElem?_eq_getElem hlen, List.filter_append, List.foldl_append, ih (by omega)]
      have : (List.finRange 16)[m + 1] = (⟨m + 1, hm⟩ : Fin 16) := by simp
      rw [this]
      show IntOp.addi (BitVec.ofNat 32 (S (m + 1))) (v (ln ⟨m + 1, hm⟩)) = _
      rw [hg, hS (m + 1), BitVec.ofNat_add]; rfl
  have hs : scan .sum v (ln k) = BitVec.ofNat 32 (S (k.val + 1)) := by
    rw [← hf k.val k.isLt]
    show ((List.finRange 16).filter fun k' : Fin 16 => decide (0 < k'.val ∧ k'.val ≤ k.val)).foldl
      (fun r k' => ScanKind.step .sum r (v (ln k'))) (v (ln 0)) = _
    congr 1
    revert k
    decide
  rw [hs, hg, hS, BitVec.ofNat_add]
  generalize BitVec.ofNat 32 _ = a
  generalize BitVec.ofNat 32 _ = b
  bv_omega

end Cert.Proof.Lanes

end
-- ==== Proof.Setup.lean ====
/-
  The program as the launch sees it: the SparseCore configuration over the pipelined TensorCore call, the resource algebra
  (handshake rounds, the pipeline's rounds, the transfers' counters), the arrays as locations of a device, and what each
  array holds when the plan is made.
-/
module

public import proofs.«01_k».proof.Defs
public import Idealize.ShloMosaic.Lib.SparseCore.Quiescent
public import Idealize.ShloMosaic.Lib.Batch
public import Idealize.ShloMosaic.Lib.Pipeline.Regions
public import Idealize.ShloMosaic.Lib.Pipeline.Kit
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Lanes

@[expose] public section

noncomputable section

namespace Cert.Proof.Setup

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Plan

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub_zero : (K (F := F)).nSub 0 = 16 := rfl
theorem nCore_zero : (K (F := F)).nCore 0 = 2 := rfl

/-! ## The resource algebra -/

abbrev UH : Type := URounds (GSem nD τ sig) ℕ
/-- The handshakes' rounds beside the pipeline's rounds and the transfers' counters. -/
abbrev UU : Type := UH × (UR sig nD τ × Counters)

local notation "𝕄" => MT nD τ sig (HIx 1) (Elt F) ℕ UU ℕ

abbrev EH : Emb UH (MT nD τ sig (HIx 1) (Elt F) ℕ UU ℕ) := embL
/-- The pipeline's rounds. -/
def EP : Emb (UR sig nD τ) (MT nD τ sig (HIx 1) (Elt F) ℕ UU ℕ) :=
  ((Emb.inl : Emb (UR sig nD τ) (UR sig nD τ × Counters)).trans (Emb.inr : Emb (UR sig nD τ × Counters) UU)).trans
    (uEmb (nD := nD) (sig := sig) (Ix := HIx 1) (Val := Elt F) (Name := ℕ) (U := UU) (Lvl := ℕ)).toEmb

instance EP_landsIn : (EP : Emb (UR sig nD τ) 𝕄).LandsIn (upEmb : UEmb _ 𝕄) := by unfold EP; infer_instance

/-! ## The arrays as locations of a device -/

variable (d : Dev nD)

abbrev tokensL : Loc nD τ sig := (SparseCore.T d).loc main_arg0
abbrev logprobsL : Loc nD τ sig := (SparseCore.T d).loc main_arg1
abbrev lensL : Loc nD τ sig := (SparseCore.T d).loc main_arg2
abbrev sidsL : Loc nD τ sig := (SparseCore.T d).loc main_arg3
abbrev ntokL : Loc nD τ sig := (SparseCore.T d).loc main_arg4
abbrev nlpL : Loc nD τ sig := (SparseCore.T d).loc main_arg5
abbrev numL : Loc nD τ sig := (SparseCore.T d).loc main_arg6
abbrev oCntL : Loc nD τ sig := (SparseCore.T d).loc main_v0_0
abbrev oStartsL : Loc nD τ sig := (SparseCore.T d).loc main_v0_1
abbrev oR8L : Loc nD τ sig := (SparseCore.T d).loc main_v0_2
abbrev oCbL : Loc nD τ sig := (SparseCore.T d).loc main_v0_3
abbrev oSelL : Loc nD τ sig := (SparseCore.T d).loc main_v0_4
abbrev oTokL : Loc nD τ sig := (SparseCore.T d).loc main_v0_5
abbrev oLpL : Loc nD τ sig := (SparseCore.T d).loc main_v0_6
abbrev outTokL : Loc nD τ sig := (SparseCore.T d).loc main_v1_0
abbrev outLpL : Loc nD τ sig := (SparseCore.T d).loc main_v1_1

/-! ## What the arrays hold -/

variable (m : (ℓ : Loc nD τ sig) → Buf (Elt F) ℓ)

/-- The lengths of the rows and the rows of the tokens, as the launch memory has them. -/
abbrev lens : (A 1024).Idx → BitVec 32 := m (lensL d)
abbrev sids : (A 1024).Idx → BitVec 32 := m (sidsL d)
abbrev ntok : (A 1024).Idx → BitVec 32 := m (ntokL d)
abbrev nlp : (A 1024).Idx → F .f32 := m (nlpL d)

end Cert.Proof.Setup

end
-- ==== Proof.Tables.lean ====
/-
  The tables of the plan as functions of how many tokens have been taken in, and the steps the groups of sixteen tokens make.
-/
module

public import proofs.«01_k».proof.Proof.Lanes
public import proofs.«01_k».proof.Proof.Gen.KernelIdeal.Skeleton

@[expose] public section

noncomputable section

namespace Cert.Proof.Tables

open Idealize.ShloMosaic Cert.Proof.Plan Cert.Proof.Lanes Cert.KernelIdeal Cert.KernelIdeal.Gen

variable {F : FTy → Type} [FloatOps F]
variable (nt s : (A 1024).Idx → BitVec 32)

/-- The rows' lengths after the first `n` tokens; -/
def cntAt (n : ℕ) : (A 1024).Idx → BitVec 32 := fun r => nt r + BitVec.ofNat 32 (inRow s (r 0).val n)
/-- the columns of the first `n` tokens, the other elements of the buffer as they were; -/
def colsAt (n : ℕ) (old : (A 1024).Idx → BitVec 32) : (A 1024).Idx → BitVec 32 :=
  fun i => if (i 0).val < n then col nt s (i 0).val else old i
/-- how many of the first `n` tokens each bucket has; -/
def bktAt (n : ℕ) : (A 16).Idx → BitVec 32 := fun b => BitVec.ofNat 32 (inBucket s (b 0).val n)
/-- the next free place of each bucket after the first `n` tokens; -/
def offAt (n : ℕ) : (A 16).Idx → BitVec 32 :=
  fun b => BitVec.ofNat 32 (first s (b 0).val) + BitVec.ofNat 32 (inBucket s (b 0).val n)
/-- a table over the places, the values of the first `n` tokens at theirs, the other elements as they were; -/
def tabAt {α : Type} (val : ℕ → α) (n : ℕ) (old : (A 1024).Idx → α) : (A 1024).Idx → α :=
  fun j => if token s (j 0).val < n then val (token s (j 0).val) else old j
/-- the buckets' first places. -/
def starts : (A 16).Idx → BitVec 32 := fun b => BitVec.ofNat 32 (first s (b 0).val)

/-- The upper row of token `i`'s 8-row window in its block, -/
def r8 (i : ℕ) : BitVec 32 := (s (ix i) &&& 127#32) &&& 4294967288#32
/-- the first column of its 128-column window, -/
def cb (i : ℕ) : BitVec 32 := col nt s i &&& 4294967168#32
/-- the number of its element in the window, row by row. -/
def sel (i : ℕ) : BitVec 32 := ((s (ix i) &&& 127#32) &&& 7#32) * 128#32 + (col nt s i - cb nt s i)

variable {nt s}

theorem cntAt_zero : cntAt nt s 0 = nt := by
  funext r; show nt r + BitVec.ofNat 32 (Nat.count _ 0) = _; rw [Nat.count_zero]; exact BitVec.add_zero _
theorem colsAt_zero (old : (A 1024).Idx → BitVec 32) : colsAt nt s 0 old = old := by
  funext i; exact if_neg (Nat.not_lt_zero _)
theorem bktAt_zero : bktAt s 0 = k0_pay1 := by
  funext b; show BitVec.ofNat 32 (Nat.count _ 0) = _; rw [Nat.count_zero]; rfl
theorem tabAt_zero {α : Type} (val : ℕ → α) (old : (A 1024).Idx → α) : tabAt s val 0 old = old := by
  funext i; exact if_neg (Nat.not_lt_zero _)
theorem tabAt_all {α : Type} (val : ℕ → α) (old : (A 1024).Idx → α) : tabAt s val 1024 old = fun j => val (token s (j 0).val) := by
  funext j; exact if_pos (token_lt (idx_lt j))
theorem colsAt_all (old : (A 1024).Idx → BitVec 32) : colsAt nt s 1024 old = fun i => col nt s (i 0).val := by
  funext j; exact if_pos (idx_lt j)

/-- The words of a group of sixteen tokens: their rows. -/
def IsGroup (s : (A 1024).Idx → BitVec 32) (n : ℕ) (v : IVec (A 16) 32) : Prop := ∀ k : Fin 16, v (ln k) = s (ix (n + k.val))

theorem IsGroup.rows {n : ℕ} {v : IVec (A 16) 32} (h : IsGroup s n v) (k : Fin 16) : (v (ln k)).toNat = row s (n + k.val) :=
  congrArg BitVec.toNat (h k)
theorem shr_val {v : IVec (A 16) 32} (x : (A 16).Idx) : (k0_pay6 (F := F) v x).toNat = (v x).toNat / 128 := by
  show (IntOp.shrui .vector (v x) 7#32).toNat = _
  rw [IntOp.shrui, if_pos (by decide)]
  show ((v x) >>> 7).toNat = _
  rw [BitVec.toNat_ushiftRight, Nat.shiftRight_eq_div_pow]
theorem shr_val' {v : IVec (A 16) 32} (x : (A 16).Idx) : (k0_pay12 (F := F) v x).toNat = (v x).toNat / 128 := shr_val (F := F) x
theorem IsGroup.buckets {n : ℕ} {v : IVec (A 16) 32} (h : IsGroup s n v) (k : Fin 16) :
    (k0_pay6 (F := F) v (ln k)).toNat = bucket s (n + k.val) := by
  rw [shr_val, h.rows]; rfl

/-- One group on the rows' lengths. -/
theorem cnt_step {n : ℕ} {v : IVec (A 16) 32} (hv : IsGroup s n v)
    (h : ∀ a x, ((![v] : Fin 1 → IVec (A 16) 32) a x).toNat < (A 1024).size a) :
    storeIdx (F := F) (e := .i32) (s := A 1024) (cntAt nt s n) ![v] (k0_pay5 (F := F) v (loadIdx (F := F) (e := .i32) (s := A 1024) (cntAt nt s n) ![v] h))
      (k0_pay3 (F := F) v) false h = cntAt nt s (n + 16) := by
  funext j
  exact count_step (F := F) (row s) n v hv.rows h nt (cntAt nt s n) (fun _ => rfl) _ (fun k => by
    show (_ + _ - 1#32) + 1#32 = _
    rw [BitVec.sub_add_cancel]; rfl) j

/-- The columns a group of sixteen tokens reads off. -/
theorem cols_val {n : ℕ} {v : IVec (A 16) 32} (hv : IsGroup s n v)
    (h : ∀ a x, ((![v] : Fin 1 → IVec (A 16) 32) a x).toNat < (A 1024).size a) (k : Fin 16) :
    k0_pay4 (F := F) v (loadIdx (F := F) (e := .i32) (s := A 1024) (cntAt nt s n) ![v] h) (ln k) = col nt s (n + k.val) := by
  refine (lane_count (row s) n v hv.rows h nt (cntAt nt s n) (fun _ => rfl) k).trans ?_
  unfold col inRow
  congr 2
  apply ix_ext
  rw [ix_val (h 0 (ln k) |>.trans_eq rfl |> fun q => by rw [← hv.rows]; exact q)]
  exact hv.rows k

/-- One group on the buckets' counts. -/
theorem bkt_step {n : ℕ} {v : IVec (A 16) 32} (hv : IsGroup s n v)
    (h : ∀ a x, ((![k0_pay6 (F := F) v] : Fin 1 → IVec (A 16) 32) a x).toNat < (A 16).size a) :
    storeIdx (F := F) (e := .i32) (s := A 16) (bktAt s n) ![k0_pay6 (F := F) v]
      (k0_pay9 (F := F) (k0_pay6 (F := F) v) (loadIdx (F := F) (e := .i32) (s := A 16) (bktAt s n) ![k0_pay6 (F := F) v] h))
      (k0_pay8 (k0_pay6 (F := F) v)) false h = bktAt s (n + 16) := by
  funext j
  exact (count_step (F := F) (bucket s) n (k0_pay6 (F := F) v) (hv.buckets (F := F)) h (fun _ => 0#32) (bktAt s n) (fun _ => (BitVec.zero_add _).symm)
    (k0_pay9 (F := F) (k0_pay6 (F := F) v) (loadIdx (F := F) (e := .i32) (s := A 16) (bktAt s n) ![k0_pay6 (F := F) v] h)) (fun _ => rfl) j).trans (BitVec.zero_add _)

/-- One group on the buckets' next free places. -/
theorem off_step {n : ℕ} {v : IVec (A 16) 32} (hv : IsGroup s n v)
    (h : ∀ a x, ((![k0_pay12 (F := F) v] : Fin 1 → IVec (A 16) 32) a x).toNat < (A 16).size a) :
    storeIdx (F := F) (e := .i32) (s := A 16) (offAt s n) ![k0_pay12 (F := F) v]
      (k0_pay17 (F := F) (k0_pay12 (F := F) v) (loadIdx (F := F) (e := .i32) (s := A 16) (offAt s n) ![k0_pay12 (F := F) v] h))
      (k0_pay14 (k0_pay12 (F := F) v)) false h = offAt s (n + 16) := by
  funext j
  exact count_step (F := F) (bucket s) n (k0_pay12 (F := F) v) (hv.buckets (F := F)) h (fun b => BitVec.ofNat 32 (first s (b 0).val)) (offAt s n) (fun _ => rfl)
    (k0_pay17 (F := F) (k0_pay12 (F := F) v) (loadIdx (F := F) (e := .i32) (s := A 16) (offAt s n) ![k0_pay12 (F := F) v] h)) (fun _ => rfl) j

/-- The places a group of sixteen tokens reads off. -/
theorem place_val {n : ℕ} {v : IVec (A 16) 32} (hv : IsGroup s n v)
    (h : ∀ a x, ((![k0_pay12 (F := F) v] : Fin 1 → IVec (A 16) 32) a x).toNat < (A 16).size a) (k : Fin 16) (hn : n + 16 ≤ 1024) :
    (k0_pay16 (F := F) (k0_pay12 (F := F) v) (loadIdx (F := F) (e := .i32) (s := A 16) (offAt s n) ![k0_pay12 (F := F) v] h) (ln k)).toNat
      = place s (n + k.val) := by
  have e := lane_count (bucket s) n (k0_pay12 (F := F) v) (hv.buckets (F := F)) h (fun b => BitVec.ofNat 32 (first s (b 0).val)) (offAt s n) (fun _ => rfl) k
  refine (congrArg BitVec.toNat e).trans ?_
  have hb : ((idxAt (s := A 16) ![k0_pay12 (F := F) v] h (ln k)) 0).val = bucket s (n + k.val) := (hv.buckets (F := F)) k
  show (BitVec.ofNat 32 (first s ((idxAt (s := A 16) ![k0_pay12 (F := F) v] h (ln k)) 0).val) + _).toNat = _
  rw [hb, ← BitVec.ofNat_add, BitVec.toNat_ofNat]
  have hp := place_lt (s := s) (i := n + k.val) (by have := k.isLt; omega)
  unfold place inBucket at hp ⊢
  exact Nat.mod_eq_of_lt (by omega)

/-- One group on a table over the places: the lanes store their tokens' values at their tokens' places. -/
theorem tab_step {e : EltTy} {n : ℕ} (hn : n + 16 ≤ 1024) (val : ℕ → Elt F e) (old : Vec F (A 1024) e) (p : IVec (A 16) 32)
    (hp : ∀ k : Fin 16, (p (ln k)).toNat = place s (n + k.val)) (w : Vec F (A 16) e) (hw : ∀ k : Fin 16, w (ln k) = val (n + k.val))
    (h : ∀ a x, ((![p] : Fin 1 → IVec (A 16) 32) a x).toNat < (A 1024).size a) :
    storeIdx (F := F) (s := A 1024) (tabAt s val n old) ![p] w (fun _ => 1#1) false h = tabAt s val (n + 16) old := by
  funext j
  have hj := idx_lt j
  by_cases hin : n ≤ token s (j 0).val ∧ token s (j 0).val < n + 16
  · have hk : token s (j 0).val - n < 16 := by omega
    have e : n + (token s (j 0).val - n) = token s (j 0).val := by omega
    refine (store_hit (F := F) (tabAt s val n old) ![p] w (fun _ => 1#1) h j (val (token s (j 0).val)) (fun k' _ h2 => ?_)
      ⟨token s (j 0).val - n, hk⟩ rfl ?_).trans (if_pos hin.2).symm
    · have h2 : (p (ln k')).toNat = _ := h2
      rw [hp] at h2
      have := place_inj (s := s) (i := n + k'.val) (j := token s (j 0).val) (by have := k'.isLt; omega) (by omega) (h2.trans (place_token hj).symm)
      rw [hw, this]
    · show (p (ln _)).toNat = _
      rw [hp]; show place s (n + (token s (j 0).val - n)) = _
      rw [e, place_token hj]
  · rw [store_miss (F := F) (tabAt s val n old) ![p] w (fun _ => 1#1) h j fun k' _ h2 => by
      have h2 : (p (ln k')).toNat = _ := h2
      rw [hp] at h2
      have := place_inj (s := s) (i := n + k'.val) (j := token s (j 0).val) (by have := k'.isLt; omega) (token_lt hj) (h2.trans (place_token hj).symm)
      have := k'.isLt
      omega]
    show (if _ then _ else _) = (if _ then _ else _)
    have hiff : token s (j 0).val < n ↔ token s (j 0).val < n + 16 := by omega
    simp only [hiff]

/-- The buckets' first places, read off the running sums of their counts, -/
theorem off_zero (k : (A 16).Idx) : k0_pay10 (F := F) (bktAt s 1024) k = offAt s 0 k := by
  have hk : k = ln (k 0) := ln_eq k
  refine (congrArg _ hk).trans ((scan_sub (bktAt s 1024) (fun b => inBucket s b 1024) (fun _ => rfl) (first s) first_zero
    (fun b => first_succ b) (k 0)).trans ?_)
  show _ = BitVec.ofNat 32 (first s (k 0).val) + BitVec.ofNat 32 (Nat.count _ 0)
  rw [Nat.count_zero]; exact (BitVec.add_zero _).symm

theorem cmp_ge (k : (A 16).Idx) (h : 8 ≤ (k 0).val) :
    cmpi .sge (iota .scVector S16 32 [0] iota_S16_d0_w32_scVector) (broadcast S16 8#32) k = 1#1 := by
  obtain ⟨x, rfl⟩ : ∃ x : Fin 16, k = ln x := ⟨k 0, ln_eq k⟩
  revert h; revert x; decide
theorem cmp_lt (k : (A 16).Idx) (h : (k 0).val < 8) :
    ¬ cmpi .sge (iota .scVector S16 32 [0] iota_S16_d0_w32_scVector) (broadcast S16 8#32) k = 1#1 := by
  obtain ⟨x, rfl⟩ : ∃ x : Fin 16, k = ln x := ⟨k 0, ln_eq k⟩
  revert h; revert x; decide

/-- with 1024 from the eighth on. -/
theorem starts_val (hr : RowsOk s) : k0_pay11 (F := F) (bktAt s 1024) = starts s := by
  funext k
  have h1 : k0_pay10 (F := F) (bktAt s 1024) k = starts s k := by
    rw [off_zero]
    show BitVec.ofNat 32 (first s (k 0).val) + BitVec.ofNat 32 (Nat.count _ 0) = _
    rw [Nat.count_zero]; exact BitVec.add_zero _
  have h2 : 8 ≤ (k 0).val → starts s k = 1024#32 := fun h => by
    show BitVec.ofNat 32 (first s (k 0).val) = _
    rw [hr.first_top h]
  rcases Nat.lt_or_ge (k 0).val 8 with h | h
  · exact (if_neg (cmp_lt k h)).trans h1
  · exact (if_pos (cmp_ge k h)).trans (h2 h).symm

end Cert.Proof.Tables

end
-- ==== Proof.TileSetup.lean ====
/-
  One tile of the SparseCore call: its scratch buffers and semaphores, and what it hands back. SparseCore 0's tile 0 makes
  the whole plan; every other tile returns at once.
-/
module

public import proofs.«01_k».proof.Proof.Setup
public import proofs.«01_k».proof.Proof.Tables

@[expose] public section

noncomputable section

namespace Cert.Proof.TileSetup

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Plan Cert.Proof.Setup Cert.Proof.Tables

variable {F : FTy → Type} [FloatOps F]

local notation "𝕄" => MT nD τ sig (HIx 1) (Elt F) ℕ UU ℕ

variable (d : Dev nD) (c : Fin τ.nSC) (j : Fin τ.nSub)

/-! ## The memory references -/

abbrev xLens : Memref sig .scVector .hbm S1024 .i32 := Memref.whole main_arg2_scv
abbrev xSids : Memref sig .scVector .hbm S1024 .i32 := Memref.whole main_arg3_scv
abbrev xNtok : Memref sig .scVector .hbm S1024 .i32 := Memref.whole main_arg4_scv
abbrev xNlp : Memref sig .scVector .hbm S1024 .f32 := Memref.whole main_arg5_scv
abbrev yCnt : Memref sig .scVector .hbm S1024 .i32 := Memref.whole main_v0_0_scv
abbrev yStarts : Memref sig .scVector .hbm S16 .i32 := Memref.whole main_v0_1_scv
abbrev yR8 : Memref sig .scVector .hbm S1024 .i32 := Memref.whole main_v0_2_scv
abbrev yCb : Memref sig .scVector .hbm S1024 .i32 := Memref.whole main_v0_3_scv
abbrev ySel : Memref sig .scVector .hbm S1024 .i32 := Memref.whole main_v0_4_scv
abbrev yTok : Memref sig .scVector .hbm S1024 .i32 := Memref.whole main_v0_5_scv
abbrev yLp : Memref sig .scVector .hbm S1024 .f32 := Memref.whole main_v0_6_scv
abbrev bSids : Memref sig .scVector .vmem S1024 .i32 := Memref.whole cc0_scratch0
abbrev bNtok : Memref sig .scVector .vmem S1024 .i32 := Memref.whole cc0_scratch1
abbrev bNlp : Memref sig .scVector .vmem S1024 .f32 := Memref.whole cc0_scratch2
abbrev bCnt : Memref sig .scVector .vmem S1024 .i32 := Memref.whole cc0_scratch3
abbrev bCols : Memref sig .scVector .vmem S1024 .i32 := Memref.whole cc0_scratch4
abbrev bBkt : Memref sig .scVector .vmem S16 .i32 := Memref.whole cc0_scratch5
abbrev bR8 : Memref sig .scVector .vmem S1024 .i32 := Memref.whole cc0_scratch6
abbrev bCb : Memref sig .scVector .vmem S1024 .i32 := Memref.whole cc0_scratch7
abbrev bSel : Memref sig .scVector .vmem S1024 .i32 := Memref.whole cc0_scratch8
abbrev bTok : Memref sig .scVector .vmem S1024 .i32 := Memref.whole cc0_scratch9
abbrev bLp : Memref sig .scVector .vmem S1024 .f32 := Memref.whole cc0_scratch10
abbrev bStarts : Memref sig .scVector .vmem S16 .i32 := Memref.whole cc0_scratch11

/-- The kernel's body on a tile with the arrays and the scratch it is called with. -/
abbrev kernel (i : grid0.Coords) :=
  cc0__sc_plan_body (F := F) i xLens (Memref.isWhole_whole _) xSids (Memref.isWhole_whole _) xNtok (Memref.isWhole_whole _) xNlp (Memref.isWhole_whole _) yCnt (Memref.isWhole_whole _) yStarts (Memref.isWhole_whole _) yR8 (Memref.isWhole_whole _) yCb (Memref.isWhole_whole _) ySel (Memref.isWhole_whole _) yTok (Memref.isWhole_whole _) yLp (Memref.isWhole_whole _) bSids (Memref.isWhole_whole _) bNtok (Memref.isWhole_whole _) bNlp (Memref.isWhole_whole _) bCnt (Memref.isWhole_whole _) bCols (Memref.isWhole_whole _) bBkt (Memref.isWhole_whole _) bR8 (Memref.isWhole_whole _) bCb (Memref.isWhole_whole _) bSel (Memref.isWhole_whole _) bTok (Memref.isWhole_whole _) bLp (Memref.isWhole_whole _) bStarts (Memref.isWhole_whole _) cc0_scratch12 cc0_scratch13 cc0_scratch14 cc0_scratch15

/-! ## The tile's semaphores and buffers -/

abbrev sc12 : GSem nD τ sig := (V d c j, .dma cc0_scratch12.sem)
abbrev sc13 : GSem nD τ sig := (V d c j, .dma cc0_scratch13.sem)
abbrev sc14 : GSem nD τ sig := (V d c j, .dma cc0_scratch14.sem)
abbrev sc15 : GSem nD τ sig := (V d c j, .dma cc0_scratch15.sem)

omit [FloatOps F] in
theorem ownSems0_V : (ownSems0 (V d c j) : sProp 𝕄) = iprop(semVal (sc12 d c j) 0 ∗ semVal (sc13 d c j) 0 ∗ semVal (sc14 d c j) 0 ∗ semVal (sc15 d c j) 0
    ∗ bigSep (((((ownCells (V d c j)).erase (sc12 d c j)).erase (sc13 d c j)).erase (sc14 d c j)).erase (sc15 d c j)) fun g => semVal g 0) := by
  have m12 : sc12 d c j ∈ ownCells (V d c j) := mem_ownCells.mpr ⟨rfl, by show (SemLoc.dma cc0_scratch12.sem : SemLoc sig).isScoped .scVector = true; decide⟩
  have m13 : sc13 d c j ∈ ownCells (V d c j) := mem_ownCells.mpr ⟨rfl, by show (SemLoc.dma cc0_scratch13.sem : SemLoc sig).isScoped .scVector = true; decide⟩
  have m14 : sc14 d c j ∈ ownCells (V d c j) := mem_ownCells.mpr ⟨rfl, by show (SemLoc.dma cc0_scratch14.sem : SemLoc sig).isScoped .scVector = true; decide⟩
  have m15 : sc15 d c j ∈ ownCells (V d c j) := mem_ownCells.mpr ⟨rfl, by show (SemLoc.dma cc0_scratch15.sem : SemLoc sig).isScoped .scVector = true; decide⟩
  have ne : ∀ {a b : SemLoc sig}, a ≠ b → ((V d c j, a) : GSem nD τ sig) ≠ (V d c j, b) := fun h e => h (Prod.mk.inj e).2
  unfold SparseCore.Cfg.ownSems0
  rw [SparseCore.bigSep_erase' m12,
    SparseCore.bigSep_erase' (Finset.mem_erase.mpr ⟨ne (by decide), m13⟩),
    SparseCore.bigSep_erase' (Finset.mem_erase.mpr ⟨ne (by decide), Finset.mem_erase.mpr ⟨ne (by decide), m14⟩⟩),
    SparseCore.bigSep_erase' (Finset.mem_erase.mpr ⟨ne (by decide), Finset.mem_erase.mpr ⟨ne (by decide), Finset.mem_erase.mpr ⟨ne (by decide), m15⟩⟩⟩)]

/-- The tile's other buffers. -/
abbrev restRefs : Finset (DevRef τ sig) := (((((((((((((ownRefs (.scVector c j)).erase ((Proc.scVector c j).devRef cc0_scratch0)).erase ((Proc.scVector c j).devRef cc0_scratch1)).erase ((Proc.scVector c j).devRef cc0_scratch2)).erase ((Proc.scVector c j).devRef cc0_scratch3)).erase ((Proc.scVector c j).devRef cc0_scratch4)).erase ((Proc.scVector c j).devRef cc0_scratch5)).erase ((Proc.scVector c j).devRef cc0_scratch6)).erase ((Proc.scVector c j).devRef cc0_scratch7)).erase ((Proc.scVector c j).devRef cc0_scratch8)).erase ((Proc.scVector c j).devRef cc0_scratch9)).erase ((Proc.scVector c j).devRef cc0_scratch10)).erase ((Proc.scVector c j).devRef cc0_scratch11))

omit [FloatOps F] in
theorem ownBufs_V : (ownBufs (V d c j) : sProp 𝕄) = iprop((∃ f, bSids.view.loc (V d c j) ↦{fullShare} f) ∗
    (∃ f, bNtok.view.loc (V d c j) ↦{fullShare} f) ∗
    (∃ f, bNlp.view.loc (V d c j) ↦{fullShare} f) ∗
    (∃ f, bCnt.view.loc (V d c j) ↦{fullShare} f) ∗
    (∃ f, bCols.view.loc (V d c j) ↦{fullShare} f) ∗
    (∃ f, bBkt.view.loc (V d c j) ↦{fullShare} f) ∗
    (∃ f, bR8.view.loc (V d c j) ↦{fullShare} f) ∗
    (∃ f, bCb.view.loc (V d c j) ↦{fullShare} f) ∗
    (∃ f, bSel.view.loc (V d c j) ↦{fullShare} f) ∗
    (∃ f, bTok.view.loc (V d c j) ↦{fullShare} f) ∗
    (∃ f, bLp.view.loc (V d c j) ↦{fullShare} f) ∗
    (∃ f, bStarts.view.loc (V d c j) ↦{fullShare} f) ∗
    bigSep (restRefs c j) fun b => iprop(∃ f, ((d, b) : Loc nD τ sig) ↦{fullShare} f)) := by
  have ne : ∀ {a b : Ref sig .scVector}, a ≠ b → (Proc.scVector c j : Proc τ).devRef a ≠ (Proc.scVector c j).devRef b :=
    fun h e => h (Proc.devRef_injective _ e)
  have m0 := SparseCore.Cfg.mem_ownRefs_of_owner (p := Proc.scVector c j) (b := (Proc.scVector c j).devRef cc0_scratch0) rfl
  have m1 := SparseCore.Cfg.mem_ownRefs_of_owner (p := Proc.scVector c j) (b := (Proc.scVector c j).devRef cc0_scratch1) rfl
  have m2 := SparseCore.Cfg.mem_ownRefs_of_owner (p := Proc.scVector c j) (b := (Proc.scVector c j).devRef cc0_scratch2) rfl
  have m3 := SparseCore.Cfg.mem_ownRefs_of_owner (p := Proc.scVector c j) (b := (Proc.scVector c j).devRef cc0_scratch3) rfl
  have m4 := SparseCore.Cfg.mem_ownRefs_of_owner (p := Proc.scVector c j) (b := (Proc.scVector c j).devRef cc0_scratch4) rfl
  have m5 := SparseCore.Cfg.mem_ownRefs_of_owner (p := Proc.scVector c j) (b := (Proc.scVector c j).devRef cc0_scratch5) rfl
  have m6 := SparseCore.Cfg.mem_ownRefs_of_owner (p := Proc.scVector c j) (b := (Proc.scVector c j).devRef cc0_scratch6) rfl
  have m7 := SparseCore.Cfg.mem_ownRefs_of_owner (p := Proc.scVector c j) (b := (Proc.scVector c j).devRef cc0_scratch7) rfl
  have m8 := SparseCore.Cfg.mem_ownRefs_of_owner (p := Proc.scVector c j) (b := (Proc.scVector c j).devRef cc0_scratch8) rfl
  have m9 := SparseCore.Cfg.mem_ownRefs_of_owner (p := Proc.scVector c j) (b := (Proc.scVector c j).devRef cc0_scratch9) rfl
  have m10 := SparseCore.Cfg.mem_ownRefs_of_owner (p := Proc.scVector c j) (b := (Proc.scVector c j).devRef cc0_scratch10) rfl
  have m11 := SparseCore.Cfg.mem_ownRefs_of_owner (p := Proc.scVector c j) (b := (Proc.scVector c j).devRef cc0_scratch11) rfl
  unfold SparseCore.Cfg.ownBufs restRefs
  rw [SparseCore.bigSep_erase' m0,
    SparseCore.bigSep_erase' (Finset.mem_erase.mpr ⟨ne (by decide), m1⟩),
    SparseCore.bigSep_erase' (Finset.mem_erase.mpr ⟨ne (by decide), (Finset.mem_erase.mpr ⟨ne (by decide), m2⟩)⟩),
    SparseCore.bigSep_erase' (Finset.mem_erase.mpr ⟨ne (by decide), (Finset.mem_erase.mpr ⟨ne (by decide), (Finset.mem_erase.mpr ⟨ne (by decide), m3⟩)⟩)⟩),
    SparseCore.bigSep_erase' (Finset.mem_erase.mpr ⟨ne (by decide), (Finset.mem_erase.mpr ⟨ne (by decide), (Finset.mem_erase.mpr ⟨ne (by decide), (Finset.mem_erase.mpr ⟨ne (by decide), m4⟩)⟩)⟩)⟩),
    SparseCore.bigSep_erase' (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), m5⟩)⟩)⟩)⟩)⟩),
    SparseCore.bigSep_erase' (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), m6⟩)⟩)⟩)⟩)⟩)⟩),
    SparseCore.bigSep_erase' (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), m7⟩)⟩)⟩)⟩)⟩)⟩)⟩),
    SparseCore.bigSep_erase' (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), m8⟩)⟩)⟩)⟩)⟩)⟩)⟩)⟩),
    SparseCore.bigSep_erase' (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), m9⟩)⟩)⟩)⟩)⟩)⟩)⟩)⟩)⟩),
    SparseCore.bigSep_erase' (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), m10⟩)⟩)⟩)⟩)⟩)⟩)⟩)⟩)⟩)⟩),
    SparseCore.bigSep_erase' (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), (Finset.mem_erase.mpr ⟨ne (by decide), m11⟩)⟩)⟩)⟩)⟩)⟩)⟩)⟩)⟩)⟩)⟩)]

/-! ## The arrays as the tile addresses them -/

omit [FloatOps F] in
theorem pts_xLens (f : Buf (Elt F) (lensL d)) : (xLens.view.loc (V d c j) ↦[xLens.view.set]{fullShare} f : sProp 𝕄) = lensL d ↦{fullShare} f := by
  simp only [Memref.view_whole, View.set_whole]
omit [FloatOps F] in
theorem pts_xSids (f : Buf (Elt F) (sidsL d)) : (xSids.view.loc (V d c j) ↦[xSids.view.set]{fullShare} f : sProp 𝕄) = sidsL d ↦{fullShare} f := by
  simp only [Memref.view_whole, View.set_whole]
omit [FloatOps F] in
theorem pts_xNtok (f : Buf (Elt F) (ntokL d)) : (xNtok.view.loc (V d c j) ↦[xNtok.view.set]{fullShare} f : sProp 𝕄) = ntokL d ↦{fullShare} f := by
  simp only [Memref.view_whole, View.set_whole]
omit [FloatOps F] in
theorem pts_xNlp (f : Buf (Elt F) (nlpL d)) : (xNlp.view.loc (V d c j) ↦[xNlp.view.set]{fullShare} f : sProp 𝕄) = nlpL d ↦{fullShare} f := by
  simp only [Memref.view_whole, View.set_whole]
omit [FloatOps F] in
theorem pts_yCnt (f : Buf (Elt F) (oCntL d)) : (yCnt.view.loc (V d c j) ↦[yCnt.view.set]{fullShare} f : sProp 𝕄) = oCntL d ↦{fullShare} f := by
  simp only [Memref.view_whole, View.set_whole]
omit [FloatOps F] in
theorem pts_yStarts (f : Buf (Elt F) (oStartsL d)) : (yStarts.view.loc (V d c j) ↦[yStarts.view.set]{fullShare} f : sProp 𝕄) = oStartsL d ↦{fullShare} f := by
  simp only [Memref.view_whole, View.set_whole]
omit [FloatOps F] in
theorem pts_yR8 (f : Buf (Elt F) (oR8L d)) : (yR8.view.loc (V d c j) ↦[yR8.view.set]{fullShare} f : sProp 𝕄) = oR8L d ↦{fullShare} f := by
  simp only [Memref.view_whole, View.set_whole]
omit [FloatOps F] in
theorem pts_yCb (f : Buf (Elt F) (oCbL d)) : (yCb.view.loc (V d c j) ↦[yCb.view.set]{fullShare} f : sProp 𝕄) = oCbL d ↦{fullShare} f := by
  simp only [Memref.view_whole, View.set_whole]
omit [FloatOps F] in
theorem pts_ySel (f : Buf (Elt F) (oSelL d)) : (ySel.view.loc (V d c j) ↦[ySel.view.set]{fullShare} f : sProp 𝕄) = oSelL d ↦{fullShare} f := by
  simp only [Memref.view_whole, View.set_whole]
omit [FloatOps F] in
theorem pts_yTok (f : Buf (Elt F) (oTokL d)) : (yTok.view.loc (V d c j) ↦[yTok.view.set]{fullShare} f : sProp 𝕄) = oTokL d ↦{fullShare} f := by
  simp only [Memref.view_whole, View.set_whole]
omit [FloatOps F] in
theorem pts_yLp (f : Buf (Elt F) (oLpL d)) : (yLp.view.loc (V d c j) ↦[yLp.view.set]{fullShare} f : sProp 𝕄) = oLpL d ↦{fullShare} f := by
  simp only [Memref.view_whole, View.set_whole]

/-! ## What the tile leaves -/

variable (m : (ℓ : Loc nD τ sig) → Buf (Elt F) ℓ)

/-- The plan's arrays: the rows' lengths after the call, the blocks' first places, -/
abbrev pCnt : Buf (Elt F) (oCntL d) := cntAt (lens d m) (sids d m) 1024
abbrev pStarts : Buf (Elt F) (oStartsL d) := starts (sids d m)
/-- and over the places: the row and column of the token's window, its element in it, its token and its log-probability. -/
abbrev pR8 : Buf (Elt F) (oR8L d) := fun p => r8 (sids d m) (token (sids d m) (p 0).val)
abbrev pCb : Buf (Elt F) (oCbL d) := fun p => cb (lens d m) (sids d m) (token (sids d m) (p 0).val)
abbrev pSel : Buf (Elt F) (oSelL d) := fun p => sel (lens d m) (sids d m) (token (sids d m) (p 0).val)
abbrev pTok : Buf (Elt F) (oTokL d) := fun p => ntok d m (ix (token (sids d m) (p 0).val))
abbrev pLp : Buf (Elt F) (oLpL d) := fun p => nlp d m (ix (token (sids d m) (p 0).val))

/-- The arrays the call reads, at the launch memory's contents. -/
abbrev inputs : sProp 𝕄 := iprop((lensL d ↦{fullShare} m (lensL d)) ∗ (sidsL d ↦{fullShare} m (sidsL d))
  ∗ (ntokL d ↦{fullShare} m (ntokL d)) ∗ (nlpL d ↦{fullShare} m (nlpL d)))
/-- The arrays it fills: at any contents before, -/
abbrev blanks : sProp 𝕄 := iprop((∃ f, oCntL d ↦{fullShare} f) ∗ (∃ f, oStartsL d ↦{fullShare} f) ∗ (∃ f, oR8L d ↦{fullShare} f)
  ∗ (∃ f, oCbL d ↦{fullShare} f) ∗ (∃ f, oSelL d ↦{fullShare} f) ∗ (∃ f, oTokL d ↦{fullShare} f) ∗ (∃ f, oLpL d ↦{fullShare} f))
/-- the plan after. -/
abbrev plan : sProp 𝕄 := iprop((oCntL d ↦{fullShare} pCnt d m) ∗ (oStartsL d ↦{fullShare} pStarts d m) ∗ (oR8L d ↦{fullShare} pR8 d m)
  ∗ (oCbL d ↦{fullShare} pCb d m) ∗ (oSelL d ↦{fullShare} pSel d m) ∗ (oTokL d ↦{fullShare} pTok d m) ∗ (oLpL d ↦{fullShare} pLp d m))

end Cert.Proof.TileSetup

end
-- ==== Proof.TileRules.lean ====
/-
  The vector tile's loads, stores, gathers and scatters on a scratch buffer held whole, with the contents they leave named
  by the caller.
-/
module

public import proofs.«01_k».proof.Proof.TileSetup

@[expose] public section

noncomputable section

namespace Cert.Proof.TileRules

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.Plan Cert.Proof.Setup Cert.Proof.Tables Cert.Proof.Lanes Cert.Proof.TileSetup

variable {F : FTy → Type} [FloatOps F]

local notation "𝕄" => MT nD τ sig (HIx 1) (Elt F) ℕ UU ℕ

variable {d : Dev nD} {c : Fin τ.nSC} {j : Fin τ.nSub} {α : Type} {S : Shape} {e : EltTy}

omit [FloatOps F] in
theorem access_set (M : Memref sig .scVector .vmem S e) (hM : M.view.set = Finset.univ) (r : Rect S) :
    (M.access r).set ⊆ (Finset.univ : Finset (Idx ((M.access r).loc (V d c j)))) := Finset.subset_univ _

theorem read_whole (M : Memref sig .scVector .vmem S e) (g : Buf (Elt F) (M.view.loc (V d c j))) :
    (M.access (.whole S)).read (Elt F) g = M.view.read (Elt F) g := by
  funext x
  show M.view.read (Elt F) g ((Rect.whole S).emb x) = _
  simp

/-- A load of a rectangle. -/
theorem wp_ld (M : Memref sig .scVector .vmem S e) (r : Rect S) {hl : M.view.LoadsAt r} {q : PosShare TreeShare}
    {Q : α → sProp 𝕄} {k : (r.shape.Idx → Elt F e) → Prog (TpuEff nD τ sig (Elt F) Λ₀ (.scVector c j)) α}
    (g : Buf (Elt F) (M.view.loc (V d c j))) (v : r.shape.Idx → Elt F e) (hv : (M.access r).read (Elt F) g = v) :
    (M.view.loc (V d c j) ↦{q} g : sProp 𝕄)
      ⊢ iprop(((M.view.loc (V d c j) ↦{q} g) -∗ wp frame (wpE (defs₀ (F := F)) 𝒱₀ (V d c j) none) Set.univ (k v) Q)
        -∗ wp frame (wpE (defs₀ (F := F)) 𝒱₀ (V d c j) none) Set.univ (Prog.lift (.load M r.toLoadRect hl) >>= k) Q) := by
  subst hv
  exact wp_load_rect (defs := defs₀ (F := F)) (c := V d c j) (m := M) (r := r) (hl := hl) (k := k) (q := q) (f := g) (Q := Q) 𝒱₀ none Set.univ (Finset.subset_univ _)

/-- An unmasked store of a rectangle. -/
theorem wp_st (M : Memref sig .scVector .vmem S e) (r : Rect S) {w : r.shape.Idx → Elt F e} {hx : (M.access r).Stores Finset.univ}
    {hm : (Finset.univ : Finset r.shape.Idx) = Finset.univ ∨ ∀ a, r.stride a = 1}
    {Q : α → sProp 𝕄} {k : PUnit → Prog (TpuEff nD τ sig (Elt F) Λ₀ (.scVector c j)) α}
    (g g' : Buf (Elt F) (M.view.loc (V d c j))) (hg : (M.access r).write (Elt F) g w Finset.univ = g') :
    (M.view.loc (V d c j) ↦{fullShare} g : sProp 𝕄)
      ⊢ iprop(((M.view.loc (V d c j) ↦{fullShare} g') -∗ wp frame (wpE (defs₀ (F := F)) 𝒱₀ (V d c j) none) Set.univ (k ⟨⟩) Q)
        -∗ wp frame (wpE (defs₀ (F := F)) 𝒱₀ (V d c j) none) Set.univ (Prog.lift (.store M r w Finset.univ hx hm) >>= k) Q) := by
  subst hg
  exact wp_store (defs := defs₀ (F := F)) (c := V d c j) (m := M) (r := r) (w := w) (Mk := Finset.univ) (hx := hx) (hm := hm) (k := k) (f := g) (Q := Q) 𝒱₀ none Set.univ (Finset.subset_univ _)

/-- A gather. -/
theorem wp_gather {t : Shape} (M : Memref sig .scVector .vmem S e) {idxs : Fin S.rank → IVec t 32}
    {h : ∀ a x, (idxs a x).toNat < S.size a} {hl : M.view.Loads} {q : PosShare TreeShare}
    {Q : α → sProp 𝕄} {k : Vec F t e → Prog (TpuEff nD τ sig (Elt F) Λ₀ (.scVector c j)) α}
    (g : Buf (Elt F) (M.view.loc (V d c j))) :
    (M.view.loc (V d c j) ↦{q} g : sProp 𝕄)
      ⊢ iprop(((M.view.loc (V d c j) ↦{q} g) -∗ wp frame (wpE (defs₀ (F := F)) 𝒱₀ (V d c j) none) Set.univ (k (loadIdx (M.view.read (Elt F) g) idxs h)) Q)
        -∗ wp frame (wpE (defs₀ (F := F)) 𝒱₀ (V d c j) none) Set.univ (SparseCore.vectorLoadIdx M idxs h hl >>= k) Q) := by
  have := SparseCore.wp_vectorLoadIdx (F := F) (defs := defs₀ (F := F)) (c := V d c j) (base := M) (idxs := idxs) (h := h) (hl := hl) (k := k) (q := q) (f := g) (Q := Q) 𝒱₀ none Set.univ (Finset.subset_univ _)
  rw [read_whole (d := d) (c := c) (j := j) M g] at this
  exact this

/-- A scatter. -/
theorem wp_scatter {dd : Fin 1 → ℕ} (M : Memref sig .scVector .vmem S e) (hM : (M.access (.whole S)).set = Finset.univ)
    {Q : α → sProp 𝕄} {idxs : Fin S.rank → IVec ⟨1, dd⟩ 32} {v : Vec F ⟨1, dd⟩ e}
    {mask : IVec ⟨1, dd⟩ 1} {add : Bool} {h : ∀ a x, (idxs a x).toNat < S.size a} {hs : (M.access (.whole S)).Stores Finset.univ}
    {k : PUnit → Prog (TpuEff nD τ sig (Elt F) Λ₀ (.scVector c j)) α}
    (g g' : Buf (Elt F) (M.view.loc (V d c j)))
    (hg : (M.access (.whole S)).write (Elt F) g (storeIdx (M.view.read (Elt F) g) idxs v mask add h) Finset.univ = g') :
    (M.view.loc (V d c j) ↦{fullShare} g : sProp 𝕄)
      ⊢ iprop(((M.view.loc (V d c j) ↦{fullShare} g') -∗ wp frame (wpE (defs₀ (F := F)) 𝒱₀ (V d c j) none) Set.univ (k ⟨⟩) Q)
        -∗ wp frame (wpE (defs₀ (F := F)) 𝒱₀ (V d c j) none) Set.univ (SparseCore.vectorStoreIdx M idxs v mask add h hs >>= k) Q) := by
  subst hg
  have := SparseCore.wp_vectorStoreIdx (F := F) (defs := defs₀ (F := F)) (c := V d c j) (Q := Q) 𝒱₀ none Set.univ (base := M) (idxs := idxs) (v := v) (mask := mask) (add := add) (h := h) (hs := hs) (k := k) (f := g)
  rw [hM, read_whole (d := d) (c := c) (j := j) M g] at this
  exact this

/-- An assumption that holds. -/
theorem wp_as {P : Prop} {dp : Decidable P} {Q : α → sProp 𝕄} {k : PLift P → Prog (TpuEff nD τ sig (Elt F) Λ₀ (.scVector c j)) α} (h : P) :
    wp frame (wpE (defs₀ (F := F)) 𝒱₀ (V d c j) none) Set.univ (k ⟨h⟩) Q
      ⊢ (wp frame (wpE (defs₀ (F := F)) 𝒱₀ (V d c j) none) Set.univ (Prog.lift (.assume P dp) >>= k) Q : sProp 𝕄) :=
  Entails.of_eq (wp_assume_of (defs := defs₀ (F := F)) (c := V d c j) (k := k) (Q := Q) 𝒱₀ none Set.univ h).symm

/-! ## Groups of sixteen elements of a buffer of 1024 -/

theorem grp_emb {off : Fin 1 → ℕ} {n : ℕ} (h : off = ![n]) (inb : ∀ a, off a + (A 16).size a ≤ (A 1024).size a) (x : (A 16).Idx) :
    (Rect.unit (s := A 1024) off (A 16).size inb).emb x = ix (n + (x 0).val) := by
  have hlt : n + (x 0).val < 1024 := by
    have h0 := inb 0
    have hx := idx_lt x
    have e : off 0 = n := by rw [h]; rfl
    have h0 : off 0 + 16 ≤ 1024 := h0
    omega
  rw [idx_eq ((Rect.unit (s := A 1024) off (A 16).size inb).emb x)]
  congr 1
  show off 0 + 1 * (x 0).val = n + (x 0).val
  rw [h, Nat.one_mul]; rfl

omit [FloatOps F] in
theorem grp_read (M : Memref sig .scVector .vmem (A 1024) e) {off : Fin 1 → ℕ} {n : ℕ} (h : off = ![n])
    (inb : ∀ a, off a + (A 16).size a ≤ (A 1024).size a) (g : Buf (Elt F) (M.view.loc (V d c j))) :
    (M.access (Rect.unit (s := A 1024) off (A 16).size inb)).read (Elt F) g = fun x => M.view.read (Elt F) g (ix (n + (x 0).val)) := by
  funext x
  show M.view.read (Elt F) g ((Rect.unit (s := A 1024) off (A 16).size inb).emb x) = _
  rw [grp_emb h]

omit [FloatOps F] in
theorem grp_write (M : Memref sig .scVector .vmem (A 1024) e) {off : Fin 1 → ℕ} {n : ℕ} (h : off = ![n])
    (inb : ∀ a, off a + (A 16).size a ≤ (A 1024).size a) (g : Buf (Elt F) (M.view.loc (V d c j))) (w : (A 16).Idx → Elt F e) (val : ℕ → Elt F e)
    (hw : ∀ k : Fin 16, w (ln k) = val (n + k.val)) (i : (A 1024).Idx) :
    M.view.read (Elt F) ((M.access (Rect.unit (s := A 1024) off (A 16).size inb)).write (Elt F) g w Finset.univ) i
      = if n ≤ (i 0).val ∧ (i 0).val < n + 16 then val (i 0).val else M.view.read (Elt F) g i := by
  split
  · rename_i hi
    have hk : (i 0).val - n < 16 := by omega
    have he : (Rect.unit (s := A 1024) off (A 16).size inb).emb (ln ⟨(i 0).val - n, hk⟩) = i := by
      rw [grp_emb h, ln_val]
      show ix (n + ((i 0).val - n)) = i
      rw [Nat.add_sub_cancel' hi.1]; exact (idx_eq i).symm
    have := View.read_write_univ (v := M.access (Rect.unit (s := A 1024) off (A 16).size inb)) (Val := Elt F) g w
    have := congrFun this (ln ⟨(i 0).val - n, hk⟩)
    rw [hw] at this
    refine Eq.trans ?_ (this.trans ?_)
    · show _ = M.view.read (Elt F) _ ((Rect.unit (s := A 1024) off (A 16).size inb).emb (ln ⟨(i 0).val - n, hk⟩))
      rw [he]
    · show val (n + ((i 0).val - n)) = _
      rw [Nat.add_sub_cancel' hi.1]
  · rename_i hi
    rw [View.read_apply, View.read_apply, View.write_of_not_mem]
    rw [View.setOn_univ]
    intro hm
    obtain ⟨x, -, hx⟩ := Finset.mem_map.mp hm
    have hx : M.view.emb ((Rect.unit (s := A 1024) off (A 16).size inb).emb x) = M.view.emb i := hx
    have hx := M.view.emb.injective hx
    rw [grp_emb h] at hx
    have h0 := inb 0
    have hxl := idx_lt x
    have e0 : off 0 = n := by rw [h]; rfl
    have h0 : off 0 + 16 ≤ 1024 := h0
    have : (i 0).val = n + (x 0).val := by rw [← hx, ix_val (by omega)]
    exact hi ⟨by omega, by omega⟩

end Cert.Proof.TileRules

end
-- ==== Proof.TileLoops.lean ====
/-
  The two loops over the groups of sixteen tokens in the tile that makes the plan: what the scratch buffers hold after
  the first `n` tokens, and one trip of each.
-/
module

public import proofs.«01_k».proof.Proof.TileRules

@[expose] public section

noncomputable section

namespace Cert.Proof.TileLoops

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.Plan Cert.Proof.Setup Cert.Proof.Tables Cert.Proof.Lanes Cert.Proof.TileSetup Cert.Proof.TileRules

variable {F : FTy → Type} [FloatOps F]

local notation "𝕄" => MT nD τ sig (HIx 1) (Elt F) ℕ UU ℕ

variable (m : (ℓ : Loc nD τ sig) → Buf (Elt F) ℓ) (d : Dev nD)

abbrev cV (L : grid0.Coords) : Fin τ.nSC := (L 0).castLE hcore0
abbrev jV (L : grid0.Coords) : Fin τ.nSub := (L 1).castLE hsub0

variable (L : grid0.Coords)

/-- The tile's thread. -/
abbrev thr : Thread nD τ := V d (cV L) (jV L)

/-- A buffer of the tile held by its own elements. -/
abbrev own {sp : Space} {S : Shape} {e : EltTy} (M : Memref sig .scVector sp S e) (f : Buf (Elt F) (M.view.loc (thr d L))) : sProp 𝕄 :=
  M.view.loc (thr d L) ↦[M.view.set]{fullShare} f

/-- After the first `n` tokens of the first loop: -/
def inv1 (n : ℕ) (old : (A 1024).Idx → BitVec 32) : sProp 𝕄 :=
  iprop((bSids.view.loc (thr d L) ↦{fullShare} sids d m)
    ∗ (bCnt.view.loc (thr d L) ↦{fullShare} cntAt (lens d m) (sids d m) n)
    ∗ (bCols.view.loc (thr d L) ↦{fullShare} colsAt (lens d m) (sids d m) n old)
    ∗ (bBkt.view.loc (thr d L) ↦{fullShare} bktAt (sids d m) n))

/-- The sixteen rows a group loads. -/
abbrev grp (n : ℕ) : IVec S16 32 := fun x => sids d m (ix (n + (x 0).val))
theorem isGroup_grp (n : ℕ) : IsGroup (sids d m) n (grp m d n) := fun k => by
  show sids d m (ix (n + ((ln k) 0).val)) = _
  rw [ln_val]

/-- The columns' buffer after a group's store. -/
theorem cols_st (d : Dev nD) (c : Fin τ.nSC) (j : Fin τ.nSub) {n : ℕ} {off : Fin 1 → ℕ} (ho : off = ![n]) (inb : ∀ a, off a + (A 16).size a ≤ (A 1024).size a) {old : (A 1024).Idx → BitVec 32}
    {s nt : (A 1024).Idx → BitVec 32} {v : IVec (A 16) 32} (hv : IsGroup s n v) (h : ∀ a x, ((![v] : Fin 1 → IVec (A 16) 32) a x).toNat < (A 1024).size a) :
    (bCols.access (Rect.unit (s := A 1024) off (A 16).size inb)).write (Elt F) (colsAt nt s n old)
      (k0_pay4 (F := F) v (loadIdx (F := F) (e := .i32) (s := A 1024) (cntAt nt s n) ![v] h)) Finset.univ = colsAt nt s (n + 16) old := by
  funext i
  refine (grp_write (F := F) (d := d) (c := c) (j := j) bCols ho inb (colsAt nt s n old) _ (col nt s) (cols_val (F := F) hv h) i).trans ?_
  show (if _ then _ else colsAt nt s n old i) = _
  unfold colsAt
  split_ifs <;> first | rfl | omega

theorem rows_inb (hr : RowsOk (sids d m)) {n : ℕ} (a : Fin 1) (x : S16.Idx) :
    ((![grp m d n] : Fin 1 → IVec S16 32) a x).toNat < S1024.size a := by
  match a with
  | 0 => exact hr.row_lt _
theorem bkts_inb (hr : RowsOk (sids d m)) {n : ℕ} (a : Fin 1) (x : S16.Idx) :
    ((![k0_pay6 (F := F) (grp m d n)] : Fin 1 → IVec S16 32) a x).toNat < S16.size a := by
  match a with
  | 0 =>
    show (k0_pay6 (F := F) (grp m d n) x).toNat < 16
    rw [shr_val]
    have : (grp m d n x).toNat < 1024 := hr.row_lt _
    omega
theorem trip1 (hr : RowsOk (sids d m)) (k0_h1 : k0_cond1 L = 1#1) (old : (A 1024).Idx → BitVec 32) (k : Fin k0_t1_loop.trips) :
    inv1 m d L (16 * k.val) old ⊢ wp frame (wpE (defs₀ (F := F)) 𝒱₀ (thr d L) none) Set.univ
      (k0_t1_body (F := F) L xLens (Memref.isWhole_whole _) xSids (Memref.isWhole_whole _) xNtok (Memref.isWhole_whole _) xNlp (Memref.isWhole_whole _) yCnt (Memref.isWhole_whole _) yStarts (Memref.isWhole_whole _) yR8 (Memref.isWhole_whole _) yCb (Memref.isWhole_whole _) ySel (Memref.isWhole_whole _) yTok (Memref.isWhole_whole _) yLp (Memref.isWhole_whole _) bSids (Memref.isWhole_whole _) bNtok (Memref.isWhole_whole _) bNlp (Memref.isWhole_whole _) bCnt (Memref.isWhole_whole _) bCols (Memref.isWhole_whole _) bBkt (Memref.isWhole_whole _) bR8 (Memref.isWhole_whole _) bCb (Memref.isWhole_whole _) bSel (Memref.isWhole_whole _) bTok (Memref.isWhole_whole _) bLp (Memref.isWhole_whole _) bStarts (Memref.isWhole_whole _) cc0_scratch12 cc0_scratch13 cc0_scratch14 cc0_scratch15 k0_h1 k ())
      (fun _ => inv1 m d L (16 * (k.val + 1)) old) := by
  have hk : k.val < 64 := Nat.lt_of_lt_of_le k.isLt k0_t1_abs.2.1
  have hn : 16 * k.val + 16 ≤ 1024 := by omega
  have hg := isGroup_grp m d (16 * k.val)
  unfold k0_t1_body inv1
  iintro ⟨Hs, Hc, Hl, Hb⟩
  iapply (wp_ld bSids _ (sids d m) (grp m d (16 * k.val)) (grp_read (d := d) (c := cV L) (j := jV L) bSids (k0_off1_eq k) _ _)) $$ Hs
  iintro Hs
  iapply (wp_as (h := show k0_chk1 L (grp m d (16 * k.val)) from ⟨fun _ => rows_inb m d hr, fun _ => rows_inb m d hr⟩))
  iapply (wp_gather bCnt (cntAt (lens d m) (sids d m) (16 * k.val))) $$ Hc
  iintro Hc
  iapply (wp_scatter bCnt (Memref.set_access_whole _) (cntAt (lens d m) (sids d m) (16 * k.val)) (cntAt (lens d m) (sids d m) (16 * k.val + 16)) ((Memref.write_access_whole_univ _ _ _ _).trans (cnt_step hg _))) $$ Hc
  iintro Hc
  iapply (wp_ld bCols _ _ _ rfl) $$ Hl
  iintro Hl
  iapply (wp_st bCols _ _ _ (cols_st d (cV L) (jV L) (k0_off2_eq k) _ hg _)) $$ Hl
  iintro Hl
  iapply (wp_as (h := show k0_chk2 L (k0_pay6 (F := F) (grp m d (16 * k.val))) from ⟨fun _ => bkts_inb m d hr, fun _ => bkts_inb m d hr⟩))
  iapply (wp_gather bBkt (bktAt (sids d m) (16 * k.val))) $$ Hb
  iintro Hb
  iapply (wp_scatter bBkt (Memref.set_access_whole _) _ _ ((Memref.write_access_whole_univ _ _ _ _).trans (bkt_step hg _))) $$ Hb
  iintro Hb
  sl_step
  rw [show 16 * (k.val + 1) = 16 * k.val + 16 from rfl]
  iframe

/-- The tables over the places after the first `n` tokens of the second loop, with what the loop reads: -/
def inv2 (n : ℕ) (o6 o7 o8 o9 : (A 1024).Idx → BitVec 32) (o10 : (A 1024).Idx → Elt F .f32) : sProp 𝕄 :=
  iprop((bSids.view.loc (thr d L) ↦{fullShare} sids d m)
    ∗ (bCols.view.loc (thr d L) ↦{fullShare} fun i => col (lens d m) (sids d m) (i 0).val)
    ∗ (bBkt.view.loc (thr d L) ↦{fullShare} offAt (sids d m) n)
    ∗ (bNtok.view.loc (thr d L) ↦{fullShare} ntok d m)
    ∗ (bNlp.view.loc (thr d L) ↦{fullShare} nlp d m)
    ∗ (bR8.view.loc (thr d L) ↦{fullShare} tabAt (sids d m) (r8 (sids d m)) n o6)
    ∗ (bCb.view.loc (thr d L) ↦{fullShare} tabAt (sids d m) (cb (lens d m) (sids d m)) n o7)
    ∗ (bSel.view.loc (thr d L) ↦{fullShare} tabAt (sids d m) (sel (lens d m) (sids d m)) n o8)
    ∗ (bTok.view.loc (thr d L) ↦{fullShare} tabAt (sids d m) (fun i => ntok d m (ix i)) n o9)
    ∗ (bLp.view.loc (thr d L) ↦{fullShare} tabAt (sids d m) (fun i => nlp d m (ix i)) n o10))

/-- The windows' rows that a group writes, -/
theorem r8_val {s : (A 1024).Idx → BitVec 32} {n : ℕ} {v : IVec (A 16) 32} (hv : IsGroup s n v) (k : Fin 16) : k0_pay19 (F := F) v (ln k) = r8 s (n + k.val) := by
  show (v (ln k) &&& 127#32) &&& 4294967288#32 = _
  rw [hv k]; rfl

/-- the first columns, -/
theorem cb_val {s nt : (A 1024).Idx → BitVec 32} {n : ℕ} (hn : n + 16 ≤ 1024) (k : Fin 16) :
    k0_pay20 (F := F) (fun x => col nt s ((ix (n := 1023) (n + (x 0).val)) 0).val) (ln k) = cb nt s (n + k.val) := by
  show col nt s ((ix (n := 1023) (n + ((ln k) 0).val)) 0).val &&& 4294967168#32 = _
  rw [ln_val, ix_val (by omega)]; rfl

/-- and the elements' numbers. -/
theorem sel_val {s nt : (A 1024).Idx → BitVec 32} {n : ℕ} (hn : n + 16 ≤ 1024) {v : IVec (A 16) 32} (hv : IsGroup s n v) (k : Fin 16) :
    k0_pay21 (F := F) v (fun x => col nt s ((ix (n := 1023) (n + (x 0).val)) 0).val) (ln k) = sel nt s (n + k.val) := by
  show ((v (ln k) &&& 127#32) &&& 7#32) * 128#32 + (col nt s ((ix (n := 1023) (n + ((ln k) 0).val)) 0).val - (col nt s ((ix (n := 1023) (n + ((ln k) 0).val)) 0).val &&& 4294967168#32)) = _
  rw [hv k, ln_val, ix_val (by omega)]; rfl

/-- A group's values as sixteen lanes. -/
abbrev lanes {α : Type} (n : ℕ) (val : ℕ → α) : (A 16).Idx → α := fun x => val (n + (x 0).val)
theorem lanes_ln {α : Type} (n : ℕ) (val : ℕ → α) (k : Fin 16) : lanes n val (ln k) = val (n + k.val) := by
  show val (n + ((ln k) 0).val) = _
  rw [ln_val]

theorem off_inb (hr : RowsOk (sids d m)) {n : ℕ} (a : Fin 1) (x : S16.Idx) :
    ((![k0_pay12 (F := F) (grp m d n)] : Fin 1 → IVec S16 32) a x).toNat < S16.size a := bkts_inb m d hr a x

theorem places_inb {s : (A 1024).Idx → BitVec 32} {n : ℕ} (hn : n + 16 ≤ 1024) {p : IVec S16 32} (hp : ∀ k : Fin 16, (p (ln k)).toNat = place s (n + k.val)) (a : Fin 1) (x : S16.Idx) :
    ((![p] : Fin 1 → IVec S16 32) a x).toNat < S1024.size a := by
  match a with
  | 0 =>
    show (p x).toNat < 1024
    exact (congrArg (fun y => (p y).toNat) (ln_eq x)).trans_lt ((hp (x 0)).trans_lt (place_lt (Nat.lt_of_lt_of_le (Nat.add_lt_add_left (idx_lt x) n) hn)))

theorem trip2 (hr : RowsOk (sids d m)) (k0_h1 : k0_cond1 L = 1#1) (o6 o7 o8 o9 : (A 1024).Idx → BitVec 32) (o10 : (A 1024).Idx → Elt F .f32) (k : Fin k0_t2_loop.trips) :
    inv2 m d L (16 * k.val) o6 o7 o8 o9 o10 ⊢ wp frame (wpE (defs₀ (F := F)) 𝒱₀ (thr d L) none) Set.univ
      (k0_t2_body (F := F) L xLens (Memref.isWhole_whole _) xSids (Memref.isWhole_whole _) xNtok (Memref.isWhole_whole _) xNlp (Memref.isWhole_whole _) yCnt (Memref.isWhole_whole _) yStarts (Memref.isWhole_whole _) yR8 (Memref.isWhole_whole _) yCb (Memref.isWhole_whole _) ySel (Memref.isWhole_whole _) yTok (Memref.isWhole_whole _) yLp (Memref.isWhole_whole _) bSids (Memref.isWhole_whole _) bNtok (Memref.isWhole_whole _) bNlp (Memref.isWhole_whole _) bCnt (Memref.isWhole_whole _) bCols (Memref.isWhole_whole _) bBkt (Memref.isWhole_whole _) bR8 (Memref.isWhole_whole _) bCb (Memref.isWhole_whole _) bSel (Memref.isWhole_whole _) bTok (Memref.isWhole_whole _) bLp (Memref.isWhole_whole _) bStarts (Memref.isWhole_whole _) cc0_scratch12 cc0_scratch13 cc0_scratch14 cc0_scratch15 k0_h1 k ())
      (fun _ => inv2 m d L (16 * (k.val + 1)) o6 o7 o8 o9 o10) := by
  have hk : k.val < 64 := Nat.lt_of_lt_of_le k.isLt k0_t2_abs.2.1
  have hn : 16 * k.val + 16 ≤ 1024 := by omega
  have hg := isGroup_grp m d (16 * k.val)
  have hp := fun x => place_val (F := F) hg (off_inb m d hr) x hn
  unfold k0_t2_body inv2
  iintro ⟨Hs, Hl, Hb, Hk, Hp, H6, H7, H8, H9, H10⟩
  iapply (wp_ld bSids _ (sids d m) (grp m d (16 * k.val)) (grp_read (d := d) (c := cV L) (j := jV L) bSids (k0_off3_eq k) _ _)) $$ Hs
  iintro Hs
  iapply (wp_as (h := show k0_chk3 L (k0_pay12 (F := F) (grp m d (16 * k.val))) from ⟨fun _ => off_inb m d hr, fun _ => off_inb m d hr⟩))
  iapply (wp_gather bBkt (offAt (sids d m) (16 * k.val))) $$ Hb
  iintro Hb
  iapply (wp_as (h := show k0_chk4 L _ from ⟨fun _ => places_inb hn hp, fun _ => places_inb hn hp, fun _ => places_inb hn hp, fun _ => places_inb hn hp, fun _ => places_inb hn hp⟩))
  iapply (wp_scatter bBkt (Memref.set_access_whole _) _ _ ((Memref.write_access_whole_univ _ _ _ _).trans (off_step hg _))) $$ Hb
  iintro Hb
  iapply (wp_ld bCols _ _ (lanes (16 * k.val) fun i => col (lens d m) (sids d m) ((ix (n := 1023) i) 0).val) (grp_read (d := d) (c := cV L) (j := jV L) bCols (k0_off4_eq k) _ _)) $$ Hl
  iintro Hl
  iapply (wp_scatter bR8 (Memref.set_access_whole _) _ _ ((Memref.write_access_whole_univ _ _ _ _).trans
    (tab_step (F := F) (e := .i32) hn (r8 (sids d m)) o6 _ hp _ (fun x => r8_val hg x) _))) $$ H6
  iintro H6
  iapply (wp_scatter bCb (Memref.set_access_whole _) _ _ ((Memref.write_access_whole_univ _ _ _ _).trans
    (tab_step (F := F) (e := .i32) hn (cb (lens d m) (sids d m)) o7 _ hp _ (fun x => cb_val hn x) _))) $$ H7
  iintro H7
  iapply (wp_scatter bSel (Memref.set_access_whole _) _ _ ((Memref.write_access_whole_univ _ _ _ _).trans
    (tab_step (F := F) (e := .i32) hn (sel (lens d m) (sids d m)) o8 _ hp _ (fun x => sel_val hn hg x) _))) $$ H8
  iintro H8
  iapply (wp_ld bNtok _ _ (lanes (16 * k.val) fun i => ntok d m (ix i)) (grp_read (d := d) (c := cV L) (j := jV L) bNtok (k0_off5_eq k) _ _)) $$ Hk
  iintro Hk
  iapply (wp_scatter bTok (Memref.set_access_whole _) _ _ ((Memref.write_access_whole_univ _ _ _ _).trans
    (tab_step (F := F) (e := .i32) hn (fun i => ntok d m (ix i)) o9 _ hp _ (lanes_ln _ _) _))) $$ H9
  iintro H9
  iapply (wp_ld bNlp _ _ (lanes (16 * k.val) fun i => nlp d m (ix i)) (grp_read (d := d) (c := cV L) (j := jV L) bNlp (k0_off5_eq k) _ _)) $$ Hp
  iintro Hp
  iapply (wp_scatter bLp (Memref.set_access_whole _) _ _ ((Memref.write_access_whole_univ _ _ _ _).trans
    (tab_step (F := F) (e := .f32) hn (fun i => nlp d m (ix i)) o10 _ hp _ (lanes_ln _ _) _))) $$ H10
  iintro H10
  sl_step
  rw [show 16 * (k.val + 1) = 16 * k.val + 16 from rfl]
  iframe

end Cert.Proof.TileLoops

end
-- ==== Proof.Tile.lean ====
/-
  The tile that makes the plan, run: its two loops over the groups of sixteen tokens and the copies around them.
-/
module

public import proofs.«01_k».proof.Proof.TileLoops

@[expose] public section

noncomputable section

namespace Cert.Proof.Tile

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.TileLoops Cert.Proof.Plan Cert.Proof.Setup Cert.Proof.Tables Cert.Proof.Lanes Cert.Proof.TileSetup Cert.Proof.TileLoops

variable {F : FTy → Type} [FloatOps F]

local notation "𝕄" => MT nD τ sig (HIx 1) (Elt F) ℕ UU ℕ

variable (m : (ℓ : Loc nD τ sig) → Buf (Elt F) ℓ) (d : Dev nD)

section Plan

variable (L : grid0.Coords)

theorem whole_own {sp : Space} {S : Shape} {e : EltTy} (M : Memref sig .scVector sp S e) (h : M.view.set = Finset.univ) (f : Buf (Elt F) (M.view.loc (thr d L))) :
    (M.view.loc (thr d L) ↦{fullShare} f : sProp 𝕄) = TileLoops.own d L M f := by
  unfold TileLoops.own; rw [h]

/-- A buffer held whole that one copy has filled holds the copy's source. -/
theorem whole_writes {sp : Space} {S : Shape} {e : EltTy} (M : Memref sig .scVector sp S e) (h : M.view.set = Finset.univ) (f : Buf (Elt F) (M.view.loc (thr d L)))
    (w : (Rect.whole S).shape.Idx → Elt F e) (g : Buf (Elt F) (M.view.loc (thr d L))) (hg : M.view.writes (Elt F) f [⟨Rect.whole S, w⟩] = g) :
    (TileLoops.own d L M (M.view.writes (Elt F) f [⟨Rect.whole S, w⟩]) : sProp 𝕄) = (M.view.loc (thr d L) ↦{fullShare} g) := by
  rw [hg, whole_own d L M h]

theorem held_congr {sp : Space} {S : Shape} {e : EltTy} (M : Memref sig .scVector sp S e) {f g : Buf (Elt F) (M.view.loc (thr d L))} (h : f = g) :
    (M.view.loc (thr d L) ↦{fullShare} f : sProp 𝕄) = (M.view.loc (thr d L) ↦{fullShare} g) := by rw [h]

theorem part_congr {sp : Space} {S : Shape} {e : EltTy} (M : Memref sig .scVector sp S e) {f g : Buf (Elt F) (M.view.loc (thr d L))} (h : f = g) :
    (M.view.loc (thr d L) ↦[M.view.set]{fullShare} f : sProp 𝕄) = (M.view.loc (thr d L) ↦[M.view.set]{fullShare} g) := by rw [h]

theorem zero_off : (![0] : Fin 1 → ℕ) = fun _ => 0 := by decide

/-- A store of all sixteen words of a buffer of sixteen leaves them in it, whatever was there. -/
theorem bkt_full (f : bBkt.view.ty.Contents (Elt F)) (Ps : List (View.Piece (Elt F) S16 .i32)) (w : S16.Idx → BitVec 32) :
    bBkt.view.writes (Elt F) f (⟨Rect.unit (s := S16) ![0] S16.size inb_S16_S16_0, w⟩ :: Ps) = w :=
  Memref.write_access_unit_zero_univ (Elt F) cc0_scratch5 (off := ![0]) zero_off inb_S16_S16_0 (bBkt.view.writes (Elt F) f Ps) w

theorem starts_full (f : bStarts.view.ty.Contents (Elt F)) (Ps : List (View.Piece (Elt F) S16 .i32)) (w : S16.Idx → BitVec 32) :
    bStarts.view.writes (Elt F) f (⟨Rect.unit (s := S16) ![0] S16.size inb_S16_S16_0, w⟩ :: Ps) = w :=
  Memref.write_access_unit_zero_univ (Elt F) cc0_scratch11 (off := ![0]) zero_off inb_S16_S16_0 (bStarts.view.writes (Elt F) f Ps) w

/-- A load of all sixteen. -/
theorem bkt_load (f : bBkt.view.ty.Contents (Elt F)) :
    View.readAt (Elt F) bBkt.view (Rect.unit (s := S16) ![0] S16.size inb_S16_S16_0).toLoadRect f = f :=
  Memref.readAt_unit_zero (Elt F) cc0_scratch5 (off := ![0]) zero_off _ _

set_option maxHeartbeats 4000000 in
theorem body₀ (hr : RowsOk (sids d m)) (k0_h1 : k0_cond1 L = 1#1) (O : CellTallies nD τ sig (HIx 1)) (W : Waits sig (HIx 1)) (hO : ∀ g, O g none = 0) :
    iprop(levAts (K (F := F)).L (K (F := F)).lev ∗ (inputs d m ∗ blanks d)
        ∗ scopedBufs (thr d L) ∗ scopedSems0 (thr d L) ∗ owes (thr d L) O W)
      ⊢ wp frame (wpE (defs₀ (F := F)) 𝒱₀ (thr d L) none) Set.univ (kernel L)
          fun _ => iprop((inputs d m ∗ plan d m) ∗ scopedBufs (thr d L) ∗ scopedSems0 (thr d L)
            ∗ ∃ W', ⌜∀ p ∈ W', p ∈ W ∨ p.2 = none⌝ ∗ owes (thr d L) O W') := by
  simp only [kernel, cc0__sc_plan_body_eq_skeleton]; unfold cc0__sc_plan_body_skel
  rw [(K (F := F)).scopedBufs_V facts d (cV L) (jV L), SparseCore.Cfg.scopedSems0_V (Val := Elt F) d (cV L) (jV L), ownSems0_V, ownBufs_V]
  iintro ⟨#Hlv, ⟨⟨Hl, Hs, Hk, Hp⟩, ⟨%o0, Ho0⟩, ⟨%o1, Ho1⟩, ⟨%o2, Ho2⟩, ⟨%o3, Ho3⟩, ⟨%o4, Ho4⟩, ⟨%o5, Ho5⟩, %o6, Ho6⟩,
    ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, ⟨%f9, Hb9⟩, ⟨%f10, Hb10⟩, ⟨%f11, Hb11⟩, Hbr⟩,
    ⟨Hs12, Hs13, Hs14, Hs15, Hsr⟩, HO⟩
  ihave Hmw := ((K (F := F)).mayWaits_none (thr := thr d L) hO) $$ Hlv
  ihave Hl := (Entails.of_eq (pts_xLens (F := F) d (cV L) (jV L) _).symm) $$ Hl
  ihave Hs := (Entails.of_eq (pts_xSids (F := F) d (cV L) (jV L) _).symm) $$ Hs
  ihave Hk := (Entails.of_eq (pts_xNtok (F := F) d (cV L) (jV L) _).symm) $$ Hk
  ihave Hp := (Entails.of_eq (pts_xNlp (F := F) d (cV L) (jV L) _).symm) $$ Hp
  ihave Hb0 := (Entails.of_eq (whole_own d L bSids (View.set_whole _) _)) $$ Hb0
  ihave Hb1 := (Entails.of_eq (whole_own d L bNtok (View.set_whole _) _)) $$ Hb1
  ihave Hb2 := (Entails.of_eq (whole_own d L bNlp (View.set_whole _) _)) $$ Hb2
  ihave Hb3 := (Entails.of_eq (whole_own d L bCnt (View.set_whole _) _)) $$ Hb3
  have hbA : Transfers.BatchOf (thr d L) (.dma cc0_scratch12.sem) 2 := trivial
  have hbB : Transfers.BatchOf (thr d L) (.dma cc0_scratch13.sem) 2 := trivial
  have hbO : Transfers.BatchOf (thr d L) (.dma cc0_scratch14.sem) 6 := trivial
  sl_exec
  ihave Hb0 := (Entails.of_eq (whole_writes d L bSids (View.set_whole _) _ (body₀.sl.dma0 m d) (sids d m) (Memref.write_access_whole_univ _ _ _ _))) $$ Hb0
  ihave Hb3 := (Entails.of_eq (whole_writes d L bCnt (View.set_whole _) _ (body₀.sl.dma1 m d) (lens d m) (Memref.write_access_whole_univ _ _ _ _))) $$ Hb3
  sl_for (fun n _ => inv1 m d L (16 * n) f4) $$ [Hb0 Hb3 Hb4 Hb5]
  case region => exact fun k _ => trip1 m d L hr k0_h1 f4 k
  · unfold inv1
    ihave Hb5 := (Entails.of_eq (held_congr d L bBkt (f := bBkt.view.writes (Elt F) bBkt.view.junk body₀.sl.Hb5_1) (g := k0_pay1) (bkt_full _ _ _))) $$ Hb5
    rw [show 16 * 0 = 0 from rfl, cntAt_zero, colsAt_zero, bktAt_zero]
    iframe
    done
  iintro %_ Hinv
  unfold inv1
  rw [show 16 * Scf.trips k0_t1_loop.lb k0_t1_loop.ub k0_t1_loop.st = 1024 from rfl, colsAt_all]
  icases Hinv with ⟨Hb0, Hb3, Hb4, Hb5⟩
  ihave Hb3 := (Entails.of_eq (whole_own d L bCnt (View.set_whole _) _)) $$ Hb3
  ihave Ho0 := (Entails.of_eq (pts_yCnt (F := F) d (cV L) (jV L) _).symm) $$ Ho0
  ihave Ho1 := (Entails.of_eq (pts_yStarts (F := F) d (cV L) (jV L) _).symm) $$ Ho1
  ihave Hb11 := (Entails.of_eq (whole_own d L bStarts (View.set_whole _) _)) $$ Hb11
  sl_exec
  ihave Hb1 := (Entails.of_eq (whole_writes d L bNtok (View.set_whole _) _ (body₀.sl.dma2 m d) (ntok d m) (Memref.write_access_whole_univ _ _ _ _))) $$ Hb1
  ihave Hb2 := (Entails.of_eq (whole_writes d L bNlp (View.set_whole _) _ (body₀.sl.dma3 m d) (nlp d m) (Memref.write_access_whole_univ _ _ _ _))) $$ Hb2
  have h5 : bBkt.view.writes (Elt F) bBkt.view.junk (body₀.sl.Hb5_1_1 m d) = offAt (sids d m) 0 := by
    unfold body₀.sl.Hb5_1_1
    rw [bkt_load]
    exact (bkt_full (F := F) _ _ _).trans (funext fun x => off_zero (F := F) x)
  have h11 : yStarts.view.writes (Elt F) o1 [⟨Rect.whole S16, body₀.sl.dma5 m d L f11⟩] = pStarts d m := by
    unfold body₀.sl.dma5 body₀.sl.Hb11_1
    rw [bkt_load]
    refine (Memref.write_access_whole_univ _ _ _ _).trans ?_
    exact (starts_full (F := F) f11 _ _).trans (starts_val (F := F) hr)
  ihave Hb5 := (Entails.of_eq (held_congr d L bBkt (g := offAt (sids d m) 0) h5)) $$ Hb5
  sl_for (fun n _ => inv2 m d L (16 * n) f6 f7 f8 f9 f10) $$ [Hb0 Hb4 Hb5 Hb1 Hb2 Hb6 Hb7 Hb8 Hb9 Hb10]
  case region => exact fun k _ => trip2 m d L hr k0_h1 f6 f7 f8 f9 f10 k
  · unfold inv2
    rw [show 16 * 0 = 0 from rfl]
    rw [tabAt_zero, tabAt_zero, tabAt_zero, tabAt_zero, tabAt_zero]
    iframe
  iintro %_ Hinv
  unfold inv2
  rw [show 16 * Scf.trips k0_t2_loop.lb k0_t2_loop.ub k0_t2_loop.st = 1024 from rfl]
  rw [tabAt_all, tabAt_all, tabAt_all, tabAt_all, tabAt_all]
  icases Hinv with ⟨Hb0, Hb4, Hb5, Hb1, Hb2, Hb6, Hb7, Hb8, Hb9, Hb10⟩
  ihave Hb6 := (Entails.of_eq (whole_own d L bR8 (View.set_whole _) _)) $$ Hb6
  ihave Hb7 := (Entails.of_eq (whole_own d L bCb (View.set_whole _) _)) $$ Hb7
  ihave Hb8 := (Entails.of_eq (whole_own d L bSel (View.set_whole _) _)) $$ Hb8
  ihave Hb9 := (Entails.of_eq (whole_own d L bTok (View.set_whole _) _)) $$ Hb9
  ihave Hb10 := (Entails.of_eq (whole_own d L bLp (View.set_whole _) _)) $$ Hb10
  ihave Ho2 := (Entails.of_eq (pts_yR8 (F := F) d (cV L) (jV L) _).symm) $$ Ho2
  ihave Ho3 := (Entails.of_eq (pts_yCb (F := F) d (cV L) (jV L) _).symm) $$ Ho3
  ihave Ho4 := (Entails.of_eq (pts_ySel (F := F) d (cV L) (jV L) _).symm) $$ Ho4
  ihave Ho5 := (Entails.of_eq (pts_yTok (F := F) d (cV L) (jV L) _).symm) $$ Ho5
  ihave Ho6 := (Entails.of_eq (pts_yLp (F := F) d (cV L) (jV L) _).symm) $$ Ho6
  sl_exec
  sl_step
  ihave Ho0 := (Entails.of_eq ((part_congr d L yCnt (g := pCnt d m) (show yCnt.view.writes (Elt F) o0 [⟨Rect.whole S1024, body₀.sl.dma0_1 m d⟩] = pCnt d m from Memref.write_access_whole_univ _ _ _ _)).trans (pts_yCnt (F := F) d (cV L) (jV L) _))) $$ Ho0
  ihave Ho1 := (Entails.of_eq ((part_congr d L yStarts (g := pStarts d m) h11).trans (pts_yStarts (F := F) d (cV L) (jV L) _))) $$ Ho1
  ihave Ho2 := (Entails.of_eq ((part_congr d L yR8 (g := pR8 d m) (show yR8.view.writes (Elt F) o2 [⟨Rect.whole S1024, body₀.sl.dma0_2 m d⟩] = pR8 d m from Memref.write_access_whole_univ _ _ _ _)).trans (pts_yR8 (F := F) d (cV L) (jV L) _))) $$ Ho2
  ihave Ho3 := (Entails.of_eq ((part_congr d L yCb (g := pCb d m) (show yCb.view.writes (Elt F) o3 [⟨Rect.whole S1024, body₀.sl.dma1_1 m d⟩] = pCb d m from Memref.write_access_whole_univ _ _ _ _)).trans (pts_yCb (F := F) d (cV L) (jV L) _))) $$ Ho3
  ihave Ho4 := (Entails.of_eq ((part_congr d L ySel (g := pSel d m) (show ySel.view.writes (Elt F) o4 [⟨Rect.whole S1024, body₀.sl.dma2_1 m d⟩] = pSel d m from Memref.write_access_whole_univ _ _ _ _)).trans (pts_ySel (F := F) d (cV L) (jV L) _))) $$ Ho4
  ihave Ho5 := (Entails.of_eq ((part_congr d L yTok (g := pTok d m) (show yTok.view.writes (Elt F) o5 [⟨Rect.whole S1024, body₀.sl.dma3_1 m d⟩] = pTok d m from Memref.write_access_whole_univ _ _ _ _)).trans (pts_yTok (F := F) d (cV L) (jV L) _))) $$ Ho5
  ihave Ho6 := (Entails.of_eq ((part_congr d L yLp (g := pLp d m) (show yLp.view.writes (Elt F) o6 [⟨Rect.whole S1024, body₀.sl.dma4 m d⟩] = pLp d m from Memref.write_access_whole_univ _ _ _ _)).trans (pts_yLp (F := F) d (cV L) (jV L) _))) $$ Ho6
  ihave Hl := (Entails.of_eq (pts_xLens (F := F) d (cV L) (jV L) _)) $$ Hl
  ihave Hs := (Entails.of_eq (pts_xSids (F := F) d (cV L) (jV L) _)) $$ Hs
  ihave Hk := (Entails.of_eq (pts_xNtok (F := F) d (cV L) (jV L) _)) $$ Hk
  ihave Hp := (Entails.of_eq (pts_xNlp (F := F) d (cV L) (jV L) _)) $$ Hp
  ihave Hb3 := (Entails.of_eq (whole_own d L bCnt (View.set_whole _) _).symm) $$ Hb3
  ihave Hb6 := (Entails.of_eq (whole_own d L bR8 (View.set_whole _) _).symm) $$ Hb6
  ihave Hb7 := (Entails.of_eq (whole_own d L bCb (View.set_whole _) _).symm) $$ Hb7
  ihave Hb8 := (Entails.of_eq (whole_own d L bSel (View.set_whole _) _).symm) $$ Hb8
  ihave Hb9 := (Entails.of_eq (whole_own d L bTok (View.set_whole _) _).symm) $$ Hb9
  ihave Hb10 := (Entails.of_eq (whole_own d L bLp (View.set_whole _) _).symm) $$ Hb10
  ihave Hb11 := (Entails.of_eq (whole_own d L bStarts (View.set_whole _) _).symm) $$ Hb11
  isplitl [Hl Hs Hk Hp Ho0 Ho1 Ho2 Ho3 Ho4 Ho5 Ho6]
  · isplitl [Hl Hs Hk Hp]
    · isplitl [Hl]; · iexact Hl
      isplitl [Hs]; · iexact Hs
      isplitl [Hk]; · iexact Hk
      iexact Hp
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      iexact Ho6
  isplitl [Hb0 Hb1 Hb2 Hb3 Hb4 Hb5 Hb6 Hb7 Hb8 Hb9 Hb10 Hb11 Hbr]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    isplitl [Hb10]; · iexists _; iexact Hb10
    isplitl [Hb11]; · iexists _; iexact Hb11
    iexact Hbr
  isplitl [Hs12 Hs13 Hs14 Hs15 Hsr]
  · isplitl [Hs12]; · iexact Hs12
    isplitl [Hs13]; · iexact Hs13
    isplitl [Hs14]; · iexact Hs14
    isplitl [Hs15]; · iexact Hs15
    iexact Hsr
  iexists (insert (SemLoc.dma cc0_scratch14.sem, (default : HIx 1)) (insert (SemLoc.dma cc0_scratch14.sem, (default : HIx 1)) (insert (SemLoc.dma cc0_scratch14.sem, (default : HIx 1)) (insert (SemLoc.dma cc0_scratch14.sem, (default : HIx 1)) (insert (SemLoc.dma cc0_scratch14.sem, (default : HIx 1)) (insert (SemLoc.dma cc0_scratch15.sem, (default : HIx 1)) (insert (SemLoc.dma cc0_scratch14.sem, (default : HIx 1)) (insert (SemLoc.dma cc0_scratch13.sem, (default : HIx 1)) (insert (SemLoc.dma cc0_scratch13.sem, (default : HIx 1)) (insert (SemLoc.dma cc0_scratch12.sem, (default : HIx 1)) (insert (SemLoc.dma cc0_scratch12.sem, (default : HIx 1)) W)))))))))))
  isplitr
  · ipureintro
    intro p hp
    simp only [Finset.mem_insert] at hp
    rcases hp with rfl | rfl | rfl | rfl | rfl | rfl | rfl | rfl | rfl | rfl | rfl | hp
    all_goals first | exact .inr rfl | exact .inl hp
  · iexact HO

end Plan

end Cert.Proof.Tile

end
-- ==== Proof.Obl.lean ====
/-
  What the launch asks of the SparseCores: tile 0 of core 0 makes the plan, every other tile does nothing.
-/
module

public import proofs.«01_k».proof.Proof.Tile

@[expose] public section

noncomputable section

namespace Cert.Proof.Obl

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.TileLoops Cert.Proof.Plan Cert.Proof.Setup Cert.Proof.Tables Cert.Proof.Lanes Cert.Proof.TileSetup Cert.Proof.Tile

variable {F : FTy → Type} [FloatOps F]

local notation "𝕄" => MT nD τ sig (HIx 1) (Elt F) ℕ UU ℕ

variable (m : (ℓ : Loc nD τ sig) → Buf (Elt F) ℓ)

/-! ## The payloads of the handshakes -/

instance inputs_storable (d : Dev nD) : BI.Storable (upEmb : UEmb _ 𝕄) (inputs d m) := by
  unfold inputs; infer_instance
set_option synthInstance.maxHeartbeats 400000 in
instance blanks_storable (d : Dev nD) : BI.Storable (upEmb : UEmb _ 𝕄) (blanks (F := F) d) := by
  unfold blanks; infer_instance
set_option synthInstance.maxHeartbeats 400000 in
instance plan_storable (d : Dev nD) : BI.Storable (upEmb : UEmb _ 𝕄) (plan d m) := by
  unfold plan; infer_instance

/-- What the call hands core 0, -/
def given (d : Dev nD) : sProp 𝕄 := iprop(inputs d m ∗ blanks d)
/-- and what it gets back. -/
def made (d : Dev nD) : sProp 𝕄 := iprop(inputs d m ∗ plan d m)

instance given_storable (d : Dev nD) : BI.Storable (upEmb : UEmb _ 𝕄) (given m d) :=
  Storable.sep _ (inputs d m) (blanks d)
instance made_storable (d : Dev nD) : BI.Storable (upEmb : UEmb _ 𝕄) (made m d) :=
  Storable.sep _ (inputs d m) (plan d m)

/-- `R` at core 0, nothing elsewhere. -/
def atCore {n : ℕ} (c : Fin n) (R : sProp 𝕄) : sProp 𝕄 := if c.val = 0 then R else iprop(emp)
/-- `R` at tile 0 of core 0, nothing elsewhere. -/
def atTile {n k : ℕ} (c : Fin n) (i : Fin k) (R : sProp 𝕄) : sProp 𝕄 := if c.val = 0 ∧ i.val = 0 then R else iprop(emp)

instance atCore_storable {n : ℕ} (c : Fin n) (R : sProp 𝕄) [BI.Storable (upEmb : UEmb _ 𝕄) R] : BI.Storable (upEmb : UEmb _ 𝕄) (atCore c R) := by
  unfold atCore; split <;> infer_instance
instance atTile_storable {n k : ℕ} (c : Fin n) (i : Fin k) (R : sProp 𝕄) [BI.Storable (upEmb : UEmb _ 𝕄) R] : BI.Storable (upEmb : UEmb _ 𝕄) (atTile c i R) := by
  unfold atTile; split <;> infer_instance

def P : (K (F := F)).Pay (nD := nD) (Val := Elt F) (Name := ℕ) (U := UU) where
  st := fun q d c => match q with | 0 => atCore c (given m d)
  dn := fun q d c => match q with | 0 => atCore c (made m d)
  go := fun q d c i => match q with | 0 => atTile c i (given m d)
  td := fun q d c i => match q with | 0 => atTile c i (made m d)
  x := fun _ _ => iprop(emp)

instance P_storable : (P (F := F) m).IsStorable where
  st q d c := match q with
    | 0 => (inferInstance : BI.Storable (upEmb : UEmb _ 𝕄) (atCore c (given m d)))
  dn q d c := match q with
    | 0 => (inferInstance : BI.Storable (upEmb : UEmb _ 𝕄) (atCore c (made m d)))
  go q d c i := match q with
    | 0 => (inferInstance : BI.Storable (upEmb : UEmb _ 𝕄) (atTile c i (given m d)))
  td q d c i := match q with
    | 0 => (inferInstance : BI.Storable (upEmb : UEmb _ 𝕄) (atTile c i (made m d)))

/-! ## The tiles -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => kernel (coordsV c s)) ⟨⟩ c s := rfl

/-- Only tile 0 of core 0 takes the branch. -/
theorem cond_iff : ∀ (c : Fin (grid0.bound 0)) (s : Fin (grid0.bound 1)), k0_cond1 (coordsV c s) = 1#1 ↔ c.val = 0 ∧ s.val = 0 := by decide

/-- A tile that does not take the branch. -/
theorem body₁ (d : Dev nD) (L : grid0.Coords) (h : ¬ k0_cond1 L = 1#1) (O : CellTallies nD τ sig (HIx 1)) (W : Waits sig (HIx 1)) :
    (iprop(scopedBufs (thr d L) ∗ scopedSems0 (thr d L) ∗ owes (thr d L) O W) : sProp 𝕄)
      ⊢ wp frame (wpE (defs₀ (F := F)) 𝒱₀ (thr d L) none) Set.univ (kernel L)
          fun _ => iprop(scopedBufs (thr d L) ∗ scopedSems0 (thr d L) ∗ ∃ W', ⌜∀ p ∈ W', p ∈ W ∨ p.2 = none⌝ ∗ owes (thr d L) O W') := by
  simp only [kernel, cc0__sc_plan_body_eq_skeleton]; unfold cc0__sc_plan_body_skel
  simp only [h, ↓reduceDIte, wp_pure]
  iintro ⟨Hb, Hs, HO⟩
  imodintro
  isplitl [Hb]; · iexact Hb
  isplitl [Hs]; · iexact Hs
  iexists W
  isplitr; · ipureintro; exact fun p hp => .inl hp
  iexact HO

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task, whichever tile it is. -/
theorem body (hr : ∀ d, RowsOk (sids d m)) (d : Dev nD) (c : Fin (grid0.bound 0)) (s : Fin (grid0.bound 1))
    (O : CellTallies nD τ sig (HIx 1)) (W : Waits sig (HIx 1)) (hO : ∀ g, O g none = 0) :
    iprop(levAts (K (F := F)).L (K (F := F)).lev ∗ emp ∗ atTile c s (given m d)
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ (kernel (coordsV c s))
          fun _ => iprop(atTile c s (made m d) ∗ scopedBufs (thr d (coordsV c s)) ∗ scopedSems0 (thr d (coordsV c s))
            ∗ ∃ W', ⌜∀ p ∈ W', p ∈ W ∨ p.2 = none⌝ ∗ owes (thr d (coordsV c s)) O W') := by
  unfold atTile
  by_cases h : k0_cond1 (coordsV c s) = 1#1
  · rw [if_pos ((cond_iff c s).1 h), if_pos ((cond_iff c s).1 h)]
    iintro ⟨Hl, -, H⟩
    unfold given made
    iapply (body₀ m d (coordsV c s) (hr d) h O W hO)
    isplitl [Hl]; · iexact Hl
    iexact H
  · rw [if_neg (fun e => h ((cond_iff c s).2 e)), if_neg (fun e => h ((cond_iff c s).2 e))]
    iintro ⟨-, -, -, H⟩
    ihave H := (body₁ d (coordsV c s) h O W) $$ H
    iapply (wp_mono frame _ _ fun _ => ?_) $$ H
    iintro H
    isplitr; · iempintro
    iexact H

theorem tileObl (hr : ∀ d, RowsOk (sids d m)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (body m hr d ⟨_, hc.1⟩ ⟨_, hc.2⟩ O W hO).trans (wp_mono frame _ _ fun _ => obl_post)

/-! ## The split of a core's payload over its tiles -/

theorem sep_unit (R : sProp 𝕄) : iprop(R ∗ emp) = R := BI.Entails.antisymm BI.sep_emp_elim BI.sep_emp_intro

theorem tiles_eq {n k : ℕ} (c : Fin n) (R : sProp 𝕄) : (bigSep Finset.univ fun i : Fin (k + 1) => atTile c i R) = atCore c R := by
  unfold atTile atCore
  have hs : (Finset.univ : Finset (Fin (k + 1))) = insert 0 (Finset.univ.erase 0) := (Finset.insert_erase (Finset.mem_univ _)).symm
  have he : bigSep (Finset.univ.erase (0 : Fin (k + 1))) (fun _ => (iprop(emp) : sProp 𝕄)) = iprop(emp) := bigSep_emp_const _
  rw [hs, SparseCore.bigSep_insert' (Finset.notMem_erase _ _),
    bigSep_congr (Ψ := fun _ => iprop(emp)) (fun i hi => if_neg fun h => (Finset.mem_erase.1 hi).1 (Fin.ext h.2)), he]
  refine (sep_unit _).trans ?_
  by_cases h : c.val = 0
  · rw [if_pos h, if_pos ⟨h, rfl⟩]
  · rw [if_neg h, if_neg fun e => h e.1]

theorem vecSplit : (K (F := F)).VecSplit' (P m) 0 := by
  intro d c
  show atCore c (given m d) ⊢ |={Set.univ}=> iprop((bigSep Finset.univ fun i : Fin (15 + 1) => atTile c i (given m d))
      ∗ ((bigSep Finset.univ fun i : Fin (15 + 1) => atTile c i (made m d)) -∗ atCore c (made m d)))
  rw [tiles_eq, tiles_eq]
  iintro H; imodintro
  isplitl [H]; · iexact H
  iintro H; iexact H

theorem st_eq (d : Dev nD) : (bigSep Finset.univ fun c : Fin ((K (F := F)).nCore 0) => (P m).st 0 d c) = given m d := by
  show (bigSep Finset.univ fun c : Fin 2 => atCore c (given m d)) = _
  rw [show (Finset.univ : Finset (Fin 2)) = {0, 1} by decide, SparseCore.bigSep_insert' (by decide), bigSep_singleton]
  unfold atCore
  rw [if_pos (show (0 : Fin 2).val = 0 from rfl), if_neg (show ¬ (1 : Fin 2).val = 0 by decide)]
  exact sep_unit _

theorem dn_eq (d : Dev nD) : (bigSep Finset.univ fun c : Fin ((K (F := F)).nCore 0) => (P m).dn 0 d c) = made m d := by
  show (bigSep Finset.univ fun c : Fin 2 => atCore c (made m d)) = _
  rw [show (Finset.univ : Finset (Fin 2)) = {0, 1} by decide, SparseCore.bigSep_insert' (by decide), bigSep_singleton]
  unfold atCore
  rw [if_pos (show (0 : Fin 2).val = 0 from rfl), if_neg (show ¬ (1 : Fin 2).val = 0 by decide)]
  exact sep_unit _

end Cert.Proof.Obl

end
-- ==== Proof.Blocks.lean ====
/-
  What the TensorCore makes of one block of 128 rows: the tokens of its bucket written one by one, in the order of their
  places, each through a window of 8 rows by 128 columns.
-/
module

public import Idealize.ShloMosaic.Lib.Pipeline.Value
public import proofs.«01_k».proof.Proof.Setup
public import proofs.«01_k».proof.Proof.Tables

@[expose] public section

noncomputable section

namespace Cert.Proof.Blocks

open Cert.KernelIdeal Cert.KernelIdeal.Gen
open Idealize.ShloMosaic
open Cert.Proof.Plan Cert.Proof.Tables

variable {F : FTy → Type} [FloatOps F]
variable {nt s : (A 1024).Idx → BitVec 32}

/-! ## Words -/

/-- Masking off the low `k` bits. -/
theorem mask_high (k : ℕ) (x m : BitVec 32) (hm : ∀ i : Fin 32, m.getLsbD i.val = decide (k ≤ i.val)) :
    (x &&& m).toNat = x.toNat / 2 ^ k * 2 ^ k := by
  have h : x &&& m = (x >>> k) <<< k := by
    apply BitVec.eq_of_getLsbD_eq
    intro i hi
    rw [BitVec.getLsbD_and, BitVec.getLsbD_shiftLeft, BitVec.getLsbD_ushiftRight, hm ⟨i, hi⟩]
    by_cases hk : k ≤ i
    · simp [hk, hi, Nat.add_sub_cancel' hk, Nat.not_lt.2 hk]
    · simp [hk, hi, Nat.lt_of_not_le hk]
  rw [h, BitVec.toNat_shiftLeft, BitVec.toNat_ushiftRight, Nat.shiftRight_eq_div_pow, Nat.shiftLeft_eq]
  exact Nat.mod_eq_of_lt ((Nat.div_mul_le_self _ _).trans_lt x.isLt)

/-- Keeping the low `k` bits. -/
theorem mask_low (k : ℕ) (x m : BitVec 32) (hm : m.toNat = 2 ^ k - 1) : (x &&& m).toNat = x.toNat % 2 ^ k := by
  rw [BitVec.toNat_and, hm, Nat.and_two_pow_sub_one_eq_mod]

theorem mask7 : ∀ i : Fin 32, (4294967288#32 : BitVec 32).getLsbD i.val = decide (3 ≤ i.val) := by decide
theorem mask127 : ∀ i : Fin 32, (4294967168#32 : BitVec 32).getLsbD i.val = decide (7 ≤ i.val) := by decide

theorem low7 (i : ℕ) : (s (ix i) &&& 127#32).toNat = row s i % 128 := mask_low 7 _ _ rfl

theorem r8_toNat (i : ℕ) : (r8 s i).toNat = row s i % 128 / 8 * 8 := by
  unfold r8; rw [mask_high 3 _ _ mask7, low7]; rfl
theorem cb_toNat (i : ℕ) : (cb nt s i).toNat = (col nt s i).toNat / 128 * 128 := mask_high 7 _ _ mask127
theorem sel_toNat (i : ℕ) : (sel nt s i).toNat = row s i % 128 % 8 * 128 + (col nt s i).toNat % 128 := by
  have h1 : ((s (ix i) &&& 127#32) &&& 7#32).toNat = row s i % 128 % 8 := by rw [mask_low 3 _ _ rfl, low7]; rfl
  have h2 := cb_toNat (nt := nt) (s := s) i
  have h3 := (col nt s i).isLt
  unfold sel
  rw [BitVec.toNat_add, BitVec.toNat_mul, BitVec.toNat_sub, h1, h2]
  rw [show (128#32 : BitVec 32).toNat = 128 from rfl]
  omega

theorem r8_dvd (i : ℕ) : 8 ∣ (r8 s i).toNat := by rw [r8_toNat]; exact Nat.dvd_mul_left _ _
theorem cb_dvd (i : ℕ) : 128 ∣ (cb nt s i).toNat := by rw [cb_toNat]; exact Nat.dvd_mul_left _ _

theorem chk2 (i : ℕ) : k1_chk2 (r8 s i) := r8_dvd i
theorem off6 (u v : BitVec 32) : k1_off6 u v = ![(Scalar.indexCast u).toNat, (Scalar.indexCast v).toNat] := rfl
theorem cast_toNat {v : BitVec 32} (h : v.toNat < 2 ^ 31) : (Scalar.indexCast v).toNat = v.toNat := by
  unfold Scalar.indexCast
  first | rfl | (simp [BitVec.toNat_signExtend]; done) | skip

theorem off6_eq (hr : RowsOk s) (hl : LensOk nt) {i : ℕ} (hi : i < 1024) :
    k1_off6 (r8 s i) (cb nt s i) = ![row s i % 128 / 8 * 8, (col nt s i).toNat / 128 * 128] := by
  have h1 := col_lt hr hl hi.le
  rw [off6, cast_toNat (by rw [r8_toNat]; omega), cast_toNat (by rw [cb_toNat]; omega), r8_toNat, cb_toNat]

theorem chk3 (hr : RowsOk s) (hl : LensOk nt) {i : ℕ} (hi : i < 1024) : k1_chk3 (r8 s i) (cb nt s i) := by
  have h1 := col_lt hr hl hi.le
  refine ⟨cb_dvd i, ?_⟩
  rw [off6_eq hr hl hi]
  intro a
  match a with
  | 0 => show row s i % 128 / 8 * 8 + 8 ≤ 128; omega
  | 1 => show (col nt s i).toNat / 128 * 128 + 128 ≤ 8192; omega

/-! ## The loop's bounds -/

/-- The word of a number of tokens. -/
abbrev wd (n : ℕ) : BitVec 32 := BitVec.ofNat 32 n

theorem wd_toNat {n : ℕ} (h : n ≤ 1024) : (wd n).toNat = n := by
  rw [BitVec.toNat_ofNat]; exact Nat.mod_eq_of_lt (by omega)
theorem wd_toInt {n : ℕ} (h : n ≤ 1024) : (wd n).toInt = n := by
  rw [BitVec.toInt_eq_toNat_of_lt (by rw [wd_toNat h]; omega), wd_toNat h]

theorem ub_eq {a b : ℕ} (h : a ≤ b) (hb : b ≤ 1024) : (k1_t1_loop (wd a) (wd b)).ub = wd b := by
  show wd a + IntOp.divsi .scalar (wd b - wd a) 1#32 * 1#32 = wd b
  have h1 : wd b - wd a = wd (b - a) := by
    apply BitVec.eq_of_toNat_eq
    rw [BitVec.toNat_sub, wd_toNat hb, wd_toNat (h.trans hb), wd_toNat (by omega)]; omega
  have h2 : IntOp.divsi .scalar (wd (b - a)) 1#32 = wd (b - a) := by
    unfold IntOp.divsi
    rw [if_neg]
    · apply BitVec.eq_of_toInt_eq
      rw [BitVec.toInt_sdiv_of_ne_or_ne _ _ (.inr (by decide)), wd_toInt (by omega)]
      show (Int.tdiv _ 1) = _
      rw [Int.tdiv_one]
    · rintro (h | ⟨_, h⟩)
      · exact absurd h (by decide)
      · exact absurd h (by decide)
  rw [h1, h2, BitVec.mul_one]
  apply BitVec.eq_of_toNat_eq
  rw [BitVec.toNat_add, wd_toNat hb, wd_toNat (h.trans hb), wd_toNat (by omega)]; omega

theorem loop1_eq {a b : ℕ} (h : a ≤ b) (hb : b ≤ 1024) : k1_t1_loop (wd a) (wd b) = ⟨wd a, wd b, 1#32⟩ := by
  have := ub_eq h hb
  show (⟨wd a, (k1_t1_loop (wd a) (wd b)).ub, 1#32⟩ : Scf.Loop 32) = _
  rw [this]
theorem loop2_eq {a b : ℕ} (h : a ≤ b) (hb : b ≤ 1024) : k1_t2_loop (wd a) (wd b) = ⟨wd b, wd b, 1#32⟩ := by
  have := ub_eq h hb
  show (⟨(k1_t1_loop (wd a) (wd b)).ub, wd a + (wd b - wd a), 1#32⟩ : Scf.Loop 32) = _
  rw [this]
  congr 1
  apply BitVec.eq_of_toNat_eq
  rw [BitVec.toNat_add, BitVec.toNat_sub, wd_toNat hb, wd_toNat (h.trans hb)]; omega

theorem trips1 {a b : ℕ} (h : a ≤ b) (hb : b ≤ 1024) : (k1_t1_loop (wd a) (wd b)).trips = b - a := by
  rw [loop1_eq h hb]
  show (((wd b).toInt - (wd a).toInt + (1#32 : BitVec 32).toInt - 1) / (1#32 : BitVec 32).toInt).toNat = _
  rw [wd_toInt hb, wd_toInt (h.trans hb), show (1#32 : BitVec 32).toInt = 1 by decide]
  omega
theorem trips2 {a b : ℕ} (h : a ≤ b) (hb : b ≤ 1024) : (k1_t2_loop (wd a) (wd b)).trips = 0 := by
  rw [loop2_eq h hb]
  show (((wd b).toInt - (wd b).toInt + (1#32 : BitVec 32).toInt - 1) / (1#32 : BitVec 32).toInt).toNat = _
  rw [wd_toInt hb, show (1#32 : BitVec 32).toInt = 1 by decide]
  omega

theorem iv_eq {a k : ℕ} (h : a + k < 1024) : Scf.iv (wd a) 1#32 k = wd (a + k) := by
  unfold Scf.iv
  rw [BitVec.mul_one]
  apply BitVec.eq_of_toNat_eq
  have hk : (BitVec.ofNat 32 k).toNat = k := wd_toNat (by omega)
  rw [BitVec.toNat_add, hk, wd_toNat (n := a) (by omega), wd_toNat (n := a + k) (by omega)]; omega

theorem off_eq {a k : ℕ} (h : a + k < 1024) : ![(Scalar.indexCast (Scf.iv (wd a) 1#32 k)).toNat] = ![a + k] := by
  rw [iv_eq h, cast_toNat (by rw [wd_toNat (by omega)]; omega), wd_toNat (by omega)]

theorem chk1 {a b : ℕ} (h : a ≤ b) (hb : b ≤ 1024) : k1_chk1 (wd a) (wd b) := by
  have h1 := trips1 h hb
  have h2 := trips2 h hb
  have hoff : ∀ k : Fin (k1_t1_loop (wd a) (wd b)).trips, ∀ x : Fin 1,
      (![(Scalar.indexCast (Scf.iv (wd a) 1#32 k.val)).toNat] : Fin 1 → ℕ) x + S1.size x ≤ S1024.size x := by
    intro k x
    have hk : k.val < b - a := k.isLt.trans_eq h1
    rw [off_eq (by omega)]
    match x with
    | 0 => show a + k.val + 1 ≤ 1024; omega
  have h0 : 0 < (1#32 : BitVec 32).toInt := by decide
  refine ⟨⟨h0, ?_⟩, hoff, hoff, hoff, ⟨h0, ?_⟩, ?_, ?_, ?_⟩
  · show (wd a).toInt + ((k1_t1_loop (wd a) (wd b)).trips : ℤ) * (1#32 : BitVec 32).toInt < 2 ^ 31
    rw [h1, wd_toInt (h.trans hb), show (1#32 : BitVec 32).toInt = 1 by decide]; omega
  · show (k1_t2_loop (wd a) (wd b)).lb.toInt + ((k1_t2_loop (wd a) (wd b)).trips : ℤ) * (1#32 : BitVec 32).toInt < 2 ^ 31
    rw [h2, loop2_eq h hb]
    show (wd b).toInt + (0 : ℕ) * (1#32 : BitVec 32).toInt < 2 ^ 31
    rw [wd_toInt hb]; omega
  all_goals
    intro k
    exact absurd (k.isLt.trans_eq h2) (Nat.not_lt_zero _)

/-! ## The block -/

variable {α : Type}

/-- Block `b` of `T` once the tokens at places before `n` are written. -/
def blk (nt s : (A 1024).Idx → BitVec 32) (T : ℕ → ℕ → α) (v : ℕ → α) (b n : ℕ) : S128x8192.Idx → α :=
  fun i => written nt s T v (fun k => place s k < n) (128 * b + (i 0).val) (i 1).val

theorem bucket_of_row {b r i : ℕ} (hr : r < 128) (h : row s i = 128 * b + r) : bucket s i = b := by
  unfold bucket; rw [h]; omega

/-- No token of an earlier bucket goes to the block, -/
theorem blk_start (T : ℕ → ℕ → α) (v : ℕ → α) (b : ℕ) (i : S128x8192.Idx) :
    blk nt s T v b (first s b) i = T (128 * b + (i 0).val) (i 1).val := by
  refine written_miss fun k hk hp h1 _ => ?_
  have hb := bucket_of_row (i 0).isLt h1
  have := first_le_place (s := s) k
  rw [hb] at this
  exact absurd hp (Nat.not_lt.2 this)

/-- and none of a later one. -/
theorem blk_end (hr : RowsOk s) (hl : LensOk nt) (T : ℕ → ℕ → α) (v : ℕ → α) (b : ℕ) (i : S128x8192.Idx) :
    blk nt s T v b (first s (b + 1)) i = written nt s T v (fun _ => True) (128 * b + (i 0).val) (i 1).val := by
  refine written_congr hr hl (fun k hk h1 _ => ⟨fun _ => trivial, fun _ => ?_⟩) (fun _ _ => rfl) rfl
  have hb := bucket_of_row (i 0).isLt h1
  have := place_lt_first (s := s) hk
  rwa [hb] at this

/-- The token at a place of the block's bucket is of it. -/
theorem token_bucket {b n : ℕ} (h1 : first s b ≤ n) (h2 : n < first s (b + 1)) : bucket s (token s n) = b := by
  have hn : n < 1024 := h2.trans_le (first_le _)
  have hp := place_token (s := s) hn
  have ht := token_lt (s := s) hn
  rcases lt_trichotomy (bucket s (token s n)) b with h | h | h
  · have := (place_lt_first (s := s) ht).trans_le (first_mono h)
    omega
  · exact h
  · have := (first_mono (s := s) (show b + 1 ≤ bucket s (token s n) from h)).trans (first_le_place (token s n))
    omega

/-- The element `x` of the window of token `i`, -/
abbrev inWin (s nt : (A 1024).Idx → BitVec 32) (i : ℕ) (x : S8x128.Idx) (j : S128x8192.Idx) : Prop :=
  (j 0).val = row s i % 128 / 8 * 8 + (x 0).val ∧ (j 1).val = (col nt s i).toNat / 128 * 128 + (x 1).val

/-- One more token: inside its window -/
theorem blk_hit (hr : RowsOk s) (hl : LensOk nt) (T : ℕ → ℕ → α) (v : ℕ → α) {b n : ℕ} (h1 : first s b ≤ n) (h2 : n < first s (b + 1))
    (x : S8x128.Idx) (j : S128x8192.Idx) (hj : inWin s nt (token s n) x j) :
    blk nt s T v b (n + 1) j
      = if (x 0).val * 128 + (x 1).val = (sel nt s (token s n)).toNat then v (token s n) else blk nt s T v b n j := by
  have hn : n < 1024 := h2.trans_le (first_le _)
  have hb := token_bucket h1 h2
  have hP : ∀ k, k < 1024 → (place s k < n + 1 ↔ place s k < n ∨ k = token s n) := by
    intro k hk
    constructor
    · intro h
      rcases Nat.lt_succ_iff_lt_or_eq.1 h with h | h
      · exact .inl h
      · right; rw [← h, token_place hk]
    · rintro (h | h)
      · omega
      · rw [h, place_token hn]; omega
  have hx0 : (x 0).val < 8 := (x 0).isLt
  have hx1 : (x 1).val < 128 := (x 1).isLt
  have hrow : row s (token s n) = 128 * b + row s (token s n) % 128 := by
    unfold bucket at hb; omega
  unfold blk
  rw [written_step hr hl (token_lt hn) hP, sel_toNat]
  refine if_congr ?_ rfl rfl
  rw [hj.1, hj.2]
  constructor
  · rintro ⟨e1, e2⟩; omega
  · intro e; constructor <;> omega

/-- and outside it. -/
theorem blk_miss (hr : RowsOk s) (hl : LensOk nt) (T : ℕ → ℕ → α) (v : ℕ → α) {b n : ℕ} (h1 : first s b ≤ n) (h2 : n < first s (b + 1))
    (j : S128x8192.Idx) (hj : ∀ x : S8x128.Idx, ¬ inWin s nt (token s n) x j) : blk nt s T v b (n + 1) j = blk nt s T v b n j := by
  have hn : n < 1024 := h2.trans_le (first_le _)
  have hb := token_bucket h1 h2
  have hP : ∀ k, k < 1024 → row s k = 128 * b + (j 0).val → (col nt s k).toNat = (j 1).val → (place s k < n + 1 ↔ place s k < n) := by
    intro k hk e1 e2
    refine ⟨fun h => ?_, fun h => by omega⟩
    rcases Nat.lt_succ_iff_lt_or_eq.1 h with h | h
    · exact h
    · exfalso
      have hk' : k = token s n := by rw [← h, token_place hk]
      subst hk'
      have hj0 : (j 0).val < 128 := (j 0).isLt
      refine hj (fun a => match a with
        | 0 => ⟨row s (token s n) % 128 % 8, by show _ < 8; omega⟩
        | 1 => ⟨(col nt s (token s n)).toNat % 128, by show _ < 128; omega⟩) ⟨?_, ?_⟩
      · show (j 0).val = row s (token s n) % 128 / 8 * 8 + row s (token s n) % 128 % 8
        omega
      · show (j 1).val = (col nt s (token s n)).toNat / 128 * 128 + (col nt s (token s n)).toNat % 128
        omega
  unfold blk
  exact written_congr hr hl hP (fun _ _ => rfl) rfl

/-! ## The window's new contents -/

theorem pay1_toNat (x : S8x128.Idx) : (k1_pay1 x).toNat = (x 0).val * 128 + (x 1).val := by
  have hx0 : (x 0).val < 8 := (x 0).isLt
  have hx1 : (x 1).val < 128 := (x 1).isLt
  show (iota .tc S8x128 32 [0] iota_S8x128_d0_w32 x * 128#32 + iota .tc S8x128 32 [1] iota_S8x128_d1_w32 x).toNat = _
  rw [iota_single_apply, iota_single_apply]
  simp only [BitVec.toNat_add, BitVec.toNat_mul, BitVec.toNat_ofNat]
  omega

theorem pay2_apply (w : BitVec 32) (x : S8x128.Idx) :
    k1_pay2 (F := F) w x = if (x 0).val * 128 + (x 1).val = w.toNat then 1#1 else 0#1 := by
  rw [← pay1_toNat]
  show IntOp.cmpi .eq (k1_pay1 x) w = _
  unfold IntOp.cmpi
  by_cases h : k1_pay1 x = w
  · simp [h]
  · have : (k1_pay1 x).toNat ≠ w.toNat := fun e => h (BitVec.eq_of_toNat_eq e)
    have hb : (k1_pay1 x == w) = false := beq_eq_false_iff_ne.2 h
    simp [hb, this]

theorem pay3_apply (w : BitVec 32) (g : Vec F S8x128 .i32) (a : BitVec 32) (x : S8x128.Idx) :
    k1_pay3 (F := F) w g a x = if (x 0).val * 128 + (x 1).val = w.toNat then a else g x := by
  show (if k1_pay2 (F := F) w x = 1 then a else shapeCast S8x128 g shapeCasts_S8x128_S8x128 x) = _
  rw [pay2_apply, shapeCast_self]
  by_cases h : (x 0).val * 128 + (x 1).val = w.toNat
  · simp [h]
  · simp [h]

theorem pay4_apply (w : BitVec 32) (g : Vec F S8x128 .f32) (a : F .f32) (x : S8x128.Idx) :
    k1_pay4 (F := F) w g a x = if (x 0).val * 128 + (x 1).val = w.toNat then a else g x := by
  show (if k1_pay2 (F := F) w x = 1 then a else shapeCast S8x128 g shapeCasts_S8x128_S8x128 x) = _
  rw [pay2_apply, shapeCast_self]
  by_cases h : (x 0).val * 128 + (x 1).val = w.toNat
  · simp [h]
  · simp [h]

end Cert.Proof.Blocks

end
-- ==== Proof.TcBody.lean ====
/-
  The TensorCore's body at one grid point: it copies the point's block of 128 rows, then writes the tokens of the point's
  bucket one by one, each into its element of a window of 8 rows by 128 columns.
-/
module

public import proofs.«01_k».proof.Proof.Blocks

@[expose] public section

noncomputable section

namespace Cert.Proof.TcBody

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.Plan Cert.Proof.Setup Cert.Proof.Tables Cert.Proof.Blocks

variable {F : FTy → Type} [FloatOps F]

local notation "𝕄" => MT nD τ sig (HIx 1) (Elt F) ℕ UU ℕ

variable {d : Dev nD} {α : Type} {S : Shape} {e : EltTy}

/-! ## Loads and stores through a memref, by what is read through it -/

/-- A load of a rectangle. -/
theorem wp_ld {cs : CoreSpace} (M : Memref sig .tc cs S e) (r : Rect S) {hl : M.view.LoadsAt r} {q : PosShare TreeShare}
    {Q : α → sProp 𝕄} {k : (r.shape.Idx → Elt F e) → Prog (TpuEff nD τ sig (Elt F) Λ₀ .tc) α}
    (X : S.Idx → Elt F e) :
    (ownsTc d M q X : sProp 𝕄)
      ⊢ iprop((ownsTc d M q X -∗ wp frame (wpE (defs₀ (F := F)) 𝒱₀ d.tc none) Set.univ (k fun x => X (r.emb x)) Q)
        -∗ wp frame (wpE (defs₀ (F := F)) 𝒱₀ d.tc none) Set.univ (Prog.lift (.load M r.toLoadRect hl) >>= k) Q) := by
  have hS : (M.access r).set ⊆ M.view.set := View.set_slice_subset _ _
  unfold ownsTc owns
  iintro ⟨%f, %hf, H⟩ Hk
  subst hf
  iapply (wp_load_rect (defs := defs₀ (F := F)) (c := d.tc) (m := M) (r := r) (hl := hl) (k := k) (q := q) (f := f) (Q := Q) 𝒱₀ none Set.univ hS) $$ H
  iintro H
  iapply Hk
  iexists f
  isplitr
  · ipureintro; rfl
  · iexact H

/-- A load of one word. -/
theorem wp_word (M : Memref sig .tc .smem S e) (r : Rect S) {h1 : r.shape.numel = 1} {hp : e.packing = 1} {q : PosShare TreeShare}
    {Q : α → sProp 𝕄} {k : Elt F e → Prog (TpuEff nD τ sig (Elt F) Λ₀ .tc) α}
    (X : S.Idx → Elt F e) (v : Elt F e) (hv : ∀ x, X (r.emb x) = v) :
    (ownsTc d M q X : sProp 𝕄)
      ⊢ iprop((ownsTc d M q X -∗ wp frame (wpE (defs₀ (F := F)) 𝒱₀ d.tc none) Set.univ (k v) Q)
        -∗ wp frame (wpE (defs₀ (F := F)) 𝒱₀ d.tc none) Set.univ (smemLoad M r h1 hp >>= k) Q) := by
  have h := fun hl => wp_ld (d := d) M r (hl := hl) (q := q) (Q := Q) (k := fun f => k (f (Shape.Idx.first (h1.symm ▸ Nat.one_pos)))) X
  simp only [hv] at h
  exact h _

/-- A store of a rectangle. -/
theorem wp_st {cs : CoreSpace} (M : Memref sig .tc cs S e) (r : Rect S) {w : r.shape.Idx → Elt F e} {hx : (M.access r).Stores Finset.univ}
    {hm : (Finset.univ : Finset r.shape.Idx) = Finset.univ ∨ ∀ a, r.stride a = 1}
    {Q : α → sProp 𝕄} {k : PUnit → Prog (TpuEff nD τ sig (Elt F) Λ₀ .tc) α}
    (X X' : S.Idx → Elt F e) (hit : ∀ x, X' (r.emb x) = w x) (miss : ∀ j, (∀ x, r.emb x ≠ j) → X' j = X j) :
    (ownsTc d M fullShare X : sProp 𝕄)
      ⊢ iprop((ownsTc d M fullShare X' -∗ wp frame (wpE (defs₀ (F := F)) 𝒱₀ d.tc none) Set.univ (k ⟨⟩) Q)
        -∗ wp frame (wpE (defs₀ (F := F)) 𝒱₀ d.tc none) Set.univ (Prog.lift (.store M r w Finset.univ hx hm) >>= k) Q) := by
  have hS : (M.access r).setOn Finset.univ ⊆ M.view.set := by rw [View.setOn_univ]; exact View.set_slice_subset _ _
  unfold ownsTc owns
  iintro ⟨%f, %hf, H⟩ Hk
  subst hf
  iapply (wp_store (defs := defs₀ (F := F)) (c := d.tc) (m := M) (r := r) (w := w) (Mk := Finset.univ) (hx := hx) (hm := hm) (k := k) (f := f) (Q := Q) 𝒱₀ none Set.univ hS) $$ H
  iintro H
  iapply Hk
  iexists ((M.access r).write (Elt F) f w Finset.univ)
  isplitr
  · ipureintro
    funext j
    by_cases hj : ∃ x, r.emb x = j
    · obtain ⟨x, rfl⟩ := hj
      rw [hit]
      exact congrFun (View.read_write_univ (v := M.access r) (Val := Elt F) f w) x
    · rw [miss j fun x hx => hj ⟨x, hx⟩, View.read_apply, View.read_apply, View.write_of_not_mem]
      rw [View.setOn_univ]
      intro hm
      obtain ⟨x, -, hx⟩ := Finset.mem_map.mp hm
      exact hj ⟨x, M.view.emb.injective hx⟩
  · iexact H

/-- An assumption that holds. -/
theorem wp_as {P : Prop} {dp : Decidable P} {Q : α → sProp 𝕄} {k : PLift P → Prog (TpuEff nD τ sig (Elt F) Λ₀ .tc) α} (h : P) :
    wp frame (wpE (defs₀ (F := F)) 𝒱₀ d.tc none) Set.univ (k ⟨h⟩) Q
      ⊢ (wp frame (wpE (defs₀ (F := F)) 𝒱₀ d.tc none) Set.univ (Prog.lift (.assume P dp) >>= k) Q : sProp 𝕄) :=
  Entails.of_eq (wp_assume_of (defs := defs₀ (F := F)) (c := d.tc) (k := k) (Q := Q) 𝒱₀ none Set.univ h).symm

/-! ## Rectangles -/

theorem one_emb {N n : ℕ} {off : Fin 1 → ℕ} (h : off = ![n]) (hn : n < N + 1) (inb : ∀ a, off a + S1.size a ≤ (A (N + 1)).size a) (x : S1.Idx) :
    (Rect.unit (s := A (N + 1)) off S1.size inb).emb x = ix n := by
  have hx : (x 0).val < 1 := (x 0).isLt
  apply ix_ext
  rw [ix_val hn]
  show off 0 + 1 * (x 0).val = n
  rw [h]
  show n + 1 * (x 0).val = n
  omega

theorem all_emb (x : S128x8192.Idx) : (Rect.unit (s := S128x8192) ![0, 0] S128x8192.size inb_S128x8192_S128x8192_0_0).emb x = x := by
  funext a
  match a with
  | 0 => exact Fin.ext (show 0 + 1 * (x 0).val = (x 0).val by omega)
  | 1 => exact Fin.ext (show 0 + 1 * (x 1).val = (x 1).val by omega)

theorem win_emb {off : Fin 2 → ℕ} {u v : ℕ} (h : off = ![u, v]) (inb : ∀ a, off a + S8x128.size a ≤ S128x8192.size a) (x : S8x128.Idx) :
    (((Rect.unit (s := S128x8192) off S8x128.size inb).emb x) 0).val = u + (x 0).val
      ∧ (((Rect.unit (s := S128x8192) off S8x128.size inb).emb x) 1).val = v + (x 1).val := by
  constructor
  · show off 0 + 1 * (x 0).val = _
    rw [h, Nat.one_mul]; rfl
  · show off 1 + 1 * (x 1).val = _
    rw [h, Nat.one_mul]; rfl

/-! ## The tables, as the body reads them -/

variable (nt s tk : (A 1024).Idx → BitVec 32) (lp : (A 1024).Idx → Elt F .f32)

abbrev tStarts : S16.Idx → Elt F .i32 := starts s
abbrev tR8 : S1024.Idx → Elt F .i32 := fun p => r8 s (token s (p 0).val)
abbrev tCb : S1024.Idx → Elt F .i32 := fun p => cb nt s (token s (p 0).val)
abbrev tSel : S1024.Idx → Elt F .i32 := fun p => sel nt s (token s (p 0).val)
abbrev tTok : S1024.Idx → Elt F .i32 := fun p => tk (ix (token s (p 0).val))
abbrev tLp : S1024.Idx → Elt F .f32 := fun p => lp (ix (token s (p 0).val))

variable {nt s tk lp}

theorem tab_at {β : Type} (f : ℕ → β) {n : ℕ} {off : Fin 1 → ℕ} (h : off = ![n]) (hn : n < 1024)
    (inb : ∀ a, off a + S1.size a ≤ S1024.size a) (x : S1.Idx) :
    (fun p : S1024.Idx => f (token s (p 0).val)) ((Rect.unit (s := S1024) off S1.size inb).emb x) = f (token s n) := by
  show f (token s (((Rect.unit (s := A (1023 + 1)) off S1.size inb).emb x) 0).val) = _
  rw [one_emb h hn inb x, ix_val hn]

theorem starts_at {n : ℕ} {off : Fin 1 → ℕ} (h : off = ![n]) (hn : n < 16) (inb : ∀ a, off a + S1.size a ≤ S16.size a) (x : S1.Idx) :
    tStarts (F := F) s ((Rect.unit (s := S16) off S1.size inb).emb x) = wd (first s n) := by
  show BitVec.ofNat 32 (first s (((Rect.unit (s := A (15 + 1)) off S1.size inb).emb x) 0).val) = _
  rw [one_emb h hn inb x, ix_val hn]

/-! ## The body -/

variable (M1 : Memref sig .tc .smem S16 .i32) (M2 M3 M4 M5 : Memref sig .tc .smem S1024 .i32) (M6 : Memref sig .tc .smem S1024 .f32)
  (M7 : Memref sig .tc .vmem S128x8192 .i32) (M8 : Memref sig .tc .vmem S128x8192 .f32)
  (M9 : Memref sig .tc .vmem S128x8192 .i32) (M10 : Memref sig .tc .vmem S128x8192 .f32)

variable (d nt s tk lp)

/-- The tables of the tokens of one bucket, and the two blocks with the tokens at places before `n` written. -/
def inv (T : ℕ → ℕ → Elt F .i32) (P : ℕ → ℕ → Elt F .f32) (b n : ℕ) : sProp 𝕄 :=
  iprop(ownsTc d M2 fullShare (tR8 (F := F) s) ∗ ownsTc d M3 fullShare (tCb (F := F) nt s) ∗ ownsTc d M4 fullShare (tSel (F := F) nt s)
    ∗ ownsTc d M5 fullShare (tTok (F := F) s tk) ∗ ownsTc d M6 fullShare (tLp s lp)
    ∗ ownsTc d M9 fullShare (blk nt s T (fun i => tk (ix i)) b n) ∗ ownsTc d M10 fullShare (blk nt s P (fun i => lp (ix i)) b n))

variable {d nt s tk lp}

/-- One token. -/
theorem trip (hr : RowsOk s) (hl : LensOk nt) (T : ℕ → ℕ → Elt F .i32) (P : ℕ → ℕ → Elt F .f32) (b : ℕ) (i : grid1.Coords)
    (h1 : M1.IsWhole) (h2 : M2.IsWhole) (h3 : M3.IsWhole) (h4 : M4.IsWhole) (h5 : M5.IsWhole) (h6 : M6.IsWhole) (h7 : M7.IsWhole)
    (h8 : M8.IsWhole) (h9 : M9.IsWhole) (h10 : M10.IsWhole) (hw : k1_chk1 (wd (first s b)) (wd (first s (b + 1))))
    (k : Fin (k1_t1_loop (wd (first s b)) (wd (first s (b + 1)))).trips) (a : BitVec 32) :
    inv d nt s tk lp M2 M3 M4 M5 M6 M9 M10 T P b (first s b + k.val) ⊢ wp frame (wpE (defs₀ (F := F)) 𝒱₀ d.tc none) Set.univ
      (k1_t1_body (F := F) i M1 h1 M2 h2 M3 h3 M4 h4 M5 h5 M6 h6 M7 h7 M8 h8 M9 h9 M10 h10 (wd (first s b)) (wd (first s (b + 1))) hw k a)
      (fun _ => inv d nt s tk lp M2 M3 M4 M5 M6 M9 M10 T P b (first s b + (k.val + 1))) := by
  have hk : k.val < first s (b + 1) - first s b := k.isLt.trans_eq (trips1 (first_mono (Nat.le_succ b)) (first_le _))
  have hn1 : first s b ≤ first s b + k.val := Nat.le_add_right _ _
  have hn2 : first s b + k.val < first s (b + 1) := by omega
  have hn : first s b + k.val < 1024 := hn2.trans_le (first_le _)
  have hoff : ![(Scalar.indexCast (Scf.iv (wd (first s b)) 1#32 k.val)).toNat] = ![first s b + k.val] := off_eq hn
  have ht := token_lt (s := s) hn
  have ho6 := off6_eq (nt := nt) hr hl ht
  have hc3 := chk3 (nt := nt) hr hl ht
  unfold k1_t1_body inv
  iintro ⟨H2, H3, H4, H5, H6, H9, H10⟩
  iapply (wp_word (d := d) M2 _ _ (r8 s (token s (first s b + k.val))) (tab_at (r8 s) hoff hn _)) $$ H2
  iintro H2
  iapply (wp_as (d := d) (h := chk2 (token s (first s b + k.val))))
  iapply (wp_word (d := d) M3 _ _ (cb nt s (token s (first s b + k.val))) (tab_at (cb nt s) hoff hn _)) $$ H3
  iintro H3
  iapply (wp_as (d := d) (h := hc3))
  iapply (wp_word (d := d) M4 _ _ (sel nt s (token s (first s b + k.val))) (tab_at (sel nt s) hoff hn _)) $$ H4
  iintro H4
  iapply (wp_ld (d := d) M9 _ _) $$ H9
  iintro H9
  iapply (wp_word (d := d) M5 _ _ (tk (ix (token s (first s b + k.val)))) (tab_at (fun i => tk (ix i)) hoff hn _)) $$ H5
  iintro H5
  iapply (wp_ld (d := d) M9 _ _) $$ H9
  iintro H9
  iapply (wp_st (d := d) M9 _ _ (blk nt s T (fun i => tk (ix i)) b (first s b + k.val + 1)) (fun x => by
    rw [pay3_apply, blk_hit hr hl T _ hn1 hn2 x _ (win_emb ho6 _ x)]) (fun j hj => by
    refine blk_miss hr hl T _ hn1 hn2 j fun x hx => hj x ?_
    have := win_emb ho6 (k1_off6_inb _ _ hc3) x
    exact Shape.idx_ext₂ (this.1.trans hx.1.symm) (this.2.trans hx.2.symm))) $$ H9
  iintro H9
  iapply (wp_ld (d := d) M10 _ _) $$ H10
  iintro H10
  iapply (wp_word (d := d) M6 _ _ (lp (ix (token s (first s b + k.val)))) (tab_at (fun i => lp (ix i)) hoff hn _)) $$ H6
  iintro H6
  iapply (wp_ld (d := d) M10 _ _) $$ H10
  iintro H10
  iapply (wp_st (d := d) M10 _ _ (blk nt s P (fun i => lp (ix i)) b (first s b + k.val + 1)) (fun x => by
    rw [pay4_apply, blk_hit hr hl P _ hn1 hn2 x _ (win_emb ho6 _ x)]) (fun j hj => by
    refine blk_miss hr hl P _ hn1 hn2 j fun x hx => hj x ?_
    have := win_emb ho6 (k1_off6_inb _ _ hc3) x
    exact Shape.idx_ext₂ (this.1.trans hx.1.symm) (this.2.trans hx.2.symm))) $$ H10
  iintro H10
  sl_step
  rw [← Nat.add_assoc]
  iframe

/-- The body at point `i`: from the tables and block `i` of the two arrays to the two blocks with every token of theirs written. -/
theorem body (hr : RowsOk s) (hl : LensOk nt) (T : ℕ → ℕ → Elt F .i32) (P : ℕ → ℕ → Elt F .f32) (i : grid1.Coords)
    (h1 : M1.IsWhole) (h2 : M2.IsWhole) (h3 : M3.IsWhole) (h4 : M4.IsWhole) (h5 : M5.IsWhole) (h6 : M6.IsWhole) (h7 : M7.IsWhole)
    (h8 : M8.IsWhole) (h9 : M9.IsWhole) (h10 : M10.IsWhole)
    (X7 : S128x8192.Idx → Elt F .i32) (X8 : S128x8192.Idx → Elt F .f32)
    (hX7 : ∀ j, X7 j = T (128 * (i 0).val + (j 0).val) (j 1).val) (hX8 : ∀ j, X8 j = P (128 * (i 0).val + (j 0).val) (j 1).val)
    (X9 : S128x8192.Idx → Elt F .i32) (X10 : S128x8192.Idx → Elt F .f32) :
    iprop(ownsTc d M1 fullShare (tStarts (F := F) s) ∗ ownsTc d M2 fullShare (tR8 (F := F) s) ∗ ownsTc d M3 fullShare (tCb (F := F) nt s)
        ∗ ownsTc d M4 fullShare (tSel (F := F) nt s) ∗ ownsTc d M5 fullShare (tTok (F := F) s tk) ∗ ownsTc d M6 fullShare (tLp s lp)
        ∗ ownsTc d M7 fullShare X7 ∗ ownsTc d M8 fullShare X8 ∗ ownsTc d M9 fullShare X9 ∗ ownsTc d M10 fullShare X10)
      ⊢ (wp frame (wpE (defs₀ (F := F)) 𝒱₀ d.tc none) Set.univ
          (cc1__tc_apply_body (F := F) i M1 h1 M2 h2 M3 h3 M4 h4 M5 h5 M6 h6 M7 h7 M8 h8 M9 h9 M10 h10)
          fun _ => iprop(ownsTc d M1 fullShare (tStarts (F := F) s) ∗ ownsTc d M2 fullShare (tR8 (F := F) s) ∗ ownsTc d M3 fullShare (tCb (F := F) nt s)
            ∗ ownsTc d M4 fullShare (tSel (F := F) nt s) ∗ ownsTc d M5 fullShare (tTok (F := F) s tk) ∗ ownsTc d M6 fullShare (tLp s lp)
            ∗ ownsTc d M7 fullShare X7 ∗ ownsTc d M8 fullShare X8
            ∗ ownsTc d M9 fullShare (fun j => written nt s T (fun i => tk (ix i)) (fun _ => True) (128 * (i 0).val + (j 0).val) (j 1).val)
            ∗ ownsTc d M10 fullShare (fun j => written nt s P (fun i => lp (ix i)) (fun _ => True) (128 * (i 0).val + (j 0).val) (j 1).val)) : sProp 𝕄) := by
  have hi : (i 0).val < 8 := (i 0).isLt
  have hb := first_mono (s := s) (Nat.le_succ (i 0).val)
  have htr := trips1 hb (first_le _)
  have htr2 := trips2 hb (first_le _)
  rw [cc1__tc_apply_body_eq_skeleton]; unfold cc1__tc_apply_body_skel
  iintro ⟨H1, H2, H3, H4, H5, H6, H7, H8, H9, H10⟩
  iapply (wp_ld (d := d) M7 _ _) $$ H7
  iintro H7
  iapply (wp_ld (d := d) M9 _ _) $$ H9
  iintro H9
  iapply (wp_st (d := d) M9 _ _ (blk nt s T (fun i => tk (ix i)) (i 0).val (first s (i 0).val)) (fun x => by
    rw [blk_start, all_emb]; exact (hX7 x).symm) (fun j hj => absurd (all_emb j) (hj j))) $$ H9
  iintro H9
  iapply (wp_ld (d := d) M8 _ _) $$ H8
  iintro H8
  iapply (wp_ld (d := d) M10 _ _) $$ H10
  iintro H10
  iapply (wp_st (d := d) M10 _ _ (blk nt s P (fun i => lp (ix i)) (i 0).val (first s (i 0).val)) (fun x => by
    rw [blk_start, all_emb]; exact (hX8 x).symm) (fun j hj => absurd (all_emb j) (hj j))) $$ H10
  iintro H10
  iapply (wp_word (d := d) M1 _ _ (wd (first s (i 0).val)) (starts_at (k1_off1_eq i) (by omega) _)) $$ H1
  iintro H1
  iapply (wp_word (d := d) M1 _ _ (wd (first s ((i 0).val + 1))) (starts_at (k1_off2_eq i) (by omega) _)) $$ H1
  iintro H1
  iapply (wp_as (d := d) (h := chk1 hb (first_le _)))
  dsimp only
  sl_for (fun n _ => inv d nt s tk lp M2 M3 M4 M5 M6 M9 M10 T P (i 0).val (first s (i 0).val + n)) $$ [H2 H3 H4 H5 H6 H9 H10]
  case region => exact fun k a => trip M1 M2 M3 M4 M5 M6 M7 M8 M9 M10 hr hl T P (i 0).val i h1 h2 h3 h4 h5 h6 h7 h8 h9 h10 _ k a
  · unfold inv
    rw [Nat.add_zero]
    iframe
  iintro %_ Hinv
  have htr' : Scf.trips (k1_t1_loop (wd (first s (i 0).val)) (wd (first s ((i 0).val + 1)))).lb
      (k1_t1_loop (wd (first s (i 0).val)) (wd (first s ((i 0).val + 1)))).ub
      (k1_t1_loop (wd (first s (i 0).val)) (wd (first s ((i 0).val + 1)))).st = first s ((i 0).val + 1) - first s (i 0).val := htr
  rw [htr', Nat.add_sub_cancel' hb]
  sl_for (fun _ _ => inv d nt s tk lp M2 M3 M4 M5 M6 M9 M10 T P (i 0).val (first s ((i 0).val + 1))) $$ [Hinv]
  case region => exact fun k _ => absurd (k.isLt.trans_eq htr2) (Nat.not_lt_zero _)
  · iexact Hinv
  iintro %_ Hinv
  unfold inv
  rw [show (blk nt s T (fun i => tk (ix i)) (i 0).val (first s ((i 0).val + 1))) = fun j => written nt s T (fun i => tk (ix i)) (fun _ => True) (128 * (i 0).val + (j 0).val) (j 1).val from funext fun j => blk_end hr hl T _ _ j,
    show (blk nt s P (fun i => lp (ix i)) (i 0).val (first s ((i 0).val + 1))) = fun j => written nt s P (fun i => lp (ix i)) (fun _ => True) (128 * (i 0).val + (j 0).val) (j 1).val from funext fun j => blk_end hr hl P _ _ j]
  icases Hinv with ⟨H2, H3, H4, H5, H6, H9, H10⟩
  sl_step
  iframe

end Cert.Proof.TcBody

end
-- ==== Proof.Region.lean ====
/-
  The TensorCore's kernel over its eight grid points, from the tables and the two arrays to the two results: each point fetches
  the tables and its block of the arrays and flushes its block of the results.
-/
module

public import Idealize.ShloMosaic.Lib.Pipeline.RegionsLoop
public import Idealize.ShloMosaic.Lib.Pipeline.ValueKit
public import proofs.«01_k».proof.Proof.Gen.KernelIdeal.Launch
public import proofs.«01_k».proof.Proof.Gen.KernelIdeal.Points
public import proofs.«01_k».proof.Proof.TcBody

@[expose] public section

noncomputable section

namespace Cert.Proof.Region

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)
open Cert.Proof.Plan Cert.Proof.Setup Cert.Proof.Tables Cert.Proof.Blocks

variable {F : FTy → Type} [FloatOps F]

local notation "𝕄" => MT nD τ sig (HIx 1) (Elt F) ℕ UU ℕ

/-- What every buffer of a device's TensorCore holds. -/
abbrev Vals : Type := (c : Dev nD) → (b : Ref sig .tc) → Buf (Elt F) ((c : Thread nD τ).loc b)

/-- The element at row `r` and column `c` of one of the two arrays. -/
def ix2 (r c : ℕ) : S1024x8192.Idx := fun a => match a with
  | ⟨0, _⟩ => ⟨r % 1024, Nat.mod_lt _ (show 0 < 1024 by decide)⟩
  | ⟨1, _⟩ => ⟨c % 8192, Nat.mod_lt _ (show 0 < 8192 by decide)⟩

theorem ix2_eq (j : S1024x8192.Idx) : ix2 (j 0).val (j 1).val = j := by
  have h0 : (j 0).val < 1024 := (j 0).isLt
  have h1 : (j 1).val < 8192 := (j 1).isLt
  exact Shape.idx_ext₂ (Nat.mod_eq_of_lt h0) (Nat.mod_eq_of_lt h1)

variable (nt s tk : Dev nD → (A 1024).Idx → BitVec 32) (lp : (c : Dev nD) → (A 1024).Idx → Elt F .f32)
variable (V : Vals (F := F))

/-- The tables are the tokens' plan. -/
structure Planned : Prop where
  starts c : V c main_v0_1 = TcBody.tStarts (F := F) (s c)
  r8 c : V c main_v0_2 = TcBody.tR8 (F := F) (s c)
  cb c : V c main_v0_3 = TcBody.tCb (F := F) (nt c) (s c)
  sel c : V c main_v0_4 = TcBody.tSel (F := F) (nt c) (s c)
  tok c : V c main_v0_5 = TcBody.tTok (F := F) (s c) (tk c)
  lps c : V c main_v0_6 = TcBody.tLp (F := F) (s c) (lp c)

/-- The array of tokens with every token written, -/
def newTok (c : Dev nD) : S1024x8192.Idx → Elt F .i32 :=
  fun j => written (nt c) (s c) (fun r k => V c main_arg0 (ix2 r k)) (fun i => tk c (ix i)) (fun _ => True) (j 0).val (j 1).val
/-- and the array of logarithms. -/
def newLp (c : Dev nD) : S1024x8192.Idx → Elt F .f32 :=
  fun j => written (nt c) (s c) (fun r k => V c main_arg1 (ix2 r k)) (fun i => lp c (ix i)) (fun _ => True) (j 0).val (j 1).val

/-! ## The proof data -/

abbrev Φc (c : Dev nD) : sProp 𝕄 := Pipeline.scopedRest (Ix := HIx 1) (Name := ℕ) (U := UU) (Lvl := ℕ) (Val := Elt F) spec1 c

/-- Block `t` of one of the two arrays' results. -/
def outTok (c : Dev nD) (t : Fin cfg1.N) : S128x8192.Idx → Elt F .i32 :=
  fun j => written (nt c) (s c) (fun r k => V c main_arg0 (ix2 r k)) (fun i => tk c (ix i)) (fun _ => True) (128 * (grid1.coords t 0).val + (j 0).val) (j 1).val
def outLp (c : Dev nD) (t : Fin cfg1.N) : S128x8192.Idx → Elt F .f32 :=
  fun j => written (nt c) (s c) (fun r k => V c main_arg1 (ix2 r k)) (fun i => lp c (ix i)) (fun _ => True) (128 * (grid1.coords t 0).val + (j 0).val) (j 1).val

/-! The eight read windows' blocks of their arrays, as the kernel finds them. -/

abbrev blk0 (c : Dev nD) (t : Fin cfg1.N) : S16.Idx → Elt F .i32 := ((cfg1.win 0).blk t).view.read (Elt F) (V c main_v0_1)
abbrev blk1 (c : Dev nD) (t : Fin cfg1.N) : S1024.Idx → Elt F .i32 := ((cfg1.win 1).blk t).view.read (Elt F) (V c main_v0_2)
abbrev blk2 (c : Dev nD) (t : Fin cfg1.N) : S1024.Idx → Elt F .i32 := ((cfg1.win 2).blk t).view.read (Elt F) (V c main_v0_3)
abbrev blk3 (c : Dev nD) (t : Fin cfg1.N) : S1024.Idx → Elt F .i32 := ((cfg1.win 3).blk t).view.read (Elt F) (V c main_v0_4)
abbrev blk4 (c : Dev nD) (t : Fin cfg1.N) : S1024.Idx → Elt F .i32 := ((cfg1.win 4).blk t).view.read (Elt F) (V c main_v0_5)
abbrev blk5 (c : Dev nD) (t : Fin cfg1.N) : S1024.Idx → Elt F .f32 := ((cfg1.win 5).blk t).view.read (Elt F) (V c main_v0_6)
abbrev blk6 (c : Dev nD) (t : Fin cfg1.N) : S128x8192.Idx → Elt F .i32 := ((cfg1.win 6).blk t).view.read (Elt F) (V c main_arg0)
abbrev blk7 (c : Dev nD) (t : Fin cfg1.N) : S128x8192.Idx → Elt F .f32 := ((cfg1.win 7).blk t).view.read (Elt F) (V c main_arg1)

/-- The waits a TensorCore may have recorded: none is above the handshakes of the one call. -/
def below (c : Dev nD) : Set (SemLoc sig × HIx 1) := {p | (K (F := F)).lev ((c : Thread nD τ), p.1) p.2 ≤ 8}

/-- The proof data: the arrays as found, the read windows' buffers as fetched and the others' the results' blocks. -/
def dat (c : Dev nD) : Dat τ (Elt F) (HIx 1) ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => blk6 V c t
    | ⟨7, _⟩ => blk7 V c t
    | ⟨8, _⟩ => outTok nt s tk V c t
    | ⟨9, _⟩ => outLp nt s lp V c t
  Φ _ := Φc c
  q _ := fullShare
  owed _ := 0
  recorded _ := below (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat nt s tk lp V c

/-! ## The blocks -/

theorem idx_tab : ∀ t : Fin grid1.N, win1_0.index t (0 : Fin 1) = 0 ∧ win1_1.index t (0 : Fin 1) = 0 ∧ win1_2.index t (0 : Fin 1) = 0
    ∧ win1_3.index t (0 : Fin 1) = 0 ∧ win1_4.index t (0 : Fin 1) = 0 ∧ win1_5.index t (0 : Fin 1) = 0 := by decide +kernel
theorem idx_arr : ∀ t : Fin grid1.N, win1_6.index t (0 : Fin 2) = (grid1.coords t 0).val ∧ win1_6.index t (1 : Fin 2) = 0
    ∧ win1_7.index t (0 : Fin 2) = (grid1.coords t 0).val ∧ win1_7.index t (1 : Fin 2) = 0
    ∧ win1_8.index t (0 : Fin 2) = (grid1.coords t 0).val ∧ win1_8.index t (1 : Fin 2) = 0
    ∧ win1_9.index t (0 : Fin 2) = (grid1.coords t 0).val ∧ win1_9.index t (1 : Fin 2) = 0 := by decide +kernel

theorem emb_0 (t : Fin cfg1.N) (j : S16.Idx) : ((cfg1.win 0).blk t).view.emb j = j := by
  have e := (idx_tab t).1
  funext a; apply Fin.ext
  match a with
  | ⟨0, _⟩ => show win1_0.index t (0 : Fin 1) * 16 + 1 * (j 0).val = (j 0).val; omega
theorem emb_1 (t : Fin cfg1.N) (j : S1024.Idx) : ((cfg1.win 1).blk t).view.emb j = j := by
  have e := (idx_tab t).2.1
  funext a; apply Fin.ext
  match a with
  | ⟨0, _⟩ => show win1_1.index t (0 : Fin 1) * 1024 + 1 * (j 0).val = (j 0).val; omega
theorem emb_2 (t : Fin cfg1.N) (j : S1024.Idx) : ((cfg1.win 2).blk t).view.emb j = j := by
  have e := (idx_tab t).2.2.1
  funext a; apply Fin.ext
  match a with
  | ⟨0, _⟩ => show win1_2.index t (0 : Fin 1) * 1024 + 1 * (j 0).val = (j 0).val; omega
theorem emb_3 (t : Fin cfg1.N) (j : S1024.Idx) : ((cfg1.win 3).blk t).view.emb j = j := by
  have e := (idx_tab t).2.2.2.1
  funext a; apply Fin.ext
  match a with
  | ⟨0, _⟩ => show win1_3.index t (0 : Fin 1) * 1024 + 1 * (j 0).val = (j 0).val; omega
theorem emb_4 (t : Fin cfg1.N) (j : S1024.Idx) : ((cfg1.win 4).blk t).view.emb j = j := by
  have e := (idx_tab t).2.2.2.2.1
  funext a; apply Fin.ext
  match a with
  | ⟨0, _⟩ => show win1_4.index t (0 : Fin 1) * 1024 + 1 * (j 0).val = (j 0).val; omega
theorem emb_5 (t : Fin cfg1.N) (j : S1024.Idx) : ((cfg1.win 5).blk t).view.emb j = j := by
  have e := (idx_tab t).2.2.2.2.2
  funext a; apply Fin.ext
  match a with
  | ⟨0, _⟩ => show win1_5.index t (0 : Fin 1) * 1024 + 1 * (j 0).val = (j 0).val; omega

/-- Where element `j` of block `t` is in the array. -/
def at2 (t : Fin cfg1.N) (j : S128x8192.Idx) : S1024x8192.Idx := ix2 (128 * (grid1.coords t 0).val + (j 0).val) (j 1).val

theorem at2_val (t : Fin cfg1.N) (j : S128x8192.Idx) :
    (at2 t j 0).val = 128 * (grid1.coords t 0).val + (j 0).val ∧ (at2 t j 1).val = (j 1).val := by
  have hc : (grid1.coords t 0).val < 8 := (grid1.coords t 0).isLt
  have h0 : (j 0).val < 128 := (j 0).isLt
  have h1 : (j 1).val < 8192 := (j 1).isLt
  exact ⟨Nat.mod_eq_of_lt (by omega), Nat.mod_eq_of_lt h1⟩

theorem emb_6 (t : Fin cfg1.N) (j : S128x8192.Idx) : ((cfg1.win 6).blk t).view.emb j = at2 t j := by
  obtain ⟨e0, e1, -⟩ := idx_arr t
  obtain ⟨v0, v1⟩ := at2_val t j
  funext a; apply Fin.ext
  match a with
  | ⟨0, _⟩ => refine Eq.trans ?_ v0.symm; show win1_6.index t (0 : Fin 2) * 128 + 1 * (j 0).val = _; omega
  | ⟨1, _⟩ => refine Eq.trans ?_ v1.symm; show win1_6.index t (1 : Fin 2) * 8192 + 1 * (j 1).val = _; omega
theorem emb_7 (t : Fin cfg1.N) (j : S128x8192.Idx) : ((cfg1.win 7).blk t).view.emb j = at2 t j := by
  obtain ⟨-, -, e0, e1, -⟩ := idx_arr t
  obtain ⟨v0, v1⟩ := at2_val t j
  funext a; apply Fin.ext
  match a with
  | ⟨0, _⟩ => refine Eq.trans ?_ v0.symm; show win1_7.index t (0 : Fin 2) * 128 + 1 * (j 0).val = _; omega
  | ⟨1, _⟩ => refine Eq.trans ?_ v1.symm; show win1_7.index t (1 : Fin 2) * 8192 + 1 * (j 1).val = _; omega
theorem emb_8 (t : Fin cfg1.N) (j : S128x8192.Idx) : ((cfg1.win 8).blk t).view.emb j = at2 t j := by
  obtain ⟨-, -, -, -, e0, e1, -⟩ := idx_arr t
  obtain ⟨v0, v1⟩ := at2_val t j
  funext a; apply Fin.ext
  match a with
  | ⟨0, _⟩ => refine Eq.trans ?_ v0.symm; show win1_8.index t (0 : Fin 2) * 128 + 1 * (j 0).val = _; omega
  | ⟨1, _⟩ => refine Eq.trans ?_ v1.symm; show win1_8.index t (1 : Fin 2) * 8192 + 1 * (j 1).val = _; omega
theorem emb_9 (t : Fin cfg1.N) (j : S128x8192.Idx) : ((cfg1.win 9).blk t).view.emb j = at2 t j := by
  obtain ⟨-, -, -, -, -, -, e0, e1⟩ := idx_arr t
  obtain ⟨v0, v1⟩ := at2_val t j
  funext a; apply Fin.ext
  match a with
  | ⟨0, _⟩ => refine Eq.trans ?_ v0.symm; show win1_9.index t (0 : Fin 2) * 128 + 1 * (j 0).val = _; omega
  | ⟨1, _⟩ => refine Eq.trans ?_ v1.symm; show win1_9.index t (1 : Fin 2) * 8192 + 1 * (j 1).val = _; omega

variable {nt s tk lp V}

theorem blk_0 (h : Planned nt s tk lp V) (c : Dev nD) (t : Fin cfg1.N) : blk0 V c t = TcBody.tStarts (F := F) (s c) := by
  rw [← h.starts c]; funext j; show V c main_v0_1 (((cfg1.win 0).blk t).view.emb j) = _; rw [emb_0]
theorem blk_1 (h : Planned nt s tk lp V) (c : Dev nD) (t : Fin cfg1.N) : blk1 V c t = TcBody.tR8 (F := F) (s c) := by
  rw [← h.r8 c]; funext j; show V c main_v0_2 (((cfg1.win 1).blk t).view.emb j) = _; rw [emb_1]
theorem blk_2 (h : Planned nt s tk lp V) (c : Dev nD) (t : Fin cfg1.N) : blk2 V c t = TcBody.tCb (F := F) (nt c) (s c) := by
  rw [← h.cb c]; funext j; show V c main_v0_3 (((cfg1.win 2).blk t).view.emb j) = _; rw [emb_2]
theorem blk_3 (h : Planned nt s tk lp V) (c : Dev nD) (t : Fin cfg1.N) : blk3 V c t = TcBody.tSel (F := F) (nt c) (s c) := by
  rw [← h.sel c]; funext j; show V c main_v0_4 (((cfg1.win 3).blk t).view.emb j) = _; rw [emb_3]
theorem blk_4 (h : Planned nt s tk lp V) (c : Dev nD) (t : Fin cfg1.N) : blk4 V c t = TcBody.tTok (F := F) (s c) (tk c) := by
  rw [← h.tok c]; funext j; show V c main_v0_5 (((cfg1.win 4).blk t).view.emb j) = _; rw [emb_4]
theorem blk_5 (h : Planned nt s tk lp V) (c : Dev nD) (t : Fin cfg1.N) : blk5 V c t = TcBody.tLp (F := F) (s c) (lp c) := by
  rw [← h.lps c]; funext j; show V c main_v0_6 (((cfg1.win 5).blk t).view.emb j) = _; rw [emb_5]
theorem blk_6 (c : Dev nD) (t : Fin cfg1.N) (j : S128x8192.Idx) :
    blk6 V c t j = V c main_arg0 (ix2 (128 * (grid1.coords t 0).val + (j 0).val) (j 1).val) := by
  show V c main_arg0 (((cfg1.win 6).blk t).view.emb j) = _; rw [emb_6]; rfl
theorem blk_7 (c : Dev nD) (t : Fin cfg1.N) (j : S128x8192.Idx) :
    blk7 V c t j = V c main_arg1 (ix2 (128 * (grid1.coords t 0).val + (j 0).val) (j 1).val) := by
  show V c main_arg1 (((cfg1.win 7).blk t).view.emb j) = _; rw [emb_7]; rfl

/-! ## The body at a grid point -/

theorem before_0 (c : Dev nD) (t : Fin cfg1.N) (d) : (dat nt s tk lp V c).before 0 t d = blk0 V c t :=
  (dat nt s tk lp V c).before_in_eq_fetched 0 rfl (fun _ => rfl) (fun _ _ _ => rfl) (fun _ => rfl) t d
theorem before_1 (c : Dev nD) (t : Fin cfg1.N) (d) : (dat nt s tk lp V c).before 1 t d = blk1 V c t :=
  (dat nt s tk lp V c).before_in_eq_fetched 1 rfl (fun _ => rfl) (fun _ _ _ => rfl) (fun _ => rfl) t d
theorem before_2 (c : Dev nD) (t : Fin cfg1.N) (d) : (dat nt s tk lp V c).before 2 t d = blk2 V c t :=
  (dat nt s tk lp V c).before_in_eq_fetched 2 rfl (fun _ => rfl) (fun _ _ _ => rfl) (fun _ => rfl) t d
theorem before_3 (c : Dev nD) (t : Fin cfg1.N) (d) : (dat nt s tk lp V c).before 3 t d = blk3 V c t :=
  (dat nt s tk lp V c).before_in_eq_fetched 3 rfl (fun _ => rfl) (fun _ _ _ => rfl) (fun _ => rfl) t d
theorem before_4 (c : Dev nD) (t : Fin cfg1.N) (d) : (dat nt s tk lp V c).before 4 t d = blk4 V c t :=
  (dat nt s tk lp V c).before_in_eq_fetched 4 rfl (fun _ => rfl) (fun _ _ _ => rfl) (fun _ => rfl) t d
theorem before_5 (c : Dev nD) (t : Fin cfg1.N) (d) : (dat nt s tk lp V c).before 5 t d = blk5 V c t :=
  (dat nt s tk lp V c).before_in_eq_fetched 5 rfl (fun _ => rfl) (fun _ _ _ => rfl) (fun _ => rfl) t d
theorem before_6 (c : Dev nD) (t : Fin cfg1.N) (d) : (dat nt s tk lp V c).before 6 t d = blk6 V c t :=
  (dat nt s tk lp V c).before_in_eq_fetched 6 rfl (fun _ => rfl) (fun _ _ _ => rfl) (fun _ => rfl) t d
theorem before_7 (c : Dev nD) (t : Fin cfg1.N) (d) : (dat nt s tk lp V c).before 7 t d = blk7 V c t :=
  (dat nt s tk lp V c).before_in_eq_fetched 7 rfl (fun _ => rfl) (fun _ _ _ => rfl) (fun _ => rfl) t d

theorem body_obligation (h : Planned nt s tk lp V) (hr : ∀ c, RowsOk (s c)) (hl : ∀ c, LensOk (nt c)) (c : Dev nD) :
    BodyObligation (dat nt s tk lp V c) (defs₀ (F := F)) 𝒱₀ none Set.univ := fun t => by
  rw [bigSep_W1, bigSep_W1]
  rw [show (dat nt s tk lp V c).Φ t.castSucc = Φc c from rfl, show (dat nt s tk lp V c).Φ t.succ = Φc c from rfl,
    show (dat nt s tk lp V c).owesAt none t.succ = (dat nt s tk lp V c).owesAt none t.castSucc from rfl]
  simp only [before_0, before_1, before_2, before_3, before_4, before_5, before_6, before_7]
  change _ ⊢ wp _ _ _ (bodyAt1 t) (fun _ => iprop(_ ∗ _ ∗ ownsTc c (st1_0 t) fullShare (blk0 V c t) ∗ ownsTc c (st1_1 t) fullShare (blk1 V c t)
    ∗ ownsTc c (st1_2 t) fullShare (blk2 V c t) ∗ ownsTc c (st1_3 t) fullShare (blk3 V c t) ∗ ownsTc c (st1_4 t) fullShare (blk4 V c t)
    ∗ ownsTc c (st1_5 t) fullShare (blk5 V c t) ∗ ownsTc c (st1_6 t) fullShare (blk6 V c t) ∗ ownsTc c (st1_7 t) fullShare (blk7 V c t)
    ∗ ownsTc c (st1_8 t) fullShare (outTok nt s tk V c t) ∗ ownsTc c (st1_9 t) fullShare (outLp nt s lp V c t)))
  have hb := TcBody.body (d := c) (st1_0 t) (st1_1 t) (st1_2 t) (st1_3 t) (st1_4 t) (st1_5 t) (st1_6 t) (st1_7 t) (st1_8 t) (st1_9 t)
    (tk := tk c) (lp := lp c) (hr c) (hl c) (fun r k => V c main_arg0 (ix2 r k)) (fun r k => V c main_arg1 (ix2 r k)) (grid1.coords t)
    (hstage1_0 _) (hstage1_1 _) (hstage1_2 _) (hstage1_3 _) (hstage1_4 _) (hstage1_5 _) (hstage1_6 _) (hstage1_7 _) (hstage1_8 _) (hstage1_9 _)
    (blk6 V c t) (blk7 V c t) (blk_6 c t) (blk_7 c t)
  iintro ⟨HΦ, Howes, ⟨%_, H0⟩, ⟨%_, H1⟩, ⟨%_, H2⟩, ⟨%_, H3⟩, ⟨%_, H4⟩, ⟨%_, H5⟩, ⟨%_, H6⟩, ⟨%_, H7⟩, ⟨%d8, H8⟩, %d9, H9⟩
  rw [blk_0 h, blk_1 h, blk_2 h, blk_3 h, blk_4 h, blk_5 h]
  have hfr := ((sep_mono_right (P := iprop(Φc c ∗ (dat nt s tk lp V c).owesAt none t.castSucc))
    (hb ((dat nt s tk lp V c).before 8 t d8) ((dat nt s tk lp V c).before 9 t d9))).trans (wp_frame_l _ _ _))
  ihave Hw := hfr $$ [HΦ Howes H0 H1 H2 H3 H4 H5 H6 H7 H8 H9]
  · isplitl [HΦ Howes]
    · isplitl [HΦ]; · iexact HΦ
      iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iapply (wp_mono frame _ _ fun _ => ?_) $$ Hw
  iintro ⟨⟨HΦ, HO⟩, H⟩
  isplitl [HΦ]; · iexact HΦ
  isplitl [HO]; · iexact HO
  iexact H

/-! ## The results -/

theorem final_8 (c : Dev nD) : (dat nt s tk lp V c).arrAt 8 cfg1.N = newTok nt s tk V c := by
  refine (dat nt s tk lp V c).arrAt_eq_of_covers 8 _ (by decide +kernel) fun t hf y => ?_
  show outTok nt s tk V c t y = newTok nt s tk V c (((cfg1.win 8).blk t).view.emb y)
  rw [emb_8]
  obtain ⟨v0, v1⟩ := at2_val t y
  unfold outTok newTok
  rw [v0, v1]
theorem final_9 (c : Dev nD) : (dat nt s tk lp V c).arrAt 9 cfg1.N = newLp nt s lp V c := by
  refine (dat nt s tk lp V c).arrAt_eq_of_covers 9 _ (by decide +kernel) fun t hf y => ?_
  show outLp nt s lp V c t y = newLp nt s lp V c (((cfg1.win 9).blk t).view.emb y)
  rw [emb_9]
  obtain ⟨v0, v1⟩ := at2_val t y
  unfold outLp newLp
  rw [v0, v1]

/-! ## The region over the thread's state -/

/-- What the unscoped buffers hold afterwards: the two results at the written arrays, the rest unchanged. -/
structure After (nt s tk : Dev nD → (A 1024).Idx → BitVec 32) (lp : (c : Dev nD) → (A 1024).Idx → Elt F .f32) (V V' : Vals (F := F)) : Prop where
  tok c : V' c main_v1_0 = newTok nt s tk V c
  lps c : V' c main_v1_1 = newLp nt s lp V c
  rest c (b : Ref sig .tc) : b ≠ main_v1_0 → b ≠ main_v1_1 → V' c b = V c b

set_option backward.isDefEq.respectTransparency.types false in
/-- The TensorCore's kernel as one segment: entered with every unscoped buffer as `V` says, left with them as `V'` says. -/
def reg {V' : Vals (F := F)} (h : Planned nt s tk lp V) (hr : ∀ c, RowsOk (s c)) (hl : ∀ c, LensOk (nt c)) (h' : After nt s tk lp V V') (R : Dev nD → sProp 𝕄) :
    Pipeline.RegionSeg (pcfgs (F := F)) adm (pdats nt s tk lp V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation h hr hl c).loose
  hwaits := Pipeline.hwaits_of_owed_zero _ _ _ _ (K (F := F)).L (K (F := F)).lev 0 fun _ _ => rfl
  pre c := iprop(unscopedBufs c (V c) ∗ R c ∗ ∃ W, ⌜↑W ⊆ below (F := F) c⌝ ∗ owes (c : Thread nD τ) (0 : CellTallies nD τ sig (HIx 1)) W)
  post c := iprop(unscopedBufs c (V' c) ∗ R c ∗ ∃ W, ⌜↑W ⊆ below (F := F) c⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats nt s tk lp V adm) launch1.win launch1.arr_whole c
      ((pdats nt s tk lp V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    isplitl [Hrest] <;> iassumption
  hin c := by
    rw [show (pdats nt s tk lp V adm 0 c).Φ 0 = Φc c from rfl]
    iintro ⟨-, -, Hr⟩; iexact Hr
  hout c := by
    rw [Pipeline.ownSems0_none, show (pdats nt s tk lp V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats nt s tk lp V adm) ((pdats nt s tk lp V adm 0 c).share_full fun _ => rfl) (V c) (V' c) ((pdats nt s tk lp V adm 0 c).arrAt · cfg1.N)
      (fun w => by
        fin_cases w
        · exact ((pdats nt s tk lp V adm 0 c).arrAt_in 0 rfl _).trans (h'.rest c main_v0_1 (by decide) (by decide)).symm
        · exact ((pdats nt s tk lp V adm 0 c).arrAt_in 1 rfl _).trans (h'.rest c main_v0_2 (by decide) (by decide)).symm
        · exact ((pdats nt s tk lp V adm 0 c).arrAt_in 2 rfl _).trans (h'.rest c main_v0_3 (by decide) (by decide)).symm
        · exact ((pdats nt s tk lp V adm 0 c).arrAt_in 3 rfl _).trans (h'.rest c main_v0_4 (by decide) (by decide)).symm
        · exact ((pdats nt s tk lp V adm 0 c).arrAt_in 4 rfl _).trans (h'.rest c main_v0_5 (by decide) (by decide)).symm
        · exact ((pdats nt s tk lp V adm 0 c).arrAt_in 5 rfl _).trans (h'.rest c main_v0_6 (by decide) (by decide)).symm
        · exact ((pdats nt s tk lp V adm 0 c).arrAt_in 6 rfl _).trans (h'.rest c main_arg0 (by decide) (by decide)).symm
        · exact ((pdats nt s tk lp V adm 0 c).arrAt_in 7 rfl _).trans (h'.rest c main_arg1 (by decide) (by decide)).symm
        · exact (final_8 c).trans (h'.tok c).symm
        · exact (final_9 c).trans (h'.lps c).symm)
      (fun b hb => h'.rest c b (fun e => hb (e ▸ Finset.mem_image.mpr ⟨8, Finset.mem_univ _, rfl⟩))
        (fun e => hb (e ▸ Finset.mem_image.mpr ⟨9, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      exact fun p hp => (hW hp).elim id fun ⟨_, _, e⟩ => by
        rw [e]; show (K (F := F)).lev _ none ≤ 8; exact (SparseCore.Cfg.lev_none _ _).le.trans (Nat.zero_le _)
    iexact HO

end Cert.Proof.Region

end
-- ==== Proof.Run.lean ====
/-
  The whole program: the SparseCore makes the plan, the TensorCore applies it. Its results are the two arrays with every token
  written and the table of lengths with every token counted.
-/
module

public import proofs.«01_k».proof.Proof.Obl
public import proofs.«01_k».proof.Proof.Region

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.Plan Cert.Proof.Setup Cert.Proof.Tables Cert.Proof.TileSetup Cert.Proof.Obl Cert.Proof.Region

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the buffers hold -/

/-- Between the two calls: the plan is made. -/
def mid : Vals (F := F) := fun c =>
  Function.update (Function.update (Function.update (Function.update (Function.update (Function.update (Function.update
    (fun b => m ((c : Thread nD τ).loc b)) main_v0_0 (pCnt c m)) main_v0_1 (pStarts c m)) main_v0_2 (pR8 c m)) main_v0_3 (pCb c m))
    main_v0_4 (pSel c m)) main_v0_5 (pTok c m)) main_v0_6 (pLp c m)

/-- At the end: the plan is applied. -/
def fin : Vals (F := F) := fun c =>
  Function.update (Function.update (mid m c) main_v1_0 (newTok (lens · m) (sids · m) (ntok · m) (mid m) c))
    main_v1_1 (newLp (lens · m) (sids · m) (nlp · m) (mid m) c)

theorem mid_other (c : Dev nD) (b : Ref sig .tc) (h0 : b ≠ main_v0_0) (h1 : b ≠ main_v0_1) (h2 : b ≠ main_v0_2) (h3 : b ≠ main_v0_3)
    (h4 : b ≠ main_v0_4) (h5 : b ≠ main_v0_5) (h6 : b ≠ main_v0_6) : mid m c b = m ((c : Thread nD τ).loc b) := by
  unfold mid
  rw [Function.update_of_ne h6, Function.update_of_ne h5, Function.update_of_ne h4, Function.update_of_ne h3, Function.update_of_ne h2,
    Function.update_of_ne h1, Function.update_of_ne h0]

theorem mid_cnt (c : Dev nD) : mid m c main_v0_0 = pCnt c m := by
  unfold mid
  rw [Function.update_of_ne (by decide), Function.update_of_ne (by decide), Function.update_of_ne (by decide), Function.update_of_ne (by decide),
    Function.update_of_ne (by decide), Function.update_of_ne (by decide), Function.update_self]
theorem mid_starts (c : Dev nD) : mid m c main_v0_1 = pStarts c m := by
  unfold mid
  rw [Function.update_of_ne (by decide), Function.update_of_ne (by decide), Function.update_of_ne (by decide), Function.update_of_ne (by decide),
    Function.update_of_ne (by decide), Function.update_self]
theorem mid_r8 (c : Dev nD) : mid m c main_v0_2 = pR8 c m := by
  unfold mid
  rw [Function.update_of_ne (by decide), Function.update_of_ne (by decide), Function.update_of_ne (by decide), Function.update_of_ne (by decide),
    Function.update_self]
theorem mid_cb (c : Dev nD) : mid m c main_v0_3 = pCb c m := by
  unfold mid
  rw [Function.update_of_ne (by decide), Function.update_of_ne (by decide), Function.update_of_ne (by decide), Function.update_self]
theorem mid_sel (c : Dev nD) : mid m c main_v0_4 = pSel c m := by
  unfold mid
  rw [Function.update_of_ne (by decide), Function.update_of_ne (by decide), Function.update_self]
theorem mid_tok (c : Dev nD) : mid m c main_v0_5 = pTok c m := by
  unfold mid
  rw [Function.update_of_ne (by decide), Function.update_self]
theorem mid_lp (c : Dev nD) : mid m c main_v0_6 = pLp c m := by
  unfold mid
  rw [Function.update_self]

theorem planned : Planned (lens · m) (sids · m) (ntok · m) (nlp · m) (mid m) :=
  ⟨mid_starts m, mid_r8 m, mid_cb m, mid_sel m, mid_tok m, mid_lp m⟩

theorem fin_tok (c : Dev nD) : fin m c main_v1_0 = newTok (lens · m) (sids · m) (ntok · m) (mid m) c := by
  unfold fin
  rw [Function.update_of_ne (by decide), Function.update_self]
theorem fin_lp (c : Dev nD) : fin m c main_v1_1 = newLp (lens · m) (sids · m) (nlp · m) (mid m) c := by
  unfold fin
  rw [Function.update_self]
theorem fin_other (c : Dev nD) (b : Ref sig .tc) (h0 : b ≠ main_v1_0) (h1 : b ≠ main_v1_1) : fin m c b = mid m c b := by
  unfold fin
  rw [Function.update_of_ne h1, Function.update_of_ne h0]

theorem after : After (lens · m) (sids · m) (ntok · m) (nlp · m) (mid m) (fin m) := ⟨fin_tok m, fin_lp m, fin_other m⟩

theorem unscopedBufs_eq (d : Dev nD) (W : (b : Ref sig .tc) → Buf (Elt F) ((d.tc : Thread nD τ).loc b)) :
    (unscopedBufs d W : sProp 𝕄) = iprop((tokensL d ↦{fullShare} W main_arg0) ∗ (logprobsL d ↦{fullShare} W main_arg1)
      ∗ (lensL d ↦{fullShare} W main_arg2) ∗ (sidsL d ↦{fullShare} W main_arg3) ∗ (ntokL d ↦{fullShare} W main_arg4) ∗ (nlpL d ↦{fullShare} W main_arg5)
      ∗ (numL d ↦{fullShare} W main_arg6) ∗ (oCntL d ↦{fullShare} W main_v0_0) ∗ (oStartsL d ↦{fullShare} W main_v0_1) ∗ (oR8L d ↦{fullShare} W main_v0_2)
      ∗ (oCbL d ↦{fullShare} W main_v0_3) ∗ (oSelL d ↦{fullShare} W main_v0_4) ∗ (oTokL d ↦{fullShare} W main_v0_5) ∗ (oLpL d ↦{fullShare} W main_v0_6)
      ∗ (outTokL d ↦{fullShare} W main_v1_0) ∗ outLpL d ↦{fullShare} W main_v1_1) := by
  unfold unscopedBufs
  rw [show (Finset.univ.filter fun b : Ref sig .tc => ¬ b.isScoped) = {main_arg0, main_arg1, main_arg2, main_arg3, main_arg4, main_arg5, main_arg6,
      main_v0_0, main_v0_1, main_v0_2, main_v0_3, main_v0_4, main_v0_5, main_v0_6, main_v1_0, main_v1_1} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The buffers once the plan is made, from what the first call leaves. -/
theorem mid_intro (d : Dev nD) :
    iprop((tokensL d ↦{fullShare} m (tokensL d)) ∗ (logprobsL d ↦{fullShare} m (logprobsL d)) ∗ (numL d ↦{fullShare} m (numL d))
      ∗ (outTokL d ↦{fullShare} m (outTokL d)) ∗ (outLpL d ↦{fullShare} m (outLpL d)) ∗ made m d) ⊢ (unscopedBufs d (mid m d) : sProp 𝕄) := by
  rw [unscopedBufs_eq, mid_cnt, mid_starts, mid_r8, mid_cb, mid_sel, mid_tok, mid_lp]
  rw [mid_other m d main_arg0 (by decide) (by decide) (by decide) (by decide) (by decide) (by decide) (by decide),
    mid_other m d main_arg1 (by decide) (by decide) (by decide) (by decide) (by decide) (by decide) (by decide),
    mid_other m d main_arg2 (by decide) (by decide) (by decide) (by decide) (by decide) (by decide) (by decide),
    mid_other m d main_arg3 (by decide) (by decide) (by decide) (by decide) (by decide) (by decide) (by decide),
    mid_other m d main_arg4 (by decide) (by decide) (by decide) (by decide) (by decide) (by decide) (by decide),
    mid_other m d main_arg5 (by decide) (by decide) (by decide) (by decide) (by decide) (by decide) (by decide),
    mid_other m d main_arg6 (by decide) (by decide) (by decide) (by decide) (by decide) (by decide) (by decide),
    mid_other m d main_v1_0 (by decide) (by decide) (by decide) (by decide) (by decide) (by decide) (by decide),
    mid_other m d main_v1_1 (by decide) (by decide) (by decide) (by decide) (by decide) (by decide) (by decide)]
  unfold made
  iintro ⟨H0, H1, H6, Ha, Hb, ⟨H2, H3, H4, H5⟩, Hc, Hs, Hr, Hcb, Hsel, Htok, Hlp⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hc]; · iexact Hc
  isplitl [Hs]; · iexact Hs
  isplitl [Hr]; · iexact Hr
  isplitl [Hcb]; · iexact Hcb
  isplitl [Hsel]; · iexact Hsel
  isplitl [Htok]; · iexact Htok
  isplitl [Hlp]; · iexact Hlp
  isplitl [Ha]; · iexact Ha
  iexact Hb

/-! ## The launch's ghost state -/

abbrev adm : (p : Fin 1) → (pcfgs (F := F) p).Adm := fun p => (cfgs p).toPCfg_adm
/-- The pipeline's cells are different cells. -/
theorem phinj : Function.Injective (Pipeline.cellOf (nD := nD) (τ := τ) (Pipeline.pin (pcfgs (F := F)) adm)) := cellOf_inj

def uP : UR sig nD τ :=
  initOf (Pipeline.cells (Pipeline.pin (pcfgs (F := F)) adm) (phinj (F := F))) (Pipeline.launchToks (Pipeline.pin (pcfgs (F := F)) adm) (phinj (F := F)))
def u₀ : UU := (initOf (K (F := F)).hsCells (K (F := F)).hsToks, (uP (F := F), 1))

theorem ownU_split (a : UH) (b : UR sig nD τ) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- What a device's TensorCore is dealt for its pipeline. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem Px_emp : (bigSep Finset.univ fun thr : Thread nD τ => bigSep Finset.univ fun q : Fin 1 => (P (F := F) m).x q thr) = (iprop(emp) : sProp 𝕄) := by
  have h1 : ∀ thr : Thread nD τ, (bigSep Finset.univ fun q : Fin 1 => (P (F := F) m).x q thr) = (iprop(emp) : sProp 𝕄) :=
    fun thr => bigSep_univ_of_subsingleton (0 : Fin 1)
  simp only [h1]
  exact bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  rw [Px_emp]
  unfold u₀
  iintro Hu
  ihave H := (ownU_split _ _) $$ Hu
  icases H with ⟨HH, HK⟩
  unfold uP
  imod (Pipeline.fund_ghost (Pipeline.pin (pcfgs (F := F)) adm) EP (phinj (F := F))) $$ HK with ⟨Hg, Ht⟩
  imodintro
  isplitl [HH]; · iexact HH
  isplitl
  · rw [bigSep_sep']
    have e1 : ∀ Φ : Dev nD → Fin 1 → sProp 𝕄, (bigSep Finset.univ fun c : Dev nD => bigSep Finset.univ fun p : Fin 1 => Φ c p) = bigSep Finset.univ fun c => Φ c 0 :=
      fun Φ => bigSep_congr fun c _ => bigSep_univ_of_subsingleton (0 : Fin 1)
    ihave Hg := (Entails.of_eq (e1 _)) $$ Hg
    ihave Ht := (Entails.of_eq (e1 _)) $$ Ht
    isplitl [Hg]; · iexact Hg
    iexact Ht
  · iempintro

/-! ## The program on the TensorCore -/

abbrev FIN (d : Dev nD) : sProp 𝕄 := unscopedBufs d (fin m d)

theorem Otc_one (d : Dev nD) : (K (F := F)).Otc d 1 = (0 : CellTallies nD τ sig (HIx 1)) := by
  unfold SparseCore.Cfg.Otc
  rw [Finset.univ_unique, Finset.sum_singleton, if_neg (by decide)]

/-- What the TensorCore holds of the handshakes after the first call, besides what it owes: nothing. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄)
    = iprop((∃ W, ⌜↑W ⊆ below (F := F) d⌝ ∗ owes (d : Thread nD τ) (0 : CellTallies nD τ sig (HIx 1)) W) ∗ tcRest d) := by
  unfold SparseCore.Cfg.tcSt
  rw [Otc_one]
  rfl

/-- The TensorCore's kernel, between the two states of the buffers. -/
abbrev seg (hr : ∀ d, RowsOk (sids d m)) (hl : ∀ d, LensOk (lens d m)) :=
  reg (adm (F := F)) (planned m) hr hl (after m) fun _ => iprop(emp)

/-- The second call's program in the pipeline's own signature. -/
abbrev entry : Prog (TpuEff nD τ sig (Elt F) (ΛP (F := F)) .tc) PUnit := .op (.customCall (Pipeline.entry 0) ()) fun _ => .ret PUnit.unit

theorem lift_entry : SparseCore.liftProg (Q := 1) (entry (F := F)) = Prog.lift (.customCall (SparseCore.inner (Pipeline.entry 0)) ()) := rfl

/-- The buffers at `W`, and nothing owed. -/
abbrev held (W : Vals (F := F)) (d : Dev nD) : sProp 𝕄 :=
  iprop(unscopedBufs d (W d) ∗ emp ∗ ∃ W, ⌜↑W ⊆ below (F := F) d⌝ ∗ owes (d : Thread nD τ) (0 : CellTallies nD τ sig (HIx 1)) W)

/-- The second call, as the pipeline runs it: from the buffers with the plan made to the buffers with the plan applied. -/
theorem call_inner (hr : ∀ d, RowsOk (sids d m)) (hl : ∀ d, LensOk (lens d m)) [∀ e, Nonempty (Elt F e)] (d : Dev nD) :
    iprop(boundary (d.tc : Thread nD τ) ∗ held (mid m) d ∗ levAts (K (F := F)).L (K (F := F)).lev ∗ G d)
      ⊢ (wp frame (wpE (D (F := F)) 𝒱 (d.tc : Thread nD τ) none) Set.univ (entry (F := F))
          fun _ => iprop(boundary (d.tc : Thread nD τ) ∗ held (fin m) d) : sProp 𝕄) := by
  have h := Pipeline.RegionSeg.wp (pcfgs (F := F)) adm (pdats (lens · m) (sids · m) (ntok · m) (nlp · m) (mid m) adm) none (phinj (F := F)) EP defs₀ 𝒱₀
    (K (F := F)).L (K (F := F)).lev (seg m hr hl) d none (fun _ h => nomatch h) (fun _ => .ret PUnit.unit)
    (fun _ => iprop(boundary (d.tc : Thread nD τ) ∗ (seg m hr hl).post d))
  rw [show (seg m hr hl).post d = held (fin m) d from rfl, show (seg m hr hl).pre d = held (mid m) d from rfl] at h
  have hret := le_wp_ret frame (wpE (D (F := F)) 𝒱 (d.tc : Thread nD τ) none) Set.univ PUnit.unit
    (fun _ => (iprop(boundary (d.tc : Thread nD τ) ∗ held (fin m) d) : sProp 𝕄))
  iintro ⟨Hb, Hpre, Hl, Hg, Ht⟩
  iapply h
  isplitr
  · iintro H
    iapply hret $$ H
  isplitl [Hb]; · iexact Hb
  isplitl [Hpre]; · iexact Hpre
  isplitl [Hl]; · iexact Hl
  isplitl [Hg]; · iexact Hg
  iexact Ht

/-- The second call as the program makes it. -/
theorem call (hr : ∀ d, RowsOk (sids d m)) (hl : ∀ d, LensOk (lens d m)) [∀ e, Nonempty (Elt F e)] (d : Dev nD) :
    iprop(boundary (d.tc : Thread nD τ) ∗ held (mid m) d ∗ levAts (K (F := F)).L (K (F := F)).lev ∗ G d)
      ⊢ (wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit)
          fun _ => iprop(boundary (d.tc : Thread nD τ) ∗ held (fin m) d) : sProp 𝕄) := by
  rw [← lift_entry]
  exact (call_inner m hr hl d).trans ((K (F := F)).wp_liftProg (D (F := F)) 𝒱 (SparseCore.T d) Set.univ none (entry (F := F)) _)

theorem hmain (hr : ∀ d, RowsOk (sids d m)) (hl : ∀ d, LensOk (lens d m)) [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by

  unfold SparseCore.Cfg.tcRes SparseCore.Cfg.tcEnd
  rw [unscopedBufs_eq]
  simp only [main, wp_bind, wp_pure]
  iintro ⟨#Hctx, Hst, ⟨Hb, ⟨H0, H1, H2, H3, H4, H5, H6, Hc, Hs, Hr, Hcb, Hsel, Htok, Hlp, Ha, Hbb⟩, Hts, -⟩, HG⟩
  iapply ((K (F := F)).wp_run (D (F := F)) 𝒱 (EH := EH) (P := P m) κ d 0) $$ [Hst Hb Hts HG H0 H1 H2 H3 H4 H5 H6 Hc Hs Hr Hcb Hsel Htok Hlp Ha Hbb]
  isplitr; · iexact Hctx
  isplitl [Hst]; · iexact Hst
  isplitl [H2 H3 H4 H5 Hc Hs Hr Hcb Hsel Htok Hlp]
  · rw [st_eq]
    unfold given
    isplitl [H2 H3 H4 H5]
    · isplitl [H2]; · iexact H2
      isplitl [H3]; · iexact H3
      isplitl [H4]; · iexact H4
      iexact H5
    isplitl [Hc]; · iexists _; iexact Hc
    isplitl [Hs]; · iexists _; iexact Hs
    isplitl [Hr]; · iexists _; iexact Hr
    isplitl [Hcb]; · iexists _; iexact Hcb
    isplitl [Hsel]; · iexists _; iexact Hsel
    isplitl [Htok]; · iexists _; iexact Htok
    iexists _; iexact Hlp
  iintro ⟨Hst, Hdn⟩
  ihave Hdn := (Entails.of_eq (dn_eq m d)) $$ Hdn
  ihave Hub := (mid_intro m d) $$ [H0 H1 H6 Ha Hbb Hdn]
  · isplitl [H0]; · iexact H0
    isplitl [H1]; · iexact H1
    isplitl [H6]; · iexact H6
    isplitl [Ha]; · iexact Ha
    isplitl [Hbb]; · iexact Hbb
    iexact Hdn
  ihave #Hlev := (SparseCore.Cfg.ctx_levAts κ) $$ Hctx
  ihave Hst := (show ((K (F := F)).tcSt EH d ((0 : Fin 1).val + 1) : sProp 𝕄) ⊢ _ from Entails.of_eq (tcSt_one d)) $$ Hst
  icases Hst with ⟨Ho, Hst⟩
  ihave Hw := (call m hr hl d) $$ [Hb Hub Ho HG]
  · isplitl [Hb]; · iexact Hb
    isplitl [Hub Ho]
    · isplitl [Hub]; · iexact Hub
      isplitr; · iempintro
      iexact Ho
    isplitr; · iexact Hlev
    iexact HG
  iapply (wp_wand_r frame _ _)
  isplitl [Hw]; · iexact Hw
  iintro %_ ⟨Hb, Hub, -, Ho⟩
  imodintro
  isplitl [Ho Hst]
  · iapply (Entails.of_eq (tcSt_one d).symm)
    isplitl [Ho]; · iexact Ho
    iexact Hst
  isplitl [Hub]; · iexact Hub
  isplitl [Hb]; · iexact Hb
  iexact Hts

/-! ## The run -/

/-- What a finished run leaves: every unscoped buffer as `fin` says. -/
def fq (d : Dev nD) (s' : Phys nD τ sig (Elt F)) : Prop :=
  ∀ b : Ref sig .tc, ¬ b.isScoped → s'.mem.mem ((d : Thread nD τ).loc b) = fin m d b

theorem hfin (d : Dev nD) (s' : Phys nD τ sig (Elt F)) : iprop(FIN m d ∗ SI s') ⊢ (⌜fq m d s'⌝ : sProp 𝕄) := by
  unfold fq
  refine (BI.Laws.forall_intro fun b => ?_).trans pure_forall.2
  refine (BI.Laws.forall_intro fun hb => ?_).trans pure_forall.2
  have hel : (FIN m d : sProp 𝕄) ⊢ ((d : Thread nD τ).loc b) ↦{fullShare} fin m d b :=
    bigSep_elim (s := Finset.univ.filter fun b : Ref sig .tc => ¬ b.isScoped) (i := b) (Finset.mem_filter.mpr ⟨Finset.mem_univ b, hb⟩)
  iintro ⟨Hx, HSI⟩
  ihave Hx := hel $$ Hx
  ihave H := (SI_pointsTo_agree (st := s') (ℓ := (d : Thread nD τ).loc b) (I := Finset.univ) (q := fullShare) (f := fin m d b)) $$ [HSI Hx]
  · isplitl [HSI] <;> iassumption
  icases H with %hx
  ipureintro; exact funext fun i => hx i (Finset.mem_univ i)

def QC : PUnit × MemSt nD τ sig (Elt F) → Prop := fun r =>
  (∀ d : Dev nD, ∀ b : Ref sig .tc, ¬ b.isScoped → r.2.mem ((d : Thread nD τ).loc b) = fin m d b) ∧ r.2.sem = fun _ => 0

/-- Every run of the program from indices in range ends with every unscoped buffer as `fin` says and every semaphore at zero. -/
theorem run_main (hr : ∀ d, RowsOk (sids d m)) (hl : ∀ d, LensOk (lens d m)) [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hr)
    (fun q _ => match q with | 0 => SparseCore.Cfg.VecSplit.of_plain (vecSplit m))
    m ρ main (fun d => G d) (FIN m) (u₀ (F := F)) (sep_elim_left.trans (hu₀ m)) (hmain m ρ hr hl) (fq m) (hfin m) (QC m) (fun _ h hz => ⟨h, hz⟩)

end Cert.Proof.Run

end
-- ==== Proof.Drawn.lean ====
/-
  What the precondition says of the arguments: there are 1024 tokens, every row is below 1024 and every length below 4096.
-/
module

public import proofs.«01_k».proof.Proof.Gen.Pre_drawn
public import Idealize.ShloMosaic.Lib.ReduceAll
public import Idealize.ShloMosaic.Lib.WordCmp

@[expose] public section

noncomputable section

namespace Cert.Proof.Drawn

open Cert.Pre_drawn Cert.Pre_drawn.Gen

open Idealize.ShloMosaic Idealize.ShloMosaic.TcCoe

variable {F : FTy → Type} [FloatOps F]

theorem and_one {a b : BitVec 1} (h : a &&& b = 1#1) : a = 1#1 ∧ b = 1#1 := by
  revert a b; decide

/-- A signed word that is at least 0 and less than `n` is less than `n` as a natural number. -/
theorem in_range {x n : BitVec 32} (h : IntOp.andi (IntOp.cmpi .sge x 0#32) (IntOp.cmpi .slt x n) = 1#1) : x.toNat < n.toNat := by
  obtain ⟨h1, h2⟩ := and_one h
  have ofBool : ∀ b : Bool, BitVec.ofBool b = 1#1 → b = true := by decide
  have h1 : (0#32 : BitVec 32).sle x = true := ofBool _ h1
  have h2 : x.slt n = true := ofBool _ h2
  rw [BitVec.sle_iff_toInt_le] at h1
  rw [BitVec.slt_iff_toInt_lt] at h2
  have h3 : (0#32 : BitVec 32).toInt = 0 := rfl
  rw [h3] at h1
  rw [BitVec.toInt_eq_toNat_cond] at h1 h2
  rw [BitVec.toInt_eq_toNat_cond] at h2
  have := x.isLt
  have := n.isLt
  split_ifs at h1 h2 <;> omega

/-- The precondition, read. -/
theorem spec {a0 : IVec S1024x8192 32} {a1 : FVec F S1024x8192 .f32} {a2 a3 a4 : IVec S1024 32} {a5 : FVec F S1024 .f32} {a6 : IVec S_ 32}
    (h : Cert.Pre_drawn.fn (F := F) a0 a1 a2 a3 a4 a5 a6 = fun _ => 1#1) :
    (∀ j, (a2 j).toNat < 4096) ∧ (∀ j, (a3 j).toNat < 1024) ∧ ∀ j, a6 j = 1024#32 := by
  have hz : ∀ j k : S_.Idx, j = k := fun j k => funext fun a => a.elim0
  haveI : Subsingleton S_.Idx := ⟨hz⟩
  have key : ∀ j : S_.Idx, a6 j = 1024#32 ∧ (∀ i, (a2 i).toNat < 4096) ∧ ∀ i, (a3 i).toNat < 1024 := fun j => by
    have h := congrFun h j
    obtain ⟨h12, h3⟩ := and_one h
    obtain ⟨h1, h2⟩ := and_one h12
    refine ⟨?_, fun i => ?_, fun i => ?_⟩
    · have ofBool : ∀ b : Bool, BitVec.ofBool b = 1#1 → b = true := by decide
      exact eq_of_beq (ofBool _ h1)
    · exact in_range (n := 4096#32) (Host.reduce_andi_all _ _ _ _ j h2 i)
    · exact in_range (n := 1024#32) (Host.reduce_andi_all _ _ _ _ j h3 i)
  have j₀ : S_.Idx := fun a => a.elim0
  exact ⟨(key j₀).2.1, (key j₀).2.2, fun j => (key j).1⟩

end Cert.Proof.Drawn

end
-- ==== Proof.Frames.lean ====
/-
  The kernel runs from any arguments the precondition admits, leaves them as they were and every semaphore at zero: the program as it
  is printed, and the same program read over the extended reals.
-/
module

public import proofs.«01_k».proof.Defs
public import proofs.«01_k».proof.Proof.Gen.Kernel
public import proofs.«01_k».proof.Proof.Run
public import proofs.«01_k».proof.Proof.Drawn

@[expose] public section

noncomputable section

namespace Cert.Proof.Frames

open Cert.KernelIdeal Cert.KernelIdeal.Gen

open Idealize.ShloMosaic Idealize.ShloMosaic.TcCoe Idealize.SL.Sem
open Cert.Proof.Plan Cert.Proof.Setup Cert.Proof.Run

variable {F : FTy → Type} [FloatOps F]
variable (m : (ℓ : Loc nD τ sig) → Buf (Elt F) ℓ)

/-- A run that ends as `QC` says leaves an argument as it was. -/
theorem arg_same {r : PUnit × MemSt nD τ sig (Elt F)} (h : QC m r) (c : Dev nD) (b : Ref sig .tc)
    (hs : ¬ b.isScoped) (hb : b ∉ ([main_v0_0, main_v0_1, main_v0_2, main_v0_3, main_v0_4, main_v0_5, main_v0_6, main_v1_0, main_v1_1] : List (Ref sig .tc))) :
    r.2.mem ((c : Thread nD τ).loc b) = m ((c : Thread nD τ).loc b) := by
  simp only [List.mem_cons, List.not_mem_nil, or_false, not_or] at hb
  obtain ⟨h0, h1, h2, h3, h4, h5, h6, h7, h8⟩ := hb
  rw [h.1 c b hs, fin_other m c b h7 h8, mid_other m c b h0 h1 h2 h3 h4 h5 h6]

/-- What the claims say of the arguments. -/
theorem args_same {r : PUnit × MemSt nD τ sig (Elt F)} (h : QC m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  ⟨arg_same m h c _ (by decide) (by decide), arg_same m h c _ (by decide) (by decide), arg_same m h c _ (by decide) (by decide),
    arg_same m h c _ (by decide) (by decide), arg_same m h c _ (by decide) (by decide), arg_same m h c _ (by decide) (by decide),
    arg_same m h c _ (by decide) (by decide)⟩

/-- The kernel read over the extended reals. -/
theorem kernelIdeal : Cert.quiescent_KernelIdeal := fun m g hpre =>
  (θ_run (Cert.KernelIdeal.defs (F := Ideal)) (Cert.KernelIdeal.threads (F := Ideal)) _).mono (fun _ h => ⟨fun c => args_same m h c, h.2⟩)
    (run_main (F := Ideal) m g (fun d => (Drawn.spec (hpre d)).2.1) (fun d => (Drawn.spec (hpre d)).1))

/-- The claim about the kernel as printed, of the program text that is read over the extended reals. -/
def KernelBits : Prop :=
  ∀ (m : (ℓ : Loc nD τ sig) → Buf (Elt Bits) ℓ) (g : Dev nD → PrngReg),
    (∀ c : Dev nD, Cert.Pre_drawn.fn (F := Bits) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) = fun _ => 1#1) →
    θ_run (Cert.KernelIdeal.defs (F := Bits)) (Cert.KernelIdeal.threads (F := Bits)) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0)

/-- It holds. -/
theorem kernelBits : KernelBits := fun m g hpre =>
  (θ_run (Cert.KernelIdeal.defs (F := Bits)) (Cert.KernelIdeal.threads (F := Bits)) _).mono (fun _ h => ⟨fun c => args_same m h c, h.2⟩)
    (run_main (F := Bits) m g (fun d => (Drawn.spec (hpre d)).2.1) (fun d => (Drawn.spec (hpre d)).1))

/-- The two programs' texts are the same, so the two claims are. -/
theorem kernel_same : Cert.quiescent_Kernel = KernelBits := by chain_rfl

/-- The kernel as printed. -/
theorem kernel : Cert.quiescent_Kernel := kernel_same ▸ kernelBits

end Cert.Proof.Frames

end
-- ==== Proof.RefOps.lean ====
/-
  The reference program's operations, stretch by stretch: what it does before its loop, what decides whether the loop goes on, a trip's
  operations before the branch, on it and after it; and for each stretch the buffers it writes.
-/
module

public import proofs.«01_k».proof.Proof.Gen.ReferenceIdeal
public import Idealize.ShloMosaic.Lib.Pipeline.RegionsLoop
public import Idealize.ShloMosaic.Lib.Pipeline.RegionsCase
public import Idealize.ShloMosaic.Lib.StableHlo.RunLoop
public import Idealize.ShloMosaic.Lib.Scf.ExitTest
public import Idealize.ShloMosaic.Lib.Scf.Counter

@[expose] public section

noncomputable section

namespace Cert.Proof.Ref

open Cert.ReferenceIdeal Cert.ReferenceIdeal.Gen

open Idealize.ShloMosaic Idealize.ShloMosaic.TcCoe
open Idealize.ShloMosaic.StableHlo (after)
open Idealize.ShloMosaic.Pipeline (ucRefs sub_ucRefs)

variable {F : FTy → Type} [FloatOps F]

/-- What the program does before its loop: the five operands the loop only reads and the three it updates are set up. -/
def preOps : List (HloOp τ sig (Elt F)) := [
  StableHlo.nullary main_c (constantI S_ 32 0#32),
  StableHlo.unary main_arg3 main_v0_0 id,
  StableHlo.unary main_arg4 main_v0_1 id,
  StableHlo.unary main_arg5 main_v0_2 id,
  StableHlo.unary main_c main_v0_3 id,
  StableHlo.unary main_arg6 main_v0_4 id,
  StableHlo.unary main_arg0 main_v0_5 id,
  StableHlo.unary main_arg1 main_v0_6 id,
  StableHlo.unary main_arg2 main_v0_7 id]

/-- What the loop computes to decide whether it goes on. -/
def condOps : List (HloOp τ sig (Elt F)) := [
  StableHlo.binary main_v0_3 main_v0_4 main_while0c_v1 (cmpi .slt : (⟨S_, .i32⟩ : BufTy).Contents (Elt F) → (⟨S_, .i32⟩ : BufTy).Contents (Elt F) → (⟨S_, .i1⟩ : BufTy).Contents (Elt F))]

/-- A trip up to the branch: the token's row is read. -/
def headOps : List (HloOp τ sig (Elt F)) := [
  StableHlo.nullary main_while0b_c_7 (constantI S_ 32 1#32),
  StableHlo.binary main_v0_3 main_while0b_c_7 main_while0b_v1 (addi : (⟨S_, .i32⟩ : BufTy).Contents (Elt F) → (⟨S_, .i32⟩ : BufTy).Contents (Elt F) → (⟨S_, .i32⟩ : BufTy).Contents (Elt F)),
  StableHlo.nullary main_while0b_c_8 (constantI S_ 32 0#32),
  StableHlo.binary main_v0_3 main_while0b_c_8 main_while0b_v2 (cmpi .slt : (⟨S_, .i32⟩ : BufTy).Contents (Elt F) → (⟨S_, .i32⟩ : BufTy).Contents (Elt F) → (⟨S_, .i1⟩ : BufTy).Contents (Elt F)),
  StableHlo.unary main_v0_3 main_while0b_v3 (id : (⟨S_, .i32⟩ : BufTy).Contents (Elt F) → (⟨S_, .i32⟩ : BufTy).Contents (Elt F)),
  StableHlo.nullary main_while0b_c_9 (constantI S_ 32 1024#32),
  StableHlo.binary main_while0b_v3 main_while0b_c_9 main_while0b_v4 (addi : (⟨S_, .i32⟩ : BufTy).Contents (Elt F) → (⟨S_, .i32⟩ : BufTy).Contents (Elt F) → (⟨S_, .i32⟩ : BufTy).Contents (Elt F)),
  StableHlo.ternary main_while0b_v2 main_while0b_v4 main_v0_3 main_while0b_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unaryIndexed main_v0_0 ![main_while0b_v5] ⟨S_, .i32⟩ main_while0b_v6 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)),
  StableHlo.reshape main_while0b_v6 main_while0b_v7 (rfl : (.i32 : EltTy) = .i32) shapeCasts_S1_S_,
  StableHlo.nullary main_while0b_c_10 (constantI S_ 32 0#32),
  StableHlo.binary main_while0b_v7 main_while0b_c_10 main_while0b_v8 (cmpi .sge : (⟨S_, .i32⟩ : BufTy).Contents (Elt F) → (⟨S_, .i32⟩ : BufTy).Contents (Elt F) → (⟨S_, .i1⟩ : BufTy).Contents (Elt F))]

/-- The word the branch is taken on. -/
def rdOps : List (HloOp τ sig (Elt F)) := [
  StableHlo.unary main_while0b_v8 main_while0b_v9 ((extui 32 · natLt_1_32) : (⟨S_, .i1⟩ : BufTy).Contents (Elt F) → (⟨S_, .i32⟩ : BufTy).Contents (Elt F))]

/-- The branch for a token that has no row: nothing changes. -/
def armOps0 : List (HloOp τ sig (Elt F)) := [
  StableHlo.unary main_v0_5 main_while0b_v10_0 id,
  StableHlo.unary main_v0_6 main_while0b_v10_1 id,
  StableHlo.unary main_v0_7 main_while0b_v10_2 id]

/-- The branch for a token that has a row: the token and its log-probability are written and the row's length grows by one. -/
def armOps1 : List (HloOp τ sig (Elt F)) := [
  StableHlo.nullary main_while0b_case0b1_c_11 (constantI S_ 32 0#32),
  StableHlo.binary main_while0b_v7 main_while0b_case0b1_c_11 main_while0b_case0b1_v11 (cmpi .slt : (⟨S_, .i32⟩ : BufTy).Contents (Elt F) → (⟨S_, .i32⟩ : BufTy).Contents (Elt F) → (⟨S_, .i1⟩ : BufTy).Contents (Elt F)),
  StableHlo.nullary main_while0b_case0b1_c_12 (constantI S_ 32 1024#32),
  StableHlo.binary main_while0b_v7 main_while0b_case0b1_c_12 main_while0b_case0b1_v12 (addi : (⟨S_, .i32⟩ : BufTy).Contents (Elt F) → (⟨S_, .i32⟩ : BufTy).Contents (Elt F) → (⟨S_, .i32⟩ : BufTy).Contents (Elt F)),
  StableHlo.ternary main_while0b_case0b1_v11 main_while0b_case0b1_v12 main_while0b_v7 main_while0b_case0b1_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unaryIndexed main_v0_7 ![main_while0b_case0b1_v13] ⟨S_, .i32⟩ main_while0b_case0b1_v14 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)),
  StableHlo.reshape main_while0b_case0b1_v14 main_while0b_case0b1_v15 (rfl : (.i32 : EltTy) = .i32) shapeCasts_S1_S_,
  StableHlo.nullary main_while0b_case0b1_c_13 (constantI S_ 32 0#32),
  StableHlo.binary main_v0_3 main_while0b_case0b1_c_13 main_while0b_case0b1_v16 (cmpi .slt : (⟨S_, .i32⟩ : BufTy).Contents (Elt F) → (⟨S_, .i32⟩ : BufTy).Contents (Elt F) → (⟨S_, .i1⟩ : BufTy).Contents (Elt F)),
  StableHlo.unary main_v0_3 main_while0b_case0b1_v17 (id : (⟨S_, .i32⟩ : BufTy).Contents (Elt F) → (⟨S_, .i32⟩ : BufTy).Contents (Elt F)),
  StableHlo.nullary main_while0b_case0b1_c_14 (constantI S_ 32 1024#32),
  StableHlo.binary main_while0b_case0b1_v17 main_while0b_case0b1_c_14 main_while0b_case0b1_v18 (addi : (⟨S_, .i32⟩ : BufTy).Contents (Elt F) → (⟨S_, .i32⟩ : BufTy).Contents (Elt F) → (⟨S_, .i32⟩ : BufTy).Contents (Elt F)),
  StableHlo.ternary main_while0b_case0b1_v16 main_while0b_case0b1_v18 main_v0_3 main_while0b_case0b1_v19 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unaryIndexed main_v0_1 ![main_while0b_case0b1_v19] ⟨S_, .i32⟩ main_while0b_case0b1_v20 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)),
  StableHlo.reshape main_while0b_case0b1_v20 main_while0b_case0b1_v21 (rfl : (.i32 : EltTy) = .i32) shapeCasts_S1_S_,
  StableHlo.nullary main_while0b_case0b1_c_15 (constantI S_ 32 0#32),
  StableHlo.binary main_while0b_v7 main_while0b_case0b1_c_15 main_while0b_case0b1_v22 (cmpi .slt : (⟨S_, .i32⟩ : BufTy).Contents (Elt F) → (⟨S_, .i32⟩ : BufTy).Contents (Elt F) → (⟨S_, .i1⟩ : BufTy).Contents (Elt F)),
  StableHlo.nullary main_while0b_case0b1_c_16 (constantI S_ 32 1024#32),
  StableHlo.binary main_while0b_v7 main_while0b_case0b1_c_16 main_while0b_case0b1_v23 (addi : (⟨S_, .i32⟩ : BufTy).Contents (Elt F) → (⟨S_, .i32⟩ : BufTy).Contents (Elt F) → (⟨S_, .i32⟩ : BufTy).Contents (Elt F)),
  StableHlo.ternary main_while0b_case0b1_v22 main_while0b_case0b1_v23 main_while0b_v7 main_while0b_case0b1_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.nullary main_while0b_case0b1_c_17 (constantI S_ 32 0#32),
  StableHlo.binary main_while0b_case0b1_v15 main_while0b_case0b1_c_17 main_while0b_case0b1_v25 (cmpi .slt : (⟨S_, .i32⟩ : BufTy).Contents (Elt F) → (⟨S_, .i32⟩ : BufTy).Contents (Elt F) → (⟨S_, .i1⟩ : BufTy).Contents (Elt F)),
  StableHlo.nullary main_while0b_case0b1_c_18 (constantI S_ 32 8192#32),
  StableHlo.binary main_while0b_case0b1_v15 main_while0b_case0b1_c_18 main_while0b_case0b1_v26 (addi : (⟨S_, .i32⟩ : BufTy).Contents (Elt F) → (⟨S_, .i32⟩ : BufTy).Contents (Elt F) → (⟨S_, .i32⟩ : BufTy).Contents (Elt F)),
  StableHlo.ternary main_while0b_case0b1_v25 main_while0b_case0b1_v26 main_while0b_case0b1_v15 main_while0b_case0b1_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unary main_while0b_case0b1_v24 main_while0b_case0b1_v28 (broadcastInDim S1 ![] bcast_S_S1 : (⟨S_, .i32⟩ : BufTy).Contents (Elt F) → (⟨S1, .i32⟩ : BufTy).Contents (Elt F)),
  StableHlo.unary main_while0b_case0b1_v27 main_while0b_case0b1_v29 (broadcastInDim S1 ![] bcast_S_S1 : (⟨S_, .i32⟩ : BufTy).Contents (Elt F) → (⟨S1, .i32⟩ : BufTy).Contents (Elt F)),
  StableHlo.binary main_while0b_case0b1_v28 main_while0b_case0b1_v29 main_while0b_case0b1_v30 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v0_5 main_while0b_case0b1_v30 main_while0b_case0b1_v21 main_while0b_case0b1_v31 ((fun x i u => Host.scatter scatter_S1024x8192_S2_S__n_01_01_0 (fun _ b => b) x i u) : (⟨S1024x8192, .i32⟩ : BufTy).Contents (Elt F) → (⟨S2, .i32⟩ : BufTy).Contents (Elt F) → (⟨S_, .i32⟩ : BufTy).Contents (Elt F) → (⟨S1024x8192, .i32⟩ : BufTy).Contents (Elt F)),
  StableHlo.nullary main_while0b_case0b1_c_19 (constantI S_ 32 0#32),
  StableHlo.binary main_v0_3 main_while0b_case0b1_c_19 main_while0b_case0b1_v32 (cmpi .slt : (⟨S_, .i32⟩ : BufTy).Contents (Elt F) → (⟨S_, .i32⟩ : BufTy).Contents (Elt F) → (⟨S_, .i1⟩ : BufTy).Contents (Elt F)),
  StableHlo.unary main_v0_3 main_while0b_case0b1_v33 (id : (⟨S_, .i32⟩ : BufTy).Contents (Elt F) → (⟨S_, .i32⟩ : BufTy).Contents (Elt F)),
  StableHlo.nullary main_while0b_case0b1_c_20 (constantI S_ 32 1024#32),
  StableHlo.binary main_while0b_case0b1_v33 main_while0b_case0b1_c_20 main_while0b_case0b1_v34 (addi : (⟨S_, .i32⟩ : BufTy).Contents (Elt F) → (⟨S_, .i32⟩ : BufTy).Contents (Elt F) → (⟨S_, .i32⟩ : BufTy).Contents (Elt F)),
  StableHlo.ternary main_while0b_case0b1_v32 main_while0b_case0b1_v34 main_v0_3 main_while0b_case0b1_v35 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unaryIndexed main_v0_2 ![main_while0b_case0b1_v35] ⟨S_, .i32⟩ main_while0b_case0b1_v36 ((fun x i => Host.dynamicSlice S1 x (fun k => (i k (Shape.Idx.first h_S_)).toInt) sliceFits_S1024_S1) : (⟨S1024, .f32⟩ : BufTy).Contents (Elt F) → (Fin 1 → (⟨S_, .i32⟩ : BufTy).Contents (Elt F)) → (⟨S1, .f32⟩ : BufTy).Contents (Elt F)),
  StableHlo.reshape main_while0b_case0b1_v36 main_while0b_case0b1_v37 (rfl : (.f32 : EltTy) = .f32) shapeCasts_S1_S_,
  StableHlo.nullary main_while0b_case0b1_c_21 (constantI S_ 32 0#32),
  StableHlo.binary main_while0b_v7 main_while0b_case0b1_c_21 main_while0b_case0b1_v38 (cmpi .slt : (⟨S_, .i32⟩ : BufTy).Contents (Elt F) → (⟨S_, .i32⟩ : BufTy).Contents (Elt F) → (⟨S_, .i1⟩ : BufTy).Contents (Elt F)),
  StableHlo.nullary main_while0b_case0b1_c_22 (constantI S_ 32 1024#32),
  StableHlo.binary main_while0b_v7 main_while0b_case0b1_c_22 main_while0b_case0b1_v39 (addi : (⟨S_, .i32⟩ : BufTy).Contents (Elt F) → (⟨S_, .i32⟩ : BufTy).Contents (Elt F) → (⟨S_, .i32⟩ : BufTy).Contents (Elt F)),
  StableHlo.ternary main_while0b_case0b1_v38 main_while0b_case0b1_v39 main_while0b_v7 main_while0b_case0b1_v40 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.nullary main_while0b_case0b1_c_23 (constantI S_ 32 0#32),
  StableHlo.binary main_while0b_case0b1_v15 main_while0b_case0b1_c_23 main_while0b_case0b1_v41 (cmpi .slt : (⟨S_, .i32⟩ : BufTy).Contents (Elt F) → (⟨S_, .i32⟩ : BufTy).Contents (Elt F) → (⟨S_, .i1⟩ : BufTy).Contents (Elt F)),
  StableHlo.nullary main_while0b_case0b1_c_24 (constantI S_ 32 8192#32),
  StableHlo.binary main_while0b_case0b1_v15 main_while0b_case0b1_c_24 main_while0b_case0b1_v42 (addi : (⟨S_, .i32⟩ : BufTy).Contents (Elt F) → (⟨S_, .i32⟩ : BufTy).Contents (Elt F) → (⟨S_, .i32⟩ : BufTy).Contents (Elt F)),
  StableHlo.ternary main_while0b_case0b1_v41 main_while0b_case0b1_v42 main_while0b_case0b1_v15 main_while0b_case0b1_v43 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unary main_while0b_case0b1_v40 main_while0b_case0b1_v44 (broadcastInDim S1 ![] bcast_S_S1 : (⟨S_, .i32⟩ : BufTy).Contents (Elt F) → (⟨S1, .i32⟩ : BufTy).Contents (Elt F)),
  StableHlo.unary main_while0b_case0b1_v43 main_while0b_case0b1_v45 (broadcastInDim S1 ![] bcast_S_S1 : (⟨S_, .i32⟩ : BufTy).Contents (Elt F) → (⟨S1, .i32⟩ : BufTy).Contents (Elt F)),
  StableHlo.binary main_while0b_case0b1_v44 main_while0b_case0b1_v45 main_while0b_case0b1_v46 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v0_6 main_while0b_case0b1_v46 main_while0b_case0b1_v37 main_while0b_case0b1_v47 ((fun x i u => Host.scatter scatter_S1024x8192_S2_S__n_01_01_0 (fun _ b => b) x i u) : (⟨S1024x8192, .f32⟩ : BufTy).Contents (Elt F) → (⟨S2, .i32⟩ : BufTy).Contents (Elt F) → (⟨S_, .f32⟩ : BufTy).Contents (Elt F) → (⟨S1024x8192, .f32⟩ : BufTy).Contents (Elt F)),
  StableHlo.nullary main_while0b_case0b1_c_25 (constantI S_ 32 0#32),
  StableHlo.binary main_while0b_v7 main_while0b_case0b1_c_25 main_while0b_case0b1_v48 (cmpi .slt : (⟨S_, .i32⟩ : BufTy).Contents (Elt F) → (⟨S_, .i32⟩ : BufTy).Contents (Elt F) → (⟨S_, .i1⟩ : BufTy).Contents (Elt F)),
  StableHlo.nullary main_while0b_case0b1_c_26 (constantI S_ 32 1024#32),
  StableHlo.binary main_while0b_v7 main_while0b_case0b1_c_26 main_while0b_case0b1_v49 (addi : (⟨S_, .i32⟩ : BufTy).Contents (Elt F) → (⟨S_, .i32⟩ : BufTy).Contents (Elt F) → (⟨S_, .i32⟩ : BufTy).Contents (Elt F)),
  StableHlo.ternary main_while0b_case0b1_v48 main_while0b_case0b1_v49 main_while0b_v7 main_while0b_case0b1_v50 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unary main_while0b_case0b1_v50 main_while0b_case0b1_v51 (broadcastInDim S1 ![] bcast_S_S1 : (⟨S_, .i32⟩ : BufTy).Contents (Elt F) → (⟨S1, .i32⟩ : BufTy).Contents (Elt F)),
  StableHlo.nullary main_while0b_case0b1_c_27 (constantI S_ 32 1#32),
  StableHlo.ternary main_v0_7 main_while0b_case0b1_v51 main_while0b_case0b1_c_27 main_while0b_case0b1_v52 ((fun x i u => Host.scatter scatter_S1024_S1_S__n_0_0_0 IntOp.addi x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F)),
  StableHlo.unary main_while0b_case0b1_v31 main_while0b_v10_0 id,
  StableHlo.unary main_while0b_case0b1_v47 main_while0b_v10_1 id,
  StableHlo.unary main_while0b_case0b1_v52 main_while0b_v10_2 id]

/-- The end of a trip: the counter and the three updated arrays are carried on. -/
def tailOps : List (HloOp τ sig (Elt F)) := [
  StableHlo.unary main_while0b_v1 main_v0_3 id,
  StableHlo.unary main_while0b_v10_0 main_v0_5 id,
  StableHlo.unary main_while0b_v10_1 main_v0_6 id,
  StableHlo.unary main_while0b_v10_2 main_v0_7 id]

/-- The buffers `preOps` writes. -/
def preOps_W : List (Ref sig .tc) := [main_c, main_v0_0, main_v0_1, main_v0_2, main_v0_3, main_v0_4, main_v0_5, main_v0_6, main_v0_7]

/-- The buffers `condOps` writes. -/
def condOps_W : List (Ref sig .tc) := [main_while0c_v1]

/-- The buffers `headOps` writes. -/
def headOps_W : List (Ref sig .tc) := [main_while0b_c_7, main_while0b_v1, main_while0b_c_8, main_while0b_v2, main_while0b_v3, main_while0b_c_9, main_while0b_v4, main_while0b_v5, main_while0b_v6, main_while0b_v7, main_while0b_c_10, main_while0b_v8]

/-- The buffers `rdOps` writes. -/
def rdOps_W : List (Ref sig .tc) := [main_while0b_v9]

/-- The buffers `armOps0` writes. -/
def armOps0_W : List (Ref sig .tc) := [main_while0b_v10_0, main_while0b_v10_1, main_while0b_v10_2]

/-- The buffers `armOps1` writes. -/
def armOps1_W : List (Ref sig .tc) := [main_while0b_case0b1_c_11, main_while0b_case0b1_v11, main_while0b_case0b1_c_12, main_while0b_case0b1_v12, main_while0b_case0b1_v13, main_while0b_case0b1_v14, main_while0b_case0b1_v15, main_while0b_case0b1_c_13, main_while0b_case0b1_v16, main_while0b_case0b1_v17, main_while0b_case0b1_c_14, main_while0b_case0b1_v18, main_while0b_case0b1_v19, main_while0b_case0b1_v20, main_while0b_case0b1_v21, main_while0b_case0b1_c_15, main_while0b_case0b1_v22, main_while0b_case0b1_c_16, main_while0b_case0b1_v23, main_while0b_case0b1_v24, main_while0b_case0b1_c_17, main_while0b_case0b1_v25, main_while0b_case0b1_c_18, main_while0b_case0b1_v26, main_while0b_case0b1_v27, main_while0b_case0b1_v28, main_while0b_case0b1_v29, main_while0b_case0b1_v30, main_while0b_case0b1_v31, main_while0b_case0b1_c_19, main_while0b_case0b1_v32, main_while0b_case0b1_v33, main_while0b_case0b1_c_20, main_while0b_case0b1_v34, main_while0b_case0b1_v35, main_while0b_case0b1_v36, main_while0b_case0b1_v37, main_while0b_case0b1_c_21, main_while0b_case0b1_v38, main_while0b_case0b1_c_22, main_while0b_case0b1_v39, main_while0b_case0b1_v40, main_while0b_case0b1_c_23, main_while0b_case0b1_v41, main_while0b_case0b1_c_24, main_while0b_case0b1_v42, main_while0b_case0b1_v43, main_while0b_case0b1_v44, main_while0b_case0b1_v45, main_while0b_case0b1_v46, main_while0b_case0b1_v47, main_while0b_case0b1_c_25, main_while0b_case0b1_v48, main_while0b_case0b1_c_26, main_while0b_case0b1_v49, main_while0b_case0b1_v50, main_while0b_case0b1_v51, main_while0b_case0b1_c_27, main_while0b_case0b1_v52, main_while0b_v10_0, main_while0b_v10_1, main_while0b_v10_2]

/-- The buffers `tailOps` writes. -/
def tailOps_W : List (Ref sig .tc) := [main_v0_3, main_v0_5, main_v0_6, main_v0_7]

/-- Every operation of the stretch before the loop works on buffers the program declares. -/
theorem preOps_sub : ∀ op ∈ (preOps : List (HloOp τ sig (Elt F))), op.bufs ⊆ ucRefs τ sig := by
  have h : (preOps : List (HloOp τ sig (Elt F))).Forall fun op => op.bufs ⊆ StableHlo.tcRefs τ sig := by
    exact ⟨StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
  exact fun op ho => sub_ucRefs op (List.forall_iff_forall_mem.mp h op ho)
/-- No operation of the stretch before the loop makes a new buffer. -/
theorem preOps_fresh : ∀ op ∈ (preOps : List (HloOp τ sig (Elt F))), op.fresh = ∅ := by
  have h : (preOps : List (HloOp τ sig (Elt F))).Forall fun op => op.fresh = ∅ := by
    simp only [preOps, List.Forall]; repeat' constructor
  exact fun op ho => List.forall_iff_forall_mem.mp h op ho
/-- Buffers that the stretch before the loop does not write keep their contents. -/
theorem preOps_keep (V : Valuation τ sig (Elt F)) {b : Ref sig .tc} (hb : b ∉ preOps_W) :
    after preOps V (Proc.devRef .tc b) = V (Proc.devRef .tc b) :=
  StableHlo.after_of_writes_sub preOps V (W := preOps_W) (StableHlo.forall_writes_sub_of_map rfl) hb

/-- Every operation of the loop's test works on buffers the program declares. -/
theorem condOps_sub : ∀ op ∈ (condOps : List (HloOp τ sig (Elt F))), op.bufs ⊆ ucRefs τ sig := by
  have h : (condOps : List (HloOp τ sig (Elt F))).Forall fun op => op.bufs ⊆ StableHlo.tcRefs τ sig := by
    exact StableHlo.binary_bufs_sub ..
  exact fun op ho => sub_ucRefs op (List.forall_iff_forall_mem.mp h op ho)
/-- No operation of the loop's test makes a new buffer. -/
theorem condOps_fresh : ∀ op ∈ (condOps : List (HloOp τ sig (Elt F))), op.fresh = ∅ := by
  have h : (condOps : List (HloOp τ sig (Elt F))).Forall fun op => op.fresh = ∅ := by
    simp only [condOps, List.Forall]; repeat' constructor
  exact fun op ho => List.forall_iff_forall_mem.mp h op ho
/-- Buffers that the loop's test does not write keep their contents. -/
theorem condOps_keep (V : Valuation τ sig (Elt F)) {b : Ref sig .tc} (hb : b ∉ condOps_W) :
    after condOps V (Proc.devRef .tc b) = V (Proc.devRef .tc b) :=
  StableHlo.after_of_writes_sub condOps V (W := condOps_W) (StableHlo.forall_writes_sub_of_map rfl) hb

/-- Every operation of a trip's first stretch works on buffers the program declares. -/
theorem headOps_sub : ∀ op ∈ (headOps : List (HloOp τ sig (Elt F))), op.bufs ⊆ ucRefs τ sig := by
  have h : (headOps : List (HloOp τ sig (Elt F))).Forall fun op => op.bufs ⊆ StableHlo.tcRefs τ sig := by
    exact ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub ..⟩
  exact fun op ho => sub_ucRefs op (List.forall_iff_forall_mem.mp h op ho)
/-- No operation of a trip's first stretch makes a new buffer. -/
theorem headOps_fresh : ∀ op ∈ (headOps : List (HloOp τ sig (Elt F))), op.fresh = ∅ := by
  have h : (headOps : List (HloOp τ sig (Elt F))).Forall fun op => op.fresh = ∅ := by
    simp only [headOps, List.Forall]; repeat' constructor
  exact fun op ho => List.forall_iff_forall_mem.mp h op ho
/-- Buffers that a trip's first stretch does not write keep their contents. -/
theorem headOps_keep (V : Valuation τ sig (Elt F)) {b : Ref sig .tc} (hb : b ∉ headOps_W) :
    after headOps V (Proc.devRef .tc b) = V (Proc.devRef .tc b) :=
  StableHlo.after_of_writes_sub headOps V (W := headOps_W) (StableHlo.forall_writes_sub_of_map rfl) hb

/-- Every operation of the branch's word works on buffers the program declares. -/
theorem rdOps_sub : ∀ op ∈ (rdOps : List (HloOp τ sig (Elt F))), op.bufs ⊆ ucRefs τ sig := by
  have h : (rdOps : List (HloOp τ sig (Elt F))).Forall fun op => op.bufs ⊆ StableHlo.tcRefs τ sig := by
    exact StableHlo.unary_bufs_sub ..
  exact fun op ho => sub_ucRefs op (List.forall_iff_forall_mem.mp h op ho)
/-- No operation of the branch's word makes a new buffer. -/
theorem rdOps_fresh : ∀ op ∈ (rdOps : List (HloOp τ sig (Elt F))), op.fresh = ∅ := by
  have h : (rdOps : List (HloOp τ sig (Elt F))).Forall fun op => op.fresh = ∅ := by
    simp only [rdOps, List.Forall]; repeat' constructor
  exact fun op ho => List.forall_iff_forall_mem.mp h op ho
/-- Buffers that the branch's word does not write keep their contents. -/
theorem rdOps_keep (V : Valuation τ sig (Elt F)) {b : Ref sig .tc} (hb : b ∉ rdOps_W) :
    after rdOps V (Proc.devRef .tc b) = V (Proc.devRef .tc b) :=
  StableHlo.after_of_writes_sub rdOps V (W := rdOps_W) (StableHlo.forall_writes_sub_of_map rfl) hb

/-- Every operation of the first branch works on buffers the program declares. -/
theorem armOps0_sub : ∀ op ∈ (armOps0 : List (HloOp τ sig (Elt F))), op.bufs ⊆ ucRefs τ sig := by
  have h : (armOps0 : List (HloOp τ sig (Elt F))).Forall fun op => op.bufs ⊆ StableHlo.tcRefs τ sig := by
    exact ⟨StableHlo.unary_bufs_sub .., StableHlo.unary_bufs_sub .., StableHlo.unary_bufs_sub ..⟩
  exact fun op ho => sub_ucRefs op (List.forall_iff_forall_mem.mp h op ho)
/-- No operation of the first branch makes a new buffer. -/
theorem armOps0_fresh : ∀ op ∈ (armOps0 : List (HloOp τ sig (Elt F))), op.fresh = ∅ := by
  have h : (armOps0 : List (HloOp τ sig (Elt F))).Forall fun op => op.fresh = ∅ := by
    simp only [armOps0, List.Forall]; repeat' constructor
  exact fun op ho => List.forall_iff_forall_mem.mp h op ho
/-- Buffers that the first branch does not write keep their contents. -/
theorem armOps0_keep (V : Valuation τ sig (Elt F)) {b : Ref sig .tc} (hb : b ∉ armOps0_W) :
    after armOps0 V (Proc.devRef .tc b) = V (Proc.devRef .tc b) :=
  StableHlo.after_of_writes_sub armOps0 V (W := armOps0_W) (StableHlo.forall_writes_sub_of_map rfl) hb

/-- Every operation of the second branch works on buffers the program declares. -/
theorem armOps1_sub : ∀ op ∈ (armOps1 : List (HloOp τ sig (Elt F))), op.bufs ⊆ ucRefs τ sig := by
  have h : (armOps1 : List (HloOp τ sig (Elt F))).Forall fun op => op.bufs ⊆ StableHlo.tcRefs τ sig := by
    exact ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.unary_bufs_sub .., StableHlo.unary_bufs_sub .., StableHlo.unary_bufs_sub ..⟩
  exact fun op ho => sub_ucRefs op (List.forall_iff_forall_mem.mp h op ho)
/-- No operation of the second branch makes a new buffer. -/
theorem armOps1_fresh : ∀ op ∈ (armOps1 : List (HloOp τ sig (Elt F))), op.fresh = ∅ := by
  have h : (armOps1 : List (HloOp τ sig (Elt F))).Forall fun op => op.fresh = ∅ := by
    simp only [armOps1, List.Forall]; repeat' constructor
  exact fun op ho => List.forall_iff_forall_mem.mp h op ho
/-- Buffers that the second branch does not write keep their contents. -/
theorem armOps1_keep (V : Valuation τ sig (Elt F)) {b : Ref sig .tc} (hb : b ∉ armOps1_W) :
    after armOps1 V (Proc.devRef .tc b) = V (Proc.devRef .tc b) :=
  StableHlo.after_of_writes_sub armOps1 V (W := armOps1_W) (StableHlo.forall_writes_sub_of_map rfl) hb

/-- Every operation of a trip's last stretch works on buffers the program declares. -/
theorem tailOps_sub : ∀ op ∈ (tailOps : List (HloOp τ sig (Elt F))), op.bufs ⊆ ucRefs τ sig := by
  have h : (tailOps : List (HloOp τ sig (Elt F))).Forall fun op => op.bufs ⊆ StableHlo.tcRefs τ sig := by
    exact ⟨StableHlo.unary_bufs_sub .., StableHlo.unary_bufs_sub .., StableHlo.unary_bufs_sub .., StableHlo.unary_bufs_sub ..⟩
  exact fun op ho => sub_ucRefs op (List.forall_iff_forall_mem.mp h op ho)
/-- No operation of a trip's last stretch makes a new buffer. -/
theorem tailOps_fresh : ∀ op ∈ (tailOps : List (HloOp τ sig (Elt F))), op.fresh = ∅ := by
  have h : (tailOps : List (HloOp τ sig (Elt F))).Forall fun op => op.fresh = ∅ := by
    simp only [tailOps, List.Forall]; repeat' constructor
  exact fun op ho => List.forall_iff_forall_mem.mp h op ho
/-- Buffers that a trip's last stretch does not write keep their contents. -/
theorem tailOps_keep (V : Valuation τ sig (Elt F)) {b : Ref sig .tc} (hb : b ∉ tailOps_W) :
    after tailOps V (Proc.devRef .tc b) = V (Proc.devRef .tc b) :=
  StableHlo.after_of_writes_sub tailOps V (W := tailOps_W) (StableHlo.forall_writes_sub_of_map rfl) hb

end Cert.Proof.Ref

end
-- ==== Proof.RefRun.lean ====
/-
  The reference program's run. Its loop makes as many trips as the number of tokens says, each a fold of the program's operations over
  what the buffers held before; the run ends with every buffer at that fold's value, so with every argument as it was.
-/
module

public import proofs.«01_k».proof.Proof.RefOps

@[expose] public section

noncomputable section

namespace Cert.Proof.Ref

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (ucRefs sub_ucRefs CSeg CaseSeg LoopSeg)

variable {F : FTy → Type} [FloatOps F]

local notation "𝕄" => MT nD τ sig Unit (Elt F) ℕ (Option PUnit) ℕ

/-! ## A trip, as what it makes of the buffers -/

/-- The operations of the branch taken. -/
def armOps : Fin 2 → List (HloOp τ sig (Elt F))
  | 0 => armOps0
  | 1 => armOps1

/-- The buffers once a trip has read the word it branches on. -/
def rdV (V : Valuation τ sig (Elt F)) : Valuation τ sig (Elt F) := after rdOps (after headOps V)
/-- The word a trip branches on. -/
def word (V : Valuation τ sig (Elt F)) : BitVec 32 := (rdV V main_while0b_v9 : S_.Idx → BitVec 32) HostLoop.idx0
/-- The buffers after the branch. -/
def armV (V : Valuation τ sig (Elt F)) : Valuation τ sig (Elt F) := after (armOps (HostLoop.branch (word V) 1)) (rdV V)
/-- The buffers after a trip. -/
def step (V : Valuation τ sig (Elt F)) : Valuation τ sig (Elt F) := after tailOps (armV V)

variable (m : (ℓ : Loc nD τ sig) → Buf (Elt F) ℓ)

/-- The buffers as launched. -/
def startV (c : Dev nD) : Valuation τ sig (Elt F) := fun b => m ((c : Dev nD), b)
/-- The buffers when the loop's test is run for the `k`-th time. -/
def tripV (c : Dev nD) : ℕ → Valuation τ sig (Elt F)
  | 0 => after preOps (startV m c)
  | k + 1 => step (after condOps (tripV c k))

/-- The number of tokens. -/
def bound (c : Dev nD) : BitVec 32 := (m ((c : Thread nD τ).loc main_arg6) : S_.Idx → BitVec 32) HostLoop.idx0
/-- The number of trips. -/
def trips : ℕ := Scf.trips 0#32 (bound m 0) 1#32
/-- The buffers at the end. -/
def lastV (c : Dev nD) : Valuation τ sig (Elt F) := after condOps (tripV m c (trips m))

theorem bound_ok (ub : BitVec 32) : Scf.OK 0#32 ub 1#32 := by
  have h := BitVec.toInt_lt (x := ub)
  refine ⟨by decide, ?_⟩
  show (0#32 : BitVec 32).toInt + ((((ub.toInt - (0#32 : BitVec 32).toInt + (1#32 : BitVec 32).toInt - 1) / (1#32 : BitVec 32).toInt).toNat : ℕ) : ℤ) * (1#32 : BitVec 32).toInt < 2 ^ (32 - 1)
  rw [show (0#32 : BitVec 32).toInt = 0 from rfl, show (1#32 : BitVec 32).toInt = 1 from rfl]
  have h2 : (2 : ℤ) ^ (32 - 1) = 2147483648 := by decide
  rw [h2] at h ⊢
  omega

/-! ## Buffers a trip leaves as they are -/

/-- The arguments, and the carried arrays a trip only reads. -/
def fixed : List (Ref sig .tc) := [main_arg0, main_arg1, main_arg2, main_arg3, main_arg4, main_arg5, main_arg6, main_v0_0, main_v0_1, main_v0_2, main_v0_4]

/-- The branch taken writes none of them. -/
theorem arm_keep (b : Fin 2) (V : Valuation τ sig (Elt F)) {r : Ref sig .tc} (h0 : r ∉ armOps0_W) (h1 : r ∉ armOps1_W) :
    after (armOps b) V (Proc.devRef .tc r) = V (Proc.devRef .tc r) := by
  fin_cases b
  · exact armOps0_keep V h0
  · exact armOps1_keep V h1

/-- A trip leaves them as they are. -/
theorem step_keep (V : Valuation τ sig (Elt F)) : ∀ r ∈ fixed, step V (Proc.devRef .tc r) = V (Proc.devRef .tc r) := by
  intro r hr
  have ha : ∀ r ∈ fixed, r ∉ tailOps_W := by decide
  have hb : ∀ r ∈ fixed, r ∉ armOps0_W := by decide
  have hc : ∀ r ∈ fixed, r ∉ armOps1_W := by decide
  have hd : ∀ r ∈ fixed, r ∉ rdOps_W := by decide
  have he : ∀ r ∈ fixed, r ∉ headOps_W := by decide
  rw [step, tailOps_keep _ (ha r hr), armV, arm_keep _ _ (hb r hr) (hc r hr), rdV, rdOps_keep _ (hd r hr), headOps_keep _ (he r hr)]

/-- So does the loop's test. -/
theorem cond_keep (V : Valuation τ sig (Elt F)) : ∀ r ∈ fixed, after condOps V (Proc.devRef .tc r) = V (Proc.devRef .tc r) := by
  intro r hr
  have ha : ∀ r ∈ fixed, r ∉ condOps_W := by decide
  exact condOps_keep _ (ha r hr)

/-- Whenever the test is run they hold what they held when the loop was entered. -/
theorem trip_keep (c : Dev nD) (k : ℕ) : ∀ r ∈ fixed, tripV m c k (Proc.devRef .tc r) = tripV m c 0 (Proc.devRef .tc r) := by
  induction k with
  | zero => intro r _; rfl
  | succ k ih =>
    intro r hr
    rw [show tripV m c (k + 1) = step (after condOps (tripV m c k)) from rfl, step_keep _ r hr, cond_keep _ r hr, ih r hr]

/-- At the end every argument is as launched. -/
theorem last_args (c : Dev nD) : ∀ r ∈ [main_arg0, main_arg1, main_arg2, main_arg3, main_arg4, main_arg5, main_arg6],
    lastV m c (Proc.devRef .tc r) = m ((c : Thread nD τ).loc r) := by
  intro r hr
  have ha : ∀ r ∈ [main_arg0, main_arg1, main_arg2, main_arg3, main_arg4, main_arg5, main_arg6], r ∈ fixed := by decide
  have hb : ∀ r ∈ [main_arg0, main_arg1, main_arg2, main_arg3, main_arg4, main_arg5, main_arg6], r ∉ preOps_W := by decide
  rw [lastV, cond_keep _ r (ha r hr), trip_keep m c _ r (ha r hr), show tripV m c 0 = after preOps (startV m c) from rfl, preOps_keep _ (hb r hr)]
  rfl

/-! ## The counter -/

theorem entry_ub (c : Dev nD) : tripV m c 0 main_v0_4 = m ((c : Thread nD τ).loc main_arg6) := by
  rw [show tripV m c 0 = after preOps (startV m c) from rfl]
  unfold preOps
  after_results
  rfl

theorem entry_ctr (c : Dev nD) : tripV m c 0 main_v0_3 = (constantI S_ 32 0#32 : S_.Idx → BitVec 32) := by
  rw [show tripV m c 0 = after preOps (startV m c) from rfl]
  unfold preOps
  after_results
  rfl

theorem head_next (V : Valuation τ sig (Elt F)) :
    after headOps V main_while0b_v1 = addi (V main_v0_3 : S_.Idx → BitVec 32) (constantI S_ 32 1#32) := by
  unfold headOps
  after_results

theorem step_ctr (V : Valuation τ sig (Elt F)) : step V main_v0_3 = addi (V main_v0_3 : S_.Idx → BitVec 32) (constantI S_ 32 1#32) := by
  have h : ∀ U : Valuation τ sig (Elt F), after tailOps U main_v0_3 = U main_while0b_v1 := fun U => by
    unfold tailOps
    after_results
    rfl
  rw [step, h, armV, arm_keep _ _ (by decide) (by decide), rdV, rdOps_keep _ (by decide), head_next]

theorem trip_ctr (c : Dev nD) : ∀ k, tripV m c k main_v0_3 = fun _ : S_.Idx => Scf.iv 0#32 1#32 k
  | 0 => by rw [entry_ctr, Scf.iv_zero]; rfl
  | k + 1 => by
    rw [show tripV m c (k + 1) = step (after condOps (tripV m c k)) from rfl, step_ctr, condOps_keep _ (by decide), trip_ctr c k, Scf.iv_succ]
    rfl

theorem trip_ub (c : Dev nD) (k : ℕ) : tripV m c k main_v0_4 = m ((c : Thread nD τ).loc main_arg6) :=
  (trip_keep m c k main_v0_4 (by decide)).trans (entry_ub m c)

/-! ## The segments -/

abbrev 𝒱₀ : Variants := Variants.none
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- What a device carries beside its buffers: it owes nothing. -/
abbrev Rw (c : Dev nD) : sProp 𝕄 := iprop(∃ W, owes (c : Thread nD τ) (0 : CellTallies nD τ sig Unit) W)

abbrev Seg (F : FTy → Type) [FloatOps F] : Type 1 := CSeg (pcfgs (F := F)) adm defs₀ 𝒱₀ L lv loops tk

/-- The branch's word, read. -/
def rdOp : HloOp τ sig (Elt F) :=
  StableHlo.unary main_while0b_v8 main_while0b_v9 ((extui 32 · natLt_1_32) : (⟨S_, .i1⟩ : BufTy).Contents (Elt F) → (⟨S_, .i32⟩ : BufTy).Contents (Elt F))
abbrev rdProg : Prog (TpuEff nD τ sig (Elt F) (HostLoop.Sig (Pipeline.Sig Λ₀ (Fin 0) fun p => (pcfgs (F := F) p).Adm) 1) .tc) (BitVec 32) :=
  hlo rfl (rdOp (F := F)) (HostLoop.elt main_while0b_v9)
/-- The two branches. -/
abbrev armProg : Fin 2 → Prog (TpuEff nD τ sig (Elt F) (HostLoop.Sig (Pipeline.Sig Λ₀ (Fin 0) fun p => (pcfgs (F := F) p).Adm) 1) .tc) PUnit
  | 0 => StableHlo.seq armOps0
  | 1 => StableHlo.seq armOps1
  | ⟨_ + 2, h⟩ => absurd h (Nat.not_lt.2 (Nat.le_add_left _ _))

theorem armOps_sub (b : Fin 2) : ∀ op ∈ (armOps b : List (HloOp τ sig (Elt F))), op.bufs ⊆ ucRefs τ sig := by
  fin_cases b
  · exact armOps0_sub
  · exact armOps1_sub
theorem armOps_fresh (b : Fin 2) : ∀ op ∈ (armOps b : List (HloOp τ sig (Elt F))), op.fresh = ∅ := by
  fin_cases b
  · exact armOps0_fresh
  · exact armOps1_fresh

section Branch
variable (V : Dev nD → Valuation τ sig (Elt F))

def armSeg (b : Fin 2) : Seg F :=
  CSeg.ofOps _ _ _ _ _ _ _ _ (ucRefs τ sig) (armOps b) (armOps_sub b) (armOps_fresh b) (fun c => rdV (V c))
    (fun c => iprop(⌜b = HostLoop.branch (word (V c)) 1⌝ ∗ Rw c))

abbrev cpre (c : Dev nD) : sProp 𝕄 := iprop(held (c : Thread nD τ) (ucRefs τ sig) (after headOps (V c)) ∗ Rw c)
abbrev cmid (v : BitVec 32) (c : Dev nD) : sProp 𝕄 := iprop(held (c : Thread nD τ) (ucRefs τ sig) (rdV (V c)) ∗ ⌜v = word (V c)⌝ ∗ Rw c)
abbrev cpost (c : Dev nD) : sProp 𝕄 := iprop(held (c : Thread nD τ) (ucRefs τ sig) (armV (V c)) ∗ Rw c)
abbrev alive : Fin (1 + 1) → Prop := fun _ => True

set_option backward.isDefEq.respectTransparency.types false in
/-- Reading the word. -/
theorem read_spec (c : Dev nD) (bd : Option (Variants.lift 𝒱₀).V) :
    iprop(boundary (c : Thread nD τ) ∗ cpre V c)
      ⊢ wp frame (wpE (HostLoop.defs loops (Pipeline.defs (pcfgs (F := F)) defs₀)) (Variants.lift 𝒱₀) (c : Thread nD τ) bd) Set.univ (rdProg (F := F))
          (fun v => iprop(⌜alive (HostLoop.branch v 1)⌝ ∗ boundary (c : Thread nD τ) ∗ cmid V v c)) := by
  unfold rdProg
  iintro ⟨Hb, Hh, HR⟩
  iapply (StableHlo.wp_hlo_within (Variants.lift 𝒱₀) (c : Thread nD τ) bd Set.univ (sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; trivial
  isplitl [Hb]; · iexact Hb
  isplitl [Hh]; · unfold rdV; rw [show (rdOps : List (HloOp τ sig (Elt F))) = [rdOp] from rfl, StableHlo.after_cons, StableHlo.after_nil]; iexact Hh
  isplitr; · ipureintro; rfl
  iexact HR

def caseW : CaseSeg (pcfgs (F := F)) adm defs₀ 𝒱₀ L lv loops tk :=
  { on := fun _ => True
    N := 1
    rd := rdProg
    br := armProg
    pre := cpre V
    mid := cmid V
    post := cpost V
    live := alive
    hrd := fun c _ bd => read_spec V c bd
    segs := fun b => [armSeg V b]
    hch := fun c _ v _ => ⟨by
        show iprop(held (c : Thread nD τ) (ucRefs τ sig) (rdV (V c)) ∗ ⌜v = word (V c)⌝ ∗ Rw c)
          ⊢ iprop(held (c : Thread nD τ) (ucRefs τ sig) (rdV (V c)) ∗ ⌜HostLoop.branch v 1 = HostLoop.branch (word (V c)) 1⌝ ∗ Rw c)
        iintro ⟨Hh, %hv, HR⟩
        isplitl [Hh]; · iexact Hh
        isplitr; · ipureintro; rw [hv]
        iexact HR, by
        show iprop(held (c : Thread nD τ) (ucRefs τ sig) (after (armOps (HostLoop.branch v 1)) (rdV (V c))) ∗ ⌜HostLoop.branch v 1 = HostLoop.branch (word (V c)) 1⌝ ∗ Rw c)
          ⊢ iprop(held (c : Thread nD τ) (ucRefs τ sig) (armV (V c)) ∗ Rw c)
        iintro ⟨Hh, %hv, HR⟩
        unfold armV; rw [← hv]
        isplitl [Hh] <;> iassumption⟩
    hbr := fun b _ => by fin_cases b <;> chain_rfl
    B := 0
    hM := fun _ _ s hs => by obtain rfl := List.mem_singleton.mp hs; exact le_rfl
    T := ∅
    hT := fun _ _ s hs => by obtain rfl := List.mem_singleton.mp hs; exact subset_rfl
    hdisT := fun _ _ => List.pairwise_singleton .. }

def headSeg : Seg F := CSeg.ofOps _ _ _ _ _ _ _ _ (ucRefs τ sig) headOps headOps_sub headOps_fresh V Rw
def caseSeg : Seg F := CSeg.case _ _ _ _ _ _ _ _ (caseW V)
def tailSeg : Seg F := CSeg.ofOps _ _ _ _ _ _ _ _ (ucRefs τ sig) tailOps tailOps_sub tailOps_fresh (fun c => armV (V c)) Rw

/-- A trip. -/
def tripSegs : List (Seg F) := [headSeg V, caseSeg V, tailSeg V]

theorem body_run : main_while0_body (F := F) = CSeg.runL (tripSegs V) := by
  chain_rfl

end Branch

set_option backward.isDefEq.respectTransparency.types false in
/-- The loop's test, before trip `k`: the counter against the number of tokens. -/
theorem cond_spec (k : ℕ) (hk : k ≤ trips m) (c : Dev nD) (bd : Option (Variants.lift 𝒱₀).V) :
    iprop(boundary (c : Thread nD τ) ∗ iprop(held (c : Thread nD τ) (ucRefs τ sig) (tripV m c k) ∗ Rw c))
      ⊢ wp frame (wpE (HostLoop.defs loops (Pipeline.defs (pcfgs (F := F)) defs₀)) (Variants.lift 𝒱₀) (c : Thread nD τ) bd) Set.univ (main_while0_cond (F := F))
          (fun v => iprop(⌜v = 1#1 ↔ k < trips m⌝ ∗ boundary (c : Thread nD τ) ∗ iprop(held (c : Thread nD τ) (ucRefs τ sig) (after condOps (tripV m c k)) ∗ Rw c))) := by
  have hctr := trip_ctr m c k
  have hub := trip_ub m c k
  unfold main_while0_cond
  iintro ⟨Hb, Hh, HR⟩
  iapply (StableHlo.wp_hlo_within (Variants.lift 𝒱₀) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt ((tripV m c k main_v0_3 : S_.Idx → BitVec 32) HostLoop.idx0) ((tripV m c k main_v0_4 : S_.Idx → BitVec 32) HostLoop.idx0) = 1#1) (k < trips m)
    rw [hctr, hub, Subsingleton.elim c 0]
    exact Scf.cmpi_slt_iv_ub_iff (lb := 0#32) (ub := bound m 0) (st := 1#32) (bound_ok _) hk
  isplitl [Hb]; · iexact Hb
  isplitl [Hh]; · unfold condOps; rw [StableHlo.after_cons, StableHlo.after_nil]; iexact Hh
  iexact HR

/-- The loop, as one piece of the run. -/
def loopW : LoopSeg (pcfgs (F := F)) adm defs₀ 𝒱₀ L lv loops tk :=
  { l := 0
    cond := main_while0_cond
    body := main_while0_body
    hloops := rfl
    n := trips m
    inv := fun k c => iprop(held (c : Thread nD τ) (ucRefs τ sig) (tripV m c k) ∗ Rw c)
    mid := fun k c => iprop(held (c : Thread nD τ) (ucRefs τ sig) (after condOps (tripV m c k)) ∗ Rw c)
    hcond := fun k hk c bd => cond_spec m k hk c bd
    segs := fun k => tripSegs fun c => after condOps (tripV m c k)
    hch := fun k _ => ⟨fun _ => .rfl, fun c => CSeg.case_pre _ _ _ _ _ _ _ _ (caseW fun c => after condOps (tripV m c k)) trivial, fun _ => .rfl, fun _ => .rfl⟩
    hbody := fun k _ c bd Q => by rw [body_run fun c => after condOps (tripV m c k)]
    B := 1
    hM := fun k _ s hs => by
      rcases List.mem_cons.1 hs with rfl | hs
      · exact Nat.zero_le _
      rcases List.mem_cons.1 hs with rfl | hs
      · exact Nat.zero_le _
      obtain rfl := List.mem_singleton.1 hs
      exact Nat.zero_le _
    Tk := fun _ => ∅
    hT := fun k _ s _ => (Finset.eq_empty_of_isEmpty s.T).le
    hdisT := fun k _ => CSeg.pairwise_disjoint_of_T_empty _ fun s _ => Finset.eq_empty_of_isEmpty s.T
    hTk := fun _ _ _ _ => Finset.disjoint_empty_left _ }

/-- The whole program. -/
def mainSegs : List (Seg F) :=
  [CSeg.ofOps _ _ _ _ _ _ _ _ (ucRefs τ sig) preOps preOps_sub preOps_fresh (startV m) Rw, CSeg.loop _ _ _ _ _ _ _ _ (loopW m)]

theorem main_run (c : Dev nD) : main (F := F) c = CSeg.runL (mainSegs m) := by chain_rfl

variable (ρ : Dev nD → PrngReg)

/-- The program ends, and every buffer holds what the trips make of it. -/
theorem run_ref [∀ e, Nonempty (Elt F e)] :
    θ_run (Cert.ReferenceIdeal.defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = lastV m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none L lv loops tk m ρ main (mainSegs m)
    (fun c Q => by rw [main_run m c])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (startV m c) ∗ Rw c))
    (Tₙ := fun c => held (c : Thread nD τ) (ucRefs τ sig) (lastV m c))
    (hch := ⟨fun _ => .rfl, fun _ => .rfl, fun _ => .rfl⟩)
    (hinit := by
      refine Pipeline.initEach L lv fun c => ?_
      rw [show unscopedBufs c (fun b => m ((c : Thread nD τ).loc b)) = held (c : Thread nD τ) (ucRefs τ sig) (startV m c) from Pipeline.unscopedBufs_held c (startV m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = lastV m c b)
    (hfin := fun c s' => by
      unfold held
      iintro ⟨Hh, HS⟩
      ihave Hr := (pointsTo_read_all (ucRefs τ sig) (fun b => ((c : Dev nD), b)) (fun b => lastV m c b) s') $$ [Hh HS]
      · isplitl [Hh] <;> iassumption
      icases Hr with ⟨%h, HS⟩
      imodintro
      isplitr; · ipureintro; exact h
      iexact HS)
    (hQ := fun _ h c b hb => h c _ (StableHlo.devRef_mem_ucRefs b hb))

end Cert.Proof.Ref

end
-- ==== Proof.RefPieces.lean ====
/-
  The reference program's two longer stretches cut into pieces, each of which reads an entry, makes an index or writes an array, and
  what each piece leaves in the buffer that matters.
-/
module

public import proofs.«01_k».proof.Proof.RefOps

@[expose] public section

noncomputable section

namespace Cert.Proof.Ref

open Cert.ReferenceIdeal Cert.ReferenceIdeal.Gen

open Idealize.ShloMosaic Idealize.ShloMosaic.TcCoe Idealize.ShloMosaic.Tactic
open Idealize.ShloMosaic.StableHlo (after)
open Idealize.ShloMosaic.Pipeline (ucRefs sub_ucRefs)

variable {F : FTy → Type} [FloatOps F]

/-- The branch for a token that has a row, piece 1. -/
def armP1 : List (HloOp τ sig (Elt F)) := [
  StableHlo.nullary main_while0b_case0b1_c_11 (constantI S_ 32 0#32),
  StableHlo.binary main_while0b_v7 main_while0b_case0b1_c_11 main_while0b_case0b1_v11 (cmpi .slt : (⟨S_, .i32⟩ : BufTy).Contents (Elt F) → (⟨S_, .i32⟩ : BufTy).Contents (Elt F) → (⟨S_, .i1⟩ : BufTy).Contents (Elt F)),
  StableHlo.nullary main_while0b_case0b1_c_12 (constantI S_ 32 1024#32),
  StableHlo.binary main_while0b_v7 main_while0b_case0b1_c_12 main_while0b_case0b1_v12 (addi : (⟨S_, .i32⟩ : BufTy).Contents (Elt F) → (⟨S_, .i32⟩ : BufTy).Contents (Elt F) → (⟨S_, .i32⟩ : BufTy).Contents (Elt F)),
  StableHlo.ternary main_while0b_case0b1_v11 main_while0b_case0b1_v12 main_while0b_v7 main_while0b_case0b1_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F))]
/-- The buffers it writes. -/
def armP1_W : List (Ref sig .tc) := [main_while0b_case0b1_c_11, main_while0b_case0b1_v11, main_while0b_case0b1_c_12, main_while0b_case0b1_v12, main_while0b_case0b1_v13]
/-- Buffers it does not write keep their contents. -/
theorem armP1_keep (V : Valuation τ sig (Elt F)) {b : Ref sig .tc} (hb : b ∉ armP1_W) : after armP1 V (Proc.devRef .tc b) = V (Proc.devRef .tc b) :=
  StableHlo.after_of_writes_sub armP1 V (W := armP1_W) (StableHlo.forall_writes_sub_of_map rfl) hb

/-- The branch for a token that has a row, piece 2. -/
def armP2 : List (HloOp τ sig (Elt F)) := [
  StableHlo.unaryIndexed main_v0_7 ![main_while0b_case0b1_v13] ⟨S_, .i32⟩ main_while0b_case0b1_v14 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)),
  StableHlo.reshape main_while0b_case0b1_v14 main_while0b_case0b1_v15 (rfl : (.i32 : EltTy) = .i32) shapeCasts_S1_S_]
/-- The buffers it writes. -/
def armP2_W : List (Ref sig .tc) := [main_while0b_case0b1_v14, main_while0b_case0b1_v15]
/-- Buffers it does not write keep their contents. -/
theorem armP2_keep (V : Valuation τ sig (Elt F)) {b : Ref sig .tc} (hb : b ∉ armP2_W) : after armP2 V (Proc.devRef .tc b) = V (Proc.devRef .tc b) :=
  StableHlo.after_of_writes_sub armP2 V (W := armP2_W) (StableHlo.forall_writes_sub_of_map rfl) hb

/-- The branch for a token that has a row, piece 3. -/
def armP3 : List (HloOp τ sig (Elt F)) := [
  StableHlo.nullary main_while0b_case0b1_c_13 (constantI S_ 32 0#32),
  StableHlo.binary main_v0_3 main_while0b_case0b1_c_13 main_while0b_case0b1_v16 (cmpi .slt : (⟨S_, .i32⟩ : BufTy).Contents (Elt F) → (⟨S_, .i32⟩ : BufTy).Contents (Elt F) → (⟨S_, .i1⟩ : BufTy).Contents (Elt F)),
  StableHlo.unary main_v0_3 main_while0b_case0b1_v17 (id : (⟨S_, .i32⟩ : BufTy).Contents (Elt F) → (⟨S_, .i32⟩ : BufTy).Contents (Elt F)),
  StableHlo.nullary main_while0b_case0b1_c_14 (constantI S_ 32 1024#32),
  StableHlo.binary main_while0b_case0b1_v17 main_while0b_case0b1_c_14 main_while0b_case0b1_v18 (addi : (⟨S_, .i32⟩ : BufTy).Contents (Elt F) → (⟨S_, .i32⟩ : BufTy).Contents (Elt F) → (⟨S_, .i32⟩ : BufTy).Contents (Elt F)),
  StableHlo.ternary main_while0b_case0b1_v16 main_while0b_case0b1_v18 main_v0_3 main_while0b_case0b1_v19 (select : (⟨S_, .i1⟩ : BufTy).Contents (Elt F) → (⟨S_, .i32⟩ : BufTy).Contents (Elt F) → (⟨S_, .i32⟩ : BufTy).Contents (Elt F) → (⟨S_, .i32⟩ : BufTy).Contents (Elt F))]
/-- The buffers it writes. -/
def armP3_W : List (Ref sig .tc) := [main_while0b_case0b1_c_13, main_while0b_case0b1_v16, main_while0b_case0b1_v17, main_while0b_case0b1_c_14, main_while0b_case0b1_v18, main_while0b_case0b1_v19]
/-- Buffers it does not write keep their contents. -/
theorem armP3_keep (V : Valuation τ sig (Elt F)) {b : Ref sig .tc} (hb : b ∉ armP3_W) : after armP3 V (Proc.devRef .tc b) = V (Proc.devRef .tc b) :=
  StableHlo.after_of_writes_sub armP3 V (W := armP3_W) (StableHlo.forall_writes_sub_of_map rfl) hb

/-- The branch for a token that has a row, piece 4. -/
def armP4 : List (HloOp τ sig (Elt F)) := [
  StableHlo.unaryIndexed main_v0_1 ![main_while0b_case0b1_v19] ⟨S_, .i32⟩ main_while0b_case0b1_v20 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)),
  StableHlo.reshape main_while0b_case0b1_v20 main_while0b_case0b1_v21 (rfl : (.i32 : EltTy) = .i32) shapeCasts_S1_S_]
/-- The buffers it writes. -/
def armP4_W : List (Ref sig .tc) := [main_while0b_case0b1_v20, main_while0b_case0b1_v21]
/-- Buffers it does not write keep their contents. -/
theorem armP4_keep (V : Valuation τ sig (Elt F)) {b : Ref sig .tc} (hb : b ∉ armP4_W) : after armP4 V (Proc.devRef .tc b) = V (Proc.devRef .tc b) :=
  StableHlo.after_of_writes_sub armP4 V (W := armP4_W) (StableHlo.forall_writes_sub_of_map rfl) hb

/-- The branch for a token that has a row, piece 5. -/
def armP5 : List (HloOp τ sig (Elt F)) := [
  StableHlo.nullary main_while0b_case0b1_c_15 (constantI S_ 32 0#32),
  StableHlo.binary main_while0b_v7 main_while0b_case0b1_c_15 main_while0b_case0b1_v22 (cmpi .slt : (⟨S_, .i32⟩ : BufTy).Contents (Elt F) → (⟨S_, .i32⟩ : BufTy).Contents (Elt F) → (⟨S_, .i1⟩ : BufTy).Contents (Elt F)),
  StableHlo.nullary main_while0b_case0b1_c_16 (constantI S_ 32 1024#32),
  StableHlo.binary main_while0b_v7 main_while0b_case0b1_c_16 main_while0b_case0b1_v23 (addi : (⟨S_, .i32⟩ : BufTy).Contents (Elt F) → (⟨S_, .i32⟩ : BufTy).Contents (Elt F) → (⟨S_, .i32⟩ : BufTy).Contents (Elt F)),
  StableHlo.ternary main_while0b_case0b1_v22 main_while0b_case0b1_v23 main_while0b_v7 main_while0b_case0b1_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.nullary main_while0b_case0b1_c_17 (constantI S_ 32 0#32),
  StableHlo.binary main_while0b_case0b1_v15 main_while0b_case0b1_c_17 main_while0b_case0b1_v25 (cmpi .slt : (⟨S_, .i32⟩ : BufTy).Contents (Elt F) → (⟨S_, .i32⟩ : BufTy).Contents (Elt F) → (⟨S_, .i1⟩ : BufTy).Contents (Elt F)),
  StableHlo.nullary main_while0b_case0b1_c_18 (constantI S_ 32 8192#32),
  StableHlo.binary main_while0b_case0b1_v15 main_while0b_case0b1_c_18 main_while0b_case0b1_v26 (addi : (⟨S_, .i32⟩ : BufTy).Contents (Elt F) → (⟨S_, .i32⟩ : BufTy).Contents (Elt F) → (⟨S_, .i32⟩ : BufTy).Contents (Elt F)),
  StableHlo.ternary main_while0b_case0b1_v25 main_while0b_case0b1_v26 main_while0b_case0b1_v15 main_while0b_case0b1_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unary main_while0b_case0b1_v24 main_while0b_case0b1_v28 (broadcastInDim S1 ![] bcast_S_S1 : (⟨S_, .i32⟩ : BufTy).Contents (Elt F) → (⟨S1, .i32⟩ : BufTy).Contents (Elt F)),
  StableHlo.unary main_while0b_case0b1_v27 main_while0b_case0b1_v29 (broadcastInDim S1 ![] bcast_S_S1 : (⟨S_, .i32⟩ : BufTy).Contents (Elt F) → (⟨S1, .i32⟩ : BufTy).Contents (Elt F)),
  StableHlo.binary main_while0b_case0b1_v28 main_while0b_case0b1_v29 main_while0b_case0b1_v30 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]
/-- The buffers it writes. -/
def armP5_W : List (Ref sig .tc) := [main_while0b_case0b1_c_15, main_while0b_case0b1_v22, main_while0b_case0b1_c_16, main_while0b_case0b1_v23, main_while0b_case0b1_v24, main_while0b_case0b1_c_17, main_while0b_case0b1_v25, main_while0b_case0b1_c_18, main_while0b_case0b1_v26, main_while0b_case0b1_v27, main_while0b_case0b1_v28, main_while0b_case0b1_v29, main_while0b_case0b1_v30]
/-- Buffers it does not write keep their contents. -/
theorem armP5_keep (V : Valuation τ sig (Elt F)) {b : Ref sig .tc} (hb : b ∉ armP5_W) : after armP5 V (Proc.devRef .tc b) = V (Proc.devRef .tc b) :=
  StableHlo.after_of_writes_sub armP5 V (W := armP5_W) (StableHlo.forall_writes_sub_of_map rfl) hb

/-- The branch for a token that has a row, piece 6. -/
def armP6 : List (HloOp τ sig (Elt F)) := [
  StableHlo.ternary main_v0_5 main_while0b_case0b1_v30 main_while0b_case0b1_v21 main_while0b_case0b1_v31 ((fun x i u => Host.scatter scatter_S1024x8192_S2_S__n_01_01_0 (fun _ b => b) x i u) : (⟨S1024x8192, .i32⟩ : BufTy).Contents (Elt F) → (⟨S2, .i32⟩ : BufTy).Contents (Elt F) → (⟨S_, .i32⟩ : BufTy).Contents (Elt F) → (⟨S1024x8192, .i32⟩ : BufTy).Contents (Elt F))]
/-- The buffers it writes. -/
def armP6_W : List (Ref sig .tc) := [main_while0b_case0b1_v31]
/-- Buffers it does not write keep their contents. -/
theorem armP6_keep (V : Valuation τ sig (Elt F)) {b : Ref sig .tc} (hb : b ∉ armP6_W) : after armP6 V (Proc.devRef .tc b) = V (Proc.devRef .tc b) :=
  StableHlo.after_of_writes_sub armP6 V (W := armP6_W) (StableHlo.forall_writes_sub_of_map rfl) hb

/-- The branch for a token that has a row, piece 7. -/
def armP7 : List (HloOp τ sig (Elt F)) := [
  StableHlo.nullary main_while0b_case0b1_c_19 (constantI S_ 32 0#32),
  StableHlo.binary main_v0_3 main_while0b_case0b1_c_19 main_while0b_case0b1_v32 (cmpi .slt : (⟨S_, .i32⟩ : BufTy).Contents (Elt F) → (⟨S_, .i32⟩ : BufTy).Contents (Elt F) → (⟨S_, .i1⟩ : BufTy).Contents (Elt F)),
  StableHlo.unary main_v0_3 main_while0b_case0b1_v33 (id : (⟨S_, .i32⟩ : BufTy).Contents (Elt F) → (⟨S_, .i32⟩ : BufTy).Contents (Elt F)),
  StableHlo.nullary main_while0b_case0b1_c_20 (constantI S_ 32 1024#32),
  StableHlo.binary main_while0b_case0b1_v33 main_while0b_case0b1_c_20 main_while0b_case0b1_v34 (addi : (⟨S_, .i32⟩ : BufTy).Contents (Elt F) → (⟨S_, .i32⟩ : BufTy).Contents (Elt F) → (⟨S_, .i32⟩ : BufTy).Contents (Elt F)),
  StableHlo.ternary main_while0b_case0b1_v32 main_while0b_case0b1_v34 main_v0_3 main_while0b_case0b1_v35 (select : (⟨S_, .i1⟩ : BufTy).Contents (Elt F) → (⟨S_, .i32⟩ : BufTy).Contents (Elt F) → (⟨S_, .i32⟩ : BufTy).Contents (Elt F) → (⟨S_, .i32⟩ : BufTy).Contents (Elt F))]
/-- The buffers it writes. -/
def armP7_W : List (Ref sig .tc) := [main_while0b_case0b1_c_19, main_while0b_case0b1_v32, main_while0b_case0b1_v33, main_while0b_case0b1_c_20, main_while0b_case0b1_v34, main_while0b_case0b1_v35]
/-- Buffers it does not write keep their contents. -/
theorem armP7_keep (V : Valuation τ sig (Elt F)) {b : Ref sig .tc} (hb : b ∉ armP7_W) : after armP7 V (Proc.devRef .tc b) = V (Proc.devRef .tc b) :=
  StableHlo.after_of_writes_sub armP7 V (W := armP7_W) (StableHlo.forall_writes_sub_of_map rfl) hb

/-- The branch for a token that has a row, piece 8. -/
def armP8 : List (HloOp τ sig (Elt F)) := [
  StableHlo.unaryIndexed main_v0_2 ![main_while0b_case0b1_v35] ⟨S_, .i32⟩ main_while0b_case0b1_v36 ((fun x i => Host.dynamicSlice S1 x (fun k => (i k (Shape.Idx.first h_S_)).toInt) sliceFits_S1024_S1) : (⟨S1024, .f32⟩ : BufTy).Contents (Elt F) → (Fin 1 → (⟨S_, .i32⟩ : BufTy).Contents (Elt F)) → (⟨S1, .f32⟩ : BufTy).Contents (Elt F)),
  StableHlo.reshape main_while0b_case0b1_v36 main_while0b_case0b1_v37 (rfl : (.f32 : EltTy) = .f32) shapeCasts_S1_S_]
/-- The buffers it writes. -/
def armP8_W : List (Ref sig .tc) := [main_while0b_case0b1_v36, main_while0b_case0b1_v37]
/-- Buffers it does not write keep their contents. -/
theorem armP8_keep (V : Valuation τ sig (Elt F)) {b : Ref sig .tc} (hb : b ∉ armP8_W) : after armP8 V (Proc.devRef .tc b) = V (Proc.devRef .tc b) :=
  StableHlo.after_of_writes_sub armP8 V (W := armP8_W) (StableHlo.forall_writes_sub_of_map rfl) hb

/-- The branch for a token that has a row, piece 9. -/
def armP9 : List (HloOp τ sig (Elt F)) := [
  StableHlo.nullary main_while0b_case0b1_c_21 (constantI S_ 32 0#32),
  StableHlo.binary main_while0b_v7 main_while0b_case0b1_c_21 main_while0b_case0b1_v38 (cmpi .slt : (⟨S_, .i32⟩ : BufTy).Contents (Elt F) → (⟨S_, .i32⟩ : BufTy).Contents (Elt F) → (⟨S_, .i1⟩ : BufTy).Contents (Elt F)),
  StableHlo.nullary main_while0b_case0b1_c_22 (constantI S_ 32 1024#32),
  StableHlo.binary main_while0b_v7 main_while0b_case0b1_c_22 main_while0b_case0b1_v39 (addi : (⟨S_, .i32⟩ : BufTy).Contents (Elt F) → (⟨S_, .i32⟩ : BufTy).Contents (Elt F) → (⟨S_, .i32⟩ : BufTy).Contents (Elt F)),
  StableHlo.ternary main_while0b_case0b1_v38 main_while0b_case0b1_v39 main_while0b_v7 main_while0b_case0b1_v40 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.nullary main_while0b_case0b1_c_23 (constantI S_ 32 0#32),
  StableHlo.binary main_while0b_case0b1_v15 main_while0b_case0b1_c_23 main_while0b_case0b1_v41 (cmpi .slt : (⟨S_, .i32⟩ : BufTy).Contents (Elt F) → (⟨S_, .i32⟩ : BufTy).Contents (Elt F) → (⟨S_, .i1⟩ : BufTy).Contents (Elt F)),
  StableHlo.nullary main_while0b_case0b1_c_24 (constantI S_ 32 8192#32),
  StableHlo.binary main_while0b_case0b1_v15 main_while0b_case0b1_c_24 main_while0b_case0b1_v42 (addi : (⟨S_, .i32⟩ : BufTy).Contents (Elt F) → (⟨S_, .i32⟩ : BufTy).Contents (Elt F) → (⟨S_, .i32⟩ : BufTy).Contents (Elt F)),
  StableHlo.ternary main_while0b_case0b1_v41 main_while0b_case0b1_v42 main_while0b_case0b1_v15 main_while0b_case0b1_v43 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unary main_while0b_case0b1_v40 main_while0b_case0b1_v44 (broadcastInDim S1 ![] bcast_S_S1 : (⟨S_, .i32⟩ : BufTy).Contents (Elt F) → (⟨S1, .i32⟩ : BufTy).Contents (Elt F)),
  StableHlo.unary main_while0b_case0b1_v43 main_while0b_case0b1_v45 (broadcastInDim S1 ![] bcast_S_S1 : (⟨S_, .i32⟩ : BufTy).Contents (Elt F) → (⟨S1, .i32⟩ : BufTy).Contents (Elt F)),
  StableHlo.binary main_while0b_case0b1_v44 main_while0b_case0b1_v45 main_while0b_case0b1_v46 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]
/-- The buffers it writes. -/
def armP9_W : List (Ref sig .tc) := [main_while0b_case0b1_c_21, main_while0b_case0b1_v38, main_while0b_case0b1_c_22, main_while0b_case0b1_v39, main_while0b_case0b1_v40, main_while0b_case0b1_c_23, main_while0b_case0b1_v41, main_while0b_case0b1_c_24, main_while0b_case0b1_v42, main_while0b_case0b1_v43, main_while0b_case0b1_v44, main_while0b_case0b1_v45, main_while0b_case0b1_v46]
/-- Buffers it does not write keep their contents. -/
theorem armP9_keep (V : Valuation τ sig (Elt F)) {b : Ref sig .tc} (hb : b ∉ armP9_W) : after armP9 V (Proc.devRef .tc b) = V (Proc.devRef .tc b) :=
  StableHlo.after_of_writes_sub armP9 V (W := armP9_W) (StableHlo.forall_writes_sub_of_map rfl) hb

/-- The branch for a token that has a row, piece 10. -/
def armP10 : List (HloOp τ sig (Elt F)) := [
  StableHlo.ternary main_v0_6 main_while0b_case0b1_v46 main_while0b_case0b1_v37 main_while0b_case0b1_v47 ((fun x i u => Host.scatter scatter_S1024x8192_S2_S__n_01_01_0 (fun _ b => b) x i u) : (⟨S1024x8192, .f32⟩ : BufTy).Contents (Elt F) → (⟨S2, .i32⟩ : BufTy).Contents (Elt F) → (⟨S_, .f32⟩ : BufTy).Contents (Elt F) → (⟨S1024x8192, .f32⟩ : BufTy).Contents (Elt F))]
/-- The buffers it writes. -/
def armP10_W : List (Ref sig .tc) := [main_while0b_case0b1_v47]
/-- Buffers it does not write keep their contents. -/
theorem armP10_keep (V : Valuation τ sig (Elt F)) {b : Ref sig .tc} (hb : b ∉ armP10_W) : after armP10 V (Proc.devRef .tc b) = V (Proc.devRef .tc b) :=
  StableHlo.after_of_writes_sub armP10 V (W := armP10_W) (StableHlo.forall_writes_sub_of_map rfl) hb

/-- The branch for a token that has a row, piece 11. -/
def armP11 : List (HloOp τ sig (Elt F)) := [
  StableHlo.nullary main_while0b_case0b1_c_25 (constantI S_ 32 0#32),
  StableHlo.binary main_while0b_v7 main_while0b_case0b1_c_25 main_while0b_case0b1_v48 (cmpi .slt : (⟨S_, .i32⟩ : BufTy).Contents (Elt F) → (⟨S_, .i32⟩ : BufTy).Contents (Elt F) → (⟨S_, .i1⟩ : BufTy).Contents (Elt F)),
  StableHlo.nullary main_while0b_case0b1_c_26 (constantI S_ 32 1024#32),
  StableHlo.binary main_while0b_v7 main_while0b_case0b1_c_26 main_while0b_case0b1_v49 (addi : (⟨S_, .i32⟩ : BufTy).Contents (Elt F) → (⟨S_, .i32⟩ : BufTy).Contents (Elt F) → (⟨S_, .i32⟩ : BufTy).Contents (Elt F)),
  StableHlo.ternary main_while0b_case0b1_v48 main_while0b_case0b1_v49 main_while0b_v7 main_while0b_case0b1_v50 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.unary main_while0b_case0b1_v50 main_while0b_case0b1_v51 (broadcastInDim S1 ![] bcast_S_S1 : (⟨S_, .i32⟩ : BufTy).Contents (Elt F) → (⟨S1, .i32⟩ : BufTy).Contents (Elt F)),
  StableHlo.nullary main_while0b_case0b1_c_27 (constantI S_ 32 1#32),
  StableHlo.ternary main_v0_7 main_while0b_case0b1_v51 main_while0b_case0b1_c_27 main_while0b_case0b1_v52 ((fun x i u => Host.scatter scatter_S1024_S1_S__n_0_0_0 IntOp.addi x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F))]
/-- The buffers it writes. -/
def armP11_W : List (Ref sig .tc) := [main_while0b_case0b1_c_25, main_while0b_case0b1_v48, main_while0b_case0b1_c_26, main_while0b_case0b1_v49, main_while0b_case0b1_v50, main_while0b_case0b1_v51, main_while0b_case0b1_c_27, main_while0b_case0b1_v52]
/-- Buffers it does not write keep their contents. -/
theorem armP11_keep (V : Valuation τ sig (Elt F)) {b : Ref sig .tc} (hb : b ∉ armP11_W) : after armP11 V (Proc.devRef .tc b) = V (Proc.devRef .tc b) :=
  StableHlo.after_of_writes_sub armP11 V (W := armP11_W) (StableHlo.forall_writes_sub_of_map rfl) hb

/-- The branch for a token that has a row, piece 12. -/
def armP12 : List (HloOp τ sig (Elt F)) := [
  StableHlo.unary main_while0b_case0b1_v31 main_while0b_v10_0 id,
  StableHlo.unary main_while0b_case0b1_v47 main_while0b_v10_1 id,
  StableHlo.unary main_while0b_case0b1_v52 main_while0b_v10_2 id]
/-- The buffers it writes. -/
def armP12_W : List (Ref sig .tc) := [main_while0b_v10_0, main_while0b_v10_1, main_while0b_v10_2]
/-- Buffers it does not write keep their contents. -/
theorem armP12_keep (V : Valuation τ sig (Elt F)) {b : Ref sig .tc} (hb : b ∉ armP12_W) : after armP12 V (Proc.devRef .tc b) = V (Proc.devRef .tc b) :=
  StableHlo.after_of_writes_sub armP12 V (W := armP12_W) (StableHlo.forall_writes_sub_of_map rfl) hb

/-- The branch for a token that has a row, piece by piece. -/
theorem arm_split : (armOps1 : List (HloOp τ sig (Elt F))) = armP1 ++ (armP2 ++ (armP3 ++ (armP4 ++ (armP5 ++ (armP6 ++ (armP7 ++ (armP8 ++ (armP9 ++ (armP10 ++ (armP11 ++ (armP12))))))))))) := rfl

/-- A trip up to the branch, piece 1. -/
def headP1 : List (HloOp τ sig (Elt F)) := [
  StableHlo.nullary main_while0b_c_7 (constantI S_ 32 1#32),
  StableHlo.binary main_v0_3 main_while0b_c_7 main_while0b_v1 (addi : (⟨S_, .i32⟩ : BufTy).Contents (Elt F) → (⟨S_, .i32⟩ : BufTy).Contents (Elt F) → (⟨S_, .i32⟩ : BufTy).Contents (Elt F)),
  StableHlo.nullary main_while0b_c_8 (constantI S_ 32 0#32),
  StableHlo.binary main_v0_3 main_while0b_c_8 main_while0b_v2 (cmpi .slt : (⟨S_, .i32⟩ : BufTy).Contents (Elt F) → (⟨S_, .i32⟩ : BufTy).Contents (Elt F) → (⟨S_, .i1⟩ : BufTy).Contents (Elt F)),
  StableHlo.unary main_v0_3 main_while0b_v3 (id : (⟨S_, .i32⟩ : BufTy).Contents (Elt F) → (⟨S_, .i32⟩ : BufTy).Contents (Elt F)),
  StableHlo.nullary main_while0b_c_9 (constantI S_ 32 1024#32),
  StableHlo.binary main_while0b_v3 main_while0b_c_9 main_while0b_v4 (addi : (⟨S_, .i32⟩ : BufTy).Contents (Elt F) → (⟨S_, .i32⟩ : BufTy).Contents (Elt F) → (⟨S_, .i32⟩ : BufTy).Contents (Elt F)),
  StableHlo.ternary main_while0b_v2 main_while0b_v4 main_v0_3 main_while0b_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F))]
/-- The buffers it writes. -/
def headP1_W : List (Ref sig .tc) := [main_while0b_c_7, main_while0b_v1, main_while0b_c_8, main_while0b_v2, main_while0b_v3, main_while0b_c_9, main_while0b_v4, main_while0b_v5]
/-- Buffers it does not write keep their contents. -/
theorem headP1_keep (V : Valuation τ sig (Elt F)) {b : Ref sig .tc} (hb : b ∉ headP1_W) : after headP1 V (Proc.devRef .tc b) = V (Proc.devRef .tc b) :=
  StableHlo.after_of_writes_sub headP1 V (W := headP1_W) (StableHlo.forall_writes_sub_of_map rfl) hb

/-- A trip up to the branch, piece 2. -/
def headP2 : List (HloOp τ sig (Elt F)) := [
  StableHlo.unaryIndexed main_v0_0 ![main_while0b_v5] ⟨S_, .i32⟩ main_while0b_v6 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)),
  StableHlo.reshape main_while0b_v6 main_while0b_v7 (rfl : (.i32 : EltTy) = .i32) shapeCasts_S1_S_]
/-- The buffers it writes. -/
def headP2_W : List (Ref sig .tc) := [main_while0b_v6, main_while0b_v7]
/-- Buffers it does not write keep their contents. -/
theorem headP2_keep (V : Valuation τ sig (Elt F)) {b : Ref sig .tc} (hb : b ∉ headP2_W) : after headP2 V (Proc.devRef .tc b) = V (Proc.devRef .tc b) :=
  StableHlo.after_of_writes_sub headP2 V (W := headP2_W) (StableHlo.forall_writes_sub_of_map rfl) hb

/-- A trip up to the branch, piece 3. -/
def headP3 : List (HloOp τ sig (Elt F)) := [
  StableHlo.nullary main_while0b_c_10 (constantI S_ 32 0#32),
  StableHlo.binary main_while0b_v7 main_while0b_c_10 main_while0b_v8 (cmpi .sge : (⟨S_, .i32⟩ : BufTy).Contents (Elt F) → (⟨S_, .i32⟩ : BufTy).Contents (Elt F) → (⟨S_, .i1⟩ : BufTy).Contents (Elt F))]
/-- The buffers it writes. -/
def headP3_W : List (Ref sig .tc) := [main_while0b_c_10, main_while0b_v8]
/-- Buffers it does not write keep their contents. -/
theorem headP3_keep (V : Valuation τ sig (Elt F)) {b : Ref sig .tc} (hb : b ∉ headP3_W) : after headP3 V (Proc.devRef .tc b) = V (Proc.devRef .tc b) :=
  StableHlo.after_of_writes_sub headP3 V (W := headP3_W) (StableHlo.forall_writes_sub_of_map rfl) hb

/-- A trip up to the branch, piece by piece. -/
theorem head_split : (headOps : List (HloOp τ sig (Elt F))) = headP1 ++ (headP2 ++ (headP3)) := rfl

/-- A signed index, counted from the end when it is negative. -/
def wrap (n : BitVec 32) (w : S_.Idx → BitVec 32) : S_.Idx → BitVec 32 :=
  select (cmpi .slt w (constantI S_ 32 0#32)) (addi w (constantI S_ 32 n)) w

/-- One entry of a vector of 1024, at an index word. -/
def entry {α : Type} (x : S1024.Idx → α) (w : S_.Idx → BitVec 32) : S_.Idx → α :=
  shapeCast S_ (Host.dynamicSlice S1 x (fun k => ((![w] : Fin 1 → S_.Idx → BitVec 32) k (Shape.Idx.first h_S_)).toInt) sliceFits_S1024_S1) shapeCasts_S1_S_

/-- An index word as a vector of one. -/
def one (w : S_.Idx → BitVec 32) : S1.Idx → BitVec 32 := broadcastInDim S1 ![] bcast_S_S1 w

/-- A row word and a column word side by side. -/
def pair (r c : S_.Idx → BitVec 32) : S2.Idx → BitVec 32 :=
  concatenate S2 0 [⟨S1, one r⟩, ⟨S1, one c⟩] concatenates_S1_S1_S2_d0

variable (V : Valuation τ sig (Elt F))

/-- The token. -/
theorem h1 : after headP1 V main_while0b_v5 = wrap 1024#32 (V main_v0_3) := by
  unfold headP1
  after_results
  try rfl
/-- The next token. -/
theorem h1_next : after headP1 V main_while0b_v1 = addi (V main_v0_3 : S_.Idx → BitVec 32) (constantI S_ 32 1#32) := by
  unfold headP1
  after_results
  try rfl
/-- The token's row. -/
theorem h2 : after headP2 V main_while0b_v7 = entry (V main_v0_0 : S1024.Idx → BitVec 32) (V main_while0b_v5) := by
  unfold headP2
  after_results_entrywise []

/-- Whether there is one. -/
theorem h3 : after headP3 V main_while0b_v8 = cmpi .sge (V main_while0b_v7 : S_.Idx → BitVec 32) (constantI S_ 32 0#32) := by
  unfold headP3
  after_results
  try rfl
/-- The word branched on. -/
theorem rd : after rdOps V main_while0b_v9 = extui (s := S_) (w := 1) 32 (V main_while0b_v8) natLt_1_32 := by
  unfold rdOps
  after_results
  try rfl
/-- The row. -/
theorem p1 : after armP1 V main_while0b_case0b1_v13 = wrap 1024#32 (V main_while0b_v7) := by
  unfold armP1
  after_results
  try rfl
/-- The row's length. -/
theorem p2 : after armP2 V main_while0b_case0b1_v15 = entry (V main_v0_7 : S1024.Idx → BitVec 32) (V main_while0b_case0b1_v13) := by
  unfold armP2
  after_results_entrywise []

/-- The token. -/
theorem p3 : after armP3 V main_while0b_case0b1_v19 = wrap 1024#32 (V main_v0_3) := by
  unfold armP3
  after_results
  try rfl
/-- The token's word. -/
theorem p4 : after armP4 V main_while0b_case0b1_v21 = entry (V main_v0_1 : S1024.Idx → BitVec 32) (V main_while0b_case0b1_v19) := by
  unfold armP4
  after_results_entrywise []

/-- Row and column. -/
theorem p5 : after armP5 V main_while0b_case0b1_v30 = pair (wrap 1024#32 (V main_while0b_v7)) (wrap 8192#32 (V main_while0b_case0b1_v15)) := by
  unfold armP5
  after_results
  try rfl
/-- The word written. -/
theorem p6 : after armP6 V main_while0b_case0b1_v31 = Host.scatter scatter_S1024x8192_S2_S__n_01_01_0 (fun _ b => b) (V main_v0_5 : S1024x8192.Idx → BitVec 32) (V main_while0b_case0b1_v30 : S2.Idx → BitVec 32) (V main_while0b_case0b1_v21) := by
  unfold armP6
  after_results
  try rfl
/-- The token. -/
theorem p7 : after armP7 V main_while0b_case0b1_v35 = wrap 1024#32 (V main_v0_3) := by
  unfold armP7
  after_results
  try rfl
/-- The token's log-probability. -/
theorem p8 : after armP8 V main_while0b_case0b1_v37 = entry (V main_v0_2 : S1024.Idx → Elt F .f32) (V main_while0b_case0b1_v35) := by
  unfold armP8
  after_results_entrywise []

/-- Row and column. -/
theorem p9 : after armP9 V main_while0b_case0b1_v46 = pair (wrap 1024#32 (V main_while0b_v7)) (wrap 8192#32 (V main_while0b_case0b1_v15)) := by
  unfold armP9
  after_results
  try rfl
/-- The log-probability written. -/
theorem p10 : after armP10 V main_while0b_case0b1_v47 = Host.scatter scatter_S1024x8192_S2_S__n_01_01_0 (fun _ b => b) (V main_v0_6 : S1024x8192.Idx → Elt F .f32) (V main_while0b_case0b1_v46 : S2.Idx → BitVec 32) (V main_while0b_case0b1_v37) := by
  unfold armP10
  after_results
  try rfl
/-- The length counted up. -/
theorem p11 : after armP11 V main_while0b_case0b1_v52 = Host.scatter scatter_S1024_S1_S__n_0_0_0 IntOp.addi (V main_v0_7 : S1024.Idx → BitVec 32) (one (wrap 1024#32 (V main_while0b_v7))) (constantI S_ 32 1#32) := by
  unfold armP11
  after_results
  try rfl
/-- What the branch hands on. -/
theorem p12_0 : after armP12 V main_while0b_v10_0 = V main_while0b_case0b1_v31 := by
  unfold armP12
  after_results
  try rfl
/-- What the branch hands on. -/
theorem p12_1 : after armP12 V main_while0b_v10_1 = V main_while0b_case0b1_v47 := by
  unfold armP12
  after_results
  try rfl
/-- What the branch hands on. -/
theorem p12_2 : after armP12 V main_while0b_v10_2 = V main_while0b_case0b1_v52 := by
  unfold armP12
  after_results
  try rfl
/-- What the trip hands on. -/
theorem t_0 : after tailOps V main_v0_5 = V main_while0b_v10_0 := by
  unfold tailOps
  after_results
  try rfl
/-- What the trip hands on. -/
theorem t_1 : after tailOps V main_v0_6 = V main_while0b_v10_1 := by
  unfold tailOps
  after_results
  try rfl
/-- What the trip hands on. -/
theorem t_2 : after tailOps V main_v0_7 = V main_while0b_v10_2 := by
  unfold tailOps
  after_results
  try rfl
/-- The words after the branch. -/
theorem arm_tok : after armOps1 V main_while0b_v10_0 = Host.scatter scatter_S1024x8192_S2_S__n_01_01_0 (fun _ b => b) (V main_v0_5 : S1024x8192.Idx → BitVec 32)
      (pair (wrap 1024#32 (V main_while0b_v7)) (wrap 8192#32 (entry (V main_v0_7 : S1024.Idx → BitVec 32) (wrap 1024#32 (V main_while0b_v7)))))
      (entry (V main_v0_1 : S1024.Idx → BitVec 32) (wrap 1024#32 (V main_v0_3))) := by
  rw [arm_split]
  simp only [StableHlo.after_append]
  rw [p12_0,
    armP11_keep _ (b := main_while0b_case0b1_v31) (by decide),
    armP10_keep _ (b := main_while0b_case0b1_v31) (by decide),
    armP9_keep _ (b := main_while0b_case0b1_v31) (by decide),
    armP8_keep _ (b := main_while0b_case0b1_v31) (by decide),
    armP7_keep _ (b := main_while0b_case0b1_v31) (by decide),
    p6,
    armP5_keep _ (b := main_v0_5) (by decide),
    armP4_keep _ (b := main_v0_5) (by decide),
    armP3_keep _ (b := main_v0_5) (by decide),
    armP2_keep _ (b := main_v0_5) (by decide),
    armP1_keep _ (b := main_v0_5) (by decide),
    p5,
    armP5_keep _ (b := main_while0b_case0b1_v21) (by decide),
    p4,
    armP3_keep _ (b := main_v0_1) (by decide),
    armP2_keep _ (b := main_v0_1) (by decide),
    armP1_keep _ (b := main_v0_1) (by decide),
    p3,
    armP2_keep _ (b := main_v0_3) (by decide),
    armP1_keep _ (b := main_v0_3) (by decide),
    armP4_keep _ (b := main_while0b_v7) (by decide),
    armP3_keep _ (b := main_while0b_v7) (by decide),
    armP2_keep _ (b := main_while0b_v7) (by decide),
    armP1_keep _ (b := main_while0b_v7) (by decide),
    armP4_keep _ (b := main_while0b_case0b1_v15) (by decide),
    armP3_keep _ (b := main_while0b_case0b1_v15) (by decide),
    p2,
    armP1_keep _ (b := main_v0_7) (by decide),
    p1]

/-- The log-probabilities after the branch. -/
theorem arm_lp : after armOps1 V main_while0b_v10_1 = Host.scatter scatter_S1024x8192_S2_S__n_01_01_0 (fun _ b => b) (V main_v0_6 : S1024x8192.Idx → Elt F .f32)
      (pair (wrap 1024#32 (V main_while0b_v7)) (wrap 8192#32 (entry (V main_v0_7 : S1024.Idx → BitVec 32) (wrap 1024#32 (V main_while0b_v7)))))
      (entry (V main_v0_2 : S1024.Idx → Elt F .f32) (wrap 1024#32 (V main_v0_3))) := by
  rw [arm_split]
  simp only [StableHlo.after_append]
  rw [p12_1,
    armP11_keep _ (b := main_while0b_case0b1_v47) (by decide),
    p10,
    armP9_keep _ (b := main_v0_6) (by decide),
    armP8_keep _ (b := main_v0_6) (by decide),
    armP7_keep _ (b := main_v0_6) (by decide),
    armP6_keep _ (b := main_v0_6) (by decide),
    armP5_keep _ (b := main_v0_6) (by decide),
    armP4_keep _ (b := main_v0_6) (by decide),
    armP3_keep _ (b := main_v0_6) (by decide),
    armP2_keep _ (b := main_v0_6) (by decide),
    armP1_keep _ (b := main_v0_6) (by decide),
    p9,
    armP9_keep _ (b := main_while0b_case0b1_v37) (by decide),
    p8,
    armP7_keep _ (b := main_v0_2) (by decide),
    armP6_keep _ (b := main_v0_2) (by decide),
    armP5_keep _ (b := main_v0_2) (by decide),
    armP4_keep _ (b := main_v0_2) (by decide),
    armP3_keep _ (b := main_v0_2) (by decide),
    armP2_keep _ (b := main_v0_2) (by decide),
    armP1_keep _ (b := main_v0_2) (by decide),
    p7,
    armP6_keep _ (b := main_v0_3) (by decide),
    armP5_keep _ (b := main_v0_3) (by decide),
    armP4_keep _ (b := main_v0_3) (by decide),
    armP3_keep _ (b := main_v0_3) (by decide),
    armP2_keep _ (b := main_v0_3) (by decide),
    armP1_keep _ (b := main_v0_3) (by decide),
    armP8_keep _ (b := main_while0b_v7) (by decide),
    armP7_keep _ (b := main_while0b_v7) (by decide),
    armP6_keep _ (b := main_while0b_v7) (by decide),
    armP5_keep _ (b := main_while0b_v7) (by decide),
    armP4_keep _ (b := main_while0b_v7) (by decide),
    armP3_keep _ (b := main_while0b_v7) (by decide),
    armP2_keep _ (b := main_while0b_v7) (by decide),
    armP1_keep _ (b := main_while0b_v7) (by decide),
    armP8_keep _ (b := main_while0b_case0b1_v15) (by decide),
    armP7_keep _ (b := main_while0b_case0b1_v15) (by decide),
    armP6_keep _ (b := main_while0b_case0b1_v15) (by decide),
    armP5_keep _ (b := main_while0b_case0b1_v15) (by decide),
    armP4_keep _ (b := main_while0b_case0b1_v15) (by decide),
    armP3_keep _ (b := main_while0b_case0b1_v15) (by decide),
    p2,
    armP1_keep _ (b := main_v0_7) (by decide),
    p1]

/-- The lengths after the branch. -/
theorem arm_cnt : after armOps1 V main_while0b_v10_2 = Host.scatter scatter_S1024_S1_S__n_0_0_0 IntOp.addi (V main_v0_7 : S1024.Idx → BitVec 32)
      (one (wrap 1024#32 (V main_while0b_v7))) (constantI S_ 32 1#32) := by
  rw [arm_split]
  simp only [StableHlo.after_append]
  rw [p12_2,
    p11,
    armP10_keep _ (b := main_v0_7) (by decide),
    armP9_keep _ (b := main_v0_7) (by decide),
    armP8_keep _ (b := main_v0_7) (by decide),
    armP7_keep _ (b := main_v0_7) (by decide),
    armP6_keep _ (b := main_v0_7) (by decide),
    armP5_keep _ (b := main_v0_7) (by decide),
    armP4_keep _ (b := main_v0_7) (by decide),
    armP3_keep _ (b := main_v0_7) (by decide),
    armP2_keep _ (b := main_v0_7) (by decide),
    armP1_keep _ (b := main_v0_7) (by decide),
    armP10_keep _ (b := main_while0b_v7) (by decide),
    armP9_keep _ (b := main_while0b_v7) (by decide),
    armP8_keep _ (b := main_while0b_v7) (by decide),
    armP7_keep _ (b := main_while0b_v7) (by decide),
    armP6_keep _ (b := main_while0b_v7) (by decide),
    armP5_keep _ (b := main_while0b_v7) (by decide),
    armP4_keep _ (b := main_while0b_v7) (by decide),
    armP3_keep _ (b := main_while0b_v7) (by decide),
    armP2_keep _ (b := main_while0b_v7) (by decide),
    armP1_keep _ (b := main_while0b_v7) (by decide)]

/-- The token's row. -/
theorem head_row : after headOps V main_while0b_v7 = entry (V main_v0_0 : S1024.Idx → BitVec 32) (wrap 1024#32 (V main_v0_3)) := by
  rw [head_split]
  simp only [StableHlo.after_append]
  rw [headP3_keep _ (b := main_while0b_v7) (by decide), h2, headP1_keep _ (b := main_v0_0) (by decide), h1]

/-- The word branched on. -/
theorem head_word : after rdOps (after headOps V) main_while0b_v9
    = extui (s := S_) (w := 1) 32 (cmpi .sge (entry (V main_v0_0 : S1024.Idx → BitVec 32) (wrap 1024#32 (V main_v0_3))) (constantI S_ 32 0#32)) natLt_1_32 := by
  rw [head_split]
  simp only [StableHlo.after_append]
  rw [rd, h3, h2, headP1_keep _ (b := main_v0_0) (by decide), h1]

end Cert.Proof.Ref

end
-- ==== Proof.RefValue.lean ====
/-
  What the reference program computes from arguments in range: after `k` trips the first `k` tokens stand in their rows, each at the column
  its row's length had reached, and every row's length has grown by the number of its tokens among them.
-/
module

public import proofs.«01_k».proof.Proof.RefRun
public import proofs.«01_k».proof.Proof.RefPieces
public import proofs.«01_k».proof.Proof.Plan
public import Idealize.ShloMosaic.Lib.Routing.OpsOne
public import Idealize.ShloMosaic.Lib.Routing.OpsPair
public import Idealize.ShloMosaic.Lib.Pipeline.Value
public import Idealize.ShloMosaic.Lib.Pointwise.ShapeOpsCore

@[expose] public section

noncomputable section

namespace Cert.Proof.Ref

open Cert.ReferenceIdeal Cert.ReferenceIdeal.Gen

open Idealize.ShloMosaic Idealize.ShloMosaic.TcCoe
open Idealize.ShloMosaic.StableHlo (after)
open Cert.Proof.Plan

variable {F : FTy → Type} [FloatOps F]

/-! ## Words in range, entries, pairs -/

theorem toInt_small {x : BitVec 32} (h : x.toNat < 2 ^ 31) : x.toInt = (x.toNat : ℤ) := by
  rw [BitVec.toInt_eq_toNat_cond, if_pos (by omega)]

theorem not_neg {x : BitVec 32} (h : x.toNat < 2 ^ 31) : IntOp.cmpi .slt x 0#32 = 0#1 := by
  show BitVec.ofBool (x.slt 0#32) = 0#1
  have : x.slt 0#32 = false := by
    rw [Bool.eq_false_iff]
    intro hs
    rw [BitVec.slt_iff_toInt_lt, toInt_small h] at hs
    have h0 : (0#32 : BitVec 32).toInt = 0 := rfl
    rw [h0] at hs; omega
  rw [this]; rfl

theorem not_neg' {x : BitVec 32} (h : x.toNat < 2 ^ 31) : IntOp.cmpi .sge x 0#32 = 1#1 := by
  show BitVec.ofBool ((0#32 : BitVec 32).sle x) = 1#1
  have : (0#32 : BitVec 32).sle x = true := by
    rw [BitVec.sle_iff_toInt_le, toInt_small h]
    have h0 : (0#32 : BitVec 32).toInt = 0 := rfl
    rw [h0]; omega
  rw [this]; rfl

theorem scalar_eq (i j : S_.Idx) : i = j := funext fun a => a.elim0

/-- An index that is not negative is taken as it is. -/
theorem wrap_small (n x : BitVec 32) {w : S_.Idx → BitVec 32} (hw : w = fun _ => x) (h : x.toNat < 2 ^ 31) : wrap n w = fun _ => x := by
  subst hw
  funext j
  show Scalar.select (IntOp.cmpi .slt x 0#32) _ x = x
  rw [not_neg h]
  rfl

/-- The entry of a vector at an index in range. -/
theorem entry_at {α : Type} (x : S1024.Idx → α) (k : BitVec 32) {w : S_.Idx → BitVec 32} (hw : w = fun _ => k) (h : k.toNat < 1024) :
    entry x w = fun _ => x (ix k.toNat) := by
  subst hw
  funext j
  have hs : ∀ j' : S1.Idx, Host.dynamicSlice S1 x (fun i => ((![fun _ => k] : Fin 1 → S_.Idx → BitVec 32) i (Shape.Idx.first h_S_)).toInt) sliceFits_S1024_S1 j' = x (ix k.toNat) := by
    intro j'
    rw [Host.dynamicSlice_apply]
    refine congrArg x (ix_ext ?_)
    rw [ix_val h]
    have hj : (j' 0).val = 0 := by have : (j' 0).val < 1 := (j' 0).isLt; omega
    show Host.clampedStart S1024 S1 sliceFits_S1024_S1.1 _ 0 + (j' 0).val = k.toNat
    rw [hj, Nat.add_zero]
    exact Host.clampedStart_of_le _ _ _ k.toNat (toInt_small (x := k) (by omega)) (by show k.toNat + 1 ≤ 1024; omega)
  exact hs _

/-- The two words of a pair. -/
theorem pair_row {r : BitVec 32} {w v : S_.Idx → BitVec 32} (hw : w = fun _ => r) : pair w v (ValueIdx.ix1 (0 : Fin 2)) = r := by
  subst hw
  exact concatenate_pair_apply_left (t := S2) (s₁ := S1) (s₂ := S1) 0 _ _ concatenates_S1_S1_S2_d0 _ rfl (ValueIdx.ix1 (0 : Fin 1)) (fun b => by
    have : b = 0 := Subsingleton.elim (α := Fin 1) _ _
    subst this; rfl)
theorem pair_col {c : BitVec 32} {w v : S_.Idx → BitVec 32} (hv : v = fun _ => c) : pair w v (ValueIdx.ix1 (1 : Fin 2)) = c := by
  subst hv
  exact concatenate_pair_apply_right (t := S2) (s₁ := S1) (s₂ := S1) 0 _ _ concatenates_S1_S1_S2_d0 _ rfl rfl (ValueIdx.ix1 (0 : Fin 1))
    (fun b hb => absurd (Subsingleton.elim (α := Fin 1) _ _) hb) rfl

/-- Counting up one entry. -/
theorem count_one (x : S1024.Idx → BitVec 32) (k : BitVec 32) {w : S_.Idx → BitVec 32} (hw : w = fun _ => k) (h : k.toNat < 1024) (e : S1024.Idx) :
    Host.scatter scatter_S1024_S1_S__n_0_0_0 IntOp.addi x (one w) (constantI S_ 32 1#32) e = if (e 0).val = k.toNat then x e + 1#32 else x e := by
  subst hw
  obtain ⟨a, rfl⟩ : ∃ a : Fin 1024, e = ValueIdx.ix1 a := ⟨e 0, ValueIdx.eq_ix1 e⟩
  have hl := Routing.lands_one (N := 1024) scatter_S1024_S1_S__n_0_0_0 rfl rfl (one fun _ => k) ⟨k.toNat, h⟩ (toInt_small (x := k) (by omega)) a
  generalize he : (ValueIdx.ix1 a : S1024.Idx) = e at hl ⊢
  have ha : (e 0).val = a.val := by rw [← he]
  unfold Host.scatter
  rw [show List.finRange S_.numel = [⟨0, h_S_⟩] from rfl, List.foldl_cons, List.foldl_nil]
  have hi : (S_.rowMajor.symm ⟨0, h_S_⟩ : S_.Idx) = ValueIdx.ix0 := scalar_eq _ _
  rw [hi]
  cases hr : scatter_S1024_S1_S__n_0_0_0.resultIdx? ValueIdx.ix0 (one fun _ => k) with
  | none =>
    rw [hr] at hl
    rw [if_neg]
    intro hc
    exact absurd (hl.2 (Fin.ext (ha.symm.trans hc))) (by simp)
  | some i =>
    rw [hr] at hl
    show (if e = i then IntOp.addi (x i) _ else x e) = _
    by_cases hc : (e 0).val = k.toNat
    · have hie : i = e := Option.some.inj (hl.2 (Fin.ext (ha.symm.trans hc)))
      subst hie
      rw [if_pos rfl, if_pos hc]; rfl
    · rw [if_neg hc, if_neg]
      intro hie
      subst hie
      exact hc (ha.trans (congrArg Fin.val (hl.1 rfl)))

/-- Writing one cell. -/
theorem write_one {α : Type} (x : S1024x8192.Idx → α) (r c : BitVec 32) {w v : S_.Idx → BitVec 32} (hw : w = fun _ => r) (hv : v = fun _ => c)
    (hr : r.toNat < 1024) (hc : c.toNat < 8192) (u : S_.Idx → α) (e : S1024x8192.Idx) :
    Host.scatter scatter_S1024x8192_S2_S__n_01_01_0 (fun _ b => b) x (pair w v) u e
      = if r.toNat = (e 0).val ∧ c.toNat = (e 1).val then u ValueIdx.ix0 else x e := by
  obtain ⟨a, b, rfl⟩ : ∃ (a : Fin 1024) (b : Fin 8192), e = ValueIdx.ix2 a b := ⟨e 0, e 1, ValueIdx.eq_ix2 e⟩
  refine (Routing.scatter_cell_signed (R := 1024) (C := 8192) scatter_S1024x8192_S2_S__n_01_01_0 rfl rfl rfl x (pair w v) u a b).trans (if_congr ?_ rfl rfl)
  rw [pair_row hw, pair_col hv, toInt_small (x := r) (by omega), toInt_small (x := c) (by omega)]
  show ((r.toNat : ℤ) = (a.val : ℤ) ∧ (c.toNat : ℤ) = (b.val : ℤ)) ↔ (r.toNat = a.val ∧ c.toNat = b.val)
  norm_cast

end Cert.Proof.Ref

end
-- ==== Proof.RefTrip.lean ====
/-
  The reference program's buffers trip by trip, from arguments in range.
-/
module

public import proofs.«01_k».proof.Proof.RefValue

@[expose] public section

noncomputable section

namespace Cert.Proof.Ref

open Cert.ReferenceIdeal Cert.ReferenceIdeal.Gen

open Idealize.ShloMosaic Idealize.ShloMosaic.TcCoe
open Idealize.ShloMosaic.StableHlo (after)
open Cert.Proof.Plan

variable {F : FTy → Type} [FloatOps F]

/-- The rows' lengths after the first `n` tokens. -/
def cntR (nt s : (A 1024).Idx → BitVec 32) (n : ℕ) : (A 1024).Idx → BitVec 32 := fun r => nt r + BitVec.ofNat 32 (inRow s (r 0).val n)

theorem cntR_zero (nt s : (A 1024).Idx → BitVec 32) : cntR nt s 0 = nt := by
  funext r
  show nt r + BitVec.ofNat 32 0 = nt r
  exact BitVec.add_zero _

theorem cntR_row {nt s : (A 1024).Idx → BitVec 32} (hr : RowsOk s) (k : ℕ) : cntR nt s k (ix (row s k)) = col nt s k := by
  unfold cntR col
  rw [ix_val (hr.row_lt k)]

theorem cntR_succ {nt s : (A 1024).Idx → BitVec 32} (k : ℕ) (e : (A 1024).Idx) :
    cntR nt s (k + 1) e = if (e 0).val = row s k then cntR nt s k e + 1#32 else cntR nt s k e := by
  unfold cntR inRow
  rw [Nat.count_succ]
  split_ifs with h1 h2 h2
  · rw [BitVec.ofNat_add, ← BitVec.add_assoc]
  · exact absurd h1.symm h2
  · exact absurd h2.symm h1
  · rfl

/-! ## One trip -/

section
variable (V : Valuation τ sig (Elt F)) {nt s : (A 1024).Idx → BitVec 32} (hr : RowsOk s) (hl : LensOk nt) {k : ℕ} (hk : k < 1024)
  (hs : V main_v0_0 = s) (hc : V main_v0_3 = fun _ : S_.Idx => BitVec.ofNat 32 k) (hn : V main_v0_7 = cntR nt s k)

include hk in
theorem ctr_nat : (BitVec.ofNat 32 k).toNat = k := by rw [BitVec.toNat_ofNat, Nat.mod_eq_of_lt (by omega)]

include hk hc in
/-- The trip's counter as an index. -/
theorem idx_k : wrap 1024#32 (V main_v0_3) = fun _ => BitVec.ofNat 32 k :=
  wrap_small _ _ hc (by rw [ctr_nat hk]; omega)

include hk hc in
/-- The trip's entry of a vector. -/
theorem entry_k {α : Type} (x : S1024.Idx → α) : entry x (wrap 1024#32 (V main_v0_3)) = fun _ => x (ix k) := by
  rw [entry_at x (BitVec.ofNat 32 k) (idx_k V hk hc) (by rw [ctr_nat hk]; exact hk), ctr_nat hk]

include hk hs hc in
/-- The row read is the token's. -/
theorem row_k : rdV V main_while0b_v7 = fun _ : S_.Idx => s (ix k) := by
  unfold rdV
  rw [rdOps_keep _ (by decide), head_row, entry_k V hk hc, hs]

include hr hk hs hc in
/-- The token has a row. -/
theorem branch_k : HostLoop.branch (word V) 1 = 1 := by
  have hw : word V = 1#32 := by
    unfold word rdV
    rw [head_word, entry_k V hk hc, hs]
    show (IntOp.cmpi .sge (s (ix k)) 0#32).setWidth 32 = 1#32
    rw [not_neg' (by have := hr (ix k); omega)]
    rfl
  rw [hw]; rfl

include hr hk hs hc in
theorem armV_k : armV V = after armOps1 (rdV V) := by
  unfold armV
  rw [branch_k V hr hk hs hc]
  rfl

theorem rdV_keep {b : Ref sig .tc} (h0 : b ∉ headOps_W) (h1 : b ∉ rdOps_W) : rdV V (Proc.devRef .tc b) = V (Proc.devRef .tc b) := by
  unfold rdV
  rw [rdOps_keep _ h1, headOps_keep _ h0]

include hr hk hs hc in
theorem row_idx : wrap 1024#32 (rdV V main_while0b_v7) = fun _ => s (ix k) :=
  wrap_small _ _ (row_k V hk hs hc) (by have := hr (ix k); omega)

include hr hl hk hs hc hn in
/-- The column read is the token's. -/
theorem col_k : entry (rdV V main_v0_7 : S1024.Idx → BitVec 32) (wrap 1024#32 (rdV V main_while0b_v7)) = fun _ => col nt s k := by
  rw [entry_at _ _ (row_idx V hr hk hs hc) (hr _), rdV_keep V (by decide) (by decide), hn]
  exact funext fun _ => cntR_row hr k

include hr hl hk hs hc hn in
theorem col_idx : wrap 8192#32 (entry (rdV V main_v0_7 : S1024.Idx → BitVec 32) (wrap 1024#32 (rdV V main_while0b_v7))) = fun _ => col nt s k :=
  wrap_small _ _ (col_k V hr hl hk hs hc hn) (by have := col_lt hr hl hk.le; omega)

include hr hk hs hc hn in
/-- After a trip the lengths are those one token further. -/
theorem step_cnt : step V main_v0_7 = cntR nt s (k + 1) := by
  unfold step
  rw [t_2, armV_k V hr hk hs hc, arm_cnt, rdV_keep V (b := main_v0_7) (by decide) (by decide), hn]
  funext e
  rw [cntR_succ]
  exact count_one _ _ (row_idx V hr hk hs hc) (hr _) e

include hr hl hk hs hc hn in
/-- After a trip the token stands in the array of tokens, -/
theorem step_tok (e : S1024x8192.Idx) : (step V main_v0_5 : S1024x8192.Idx → BitVec 32) e
    = if row s k = (e 0).val ∧ (col nt s k).toNat = (e 1).val then (V main_v0_1 : S1024.Idx → BitVec 32) (ix k) else (V main_v0_5 : S1024x8192.Idx → BitVec 32) e := by
  unfold step
  rw [t_0, armV_k V hr hk hs hc, arm_tok, rdV_keep V (b := main_v0_5) (by decide) (by decide), rdV_keep V (b := main_v0_1) (by decide) (by decide),
    rdV_keep V (b := main_v0_3) (by decide) (by decide), entry_k V hk hc]
  exact write_one _ _ _ (row_idx V hr hk hs hc) (col_idx V hr hl hk hs hc hn) (hr _) (by have := col_lt hr hl hk.le; omega) _ e

include hr hl hk hs hc hn in
/-- and its logarithm in the other. -/
theorem step_lp (e : S1024x8192.Idx) : (step V main_v0_6 : S1024x8192.Idx → F .f32) e
    = if row s k = (e 0).val ∧ (col nt s k).toNat = (e 1).val then (V main_v0_2 : S1024.Idx → F .f32) (ix k) else (V main_v0_6 : S1024x8192.Idx → F .f32) e := by
  unfold step
  rw [t_1, armV_k V hr hk hs hc, arm_lp, rdV_keep V (b := main_v0_6) (by decide) (by decide), rdV_keep V (b := main_v0_2) (by decide) (by decide),
    rdV_keep V (b := main_v0_3) (by decide) (by decide), entry_k V hk hc]
  exact write_one _ _ _ (row_idx V hr hk hs hc) (col_idx V hr hl hk hs hc hn) (hr _) (by have := col_lt hr hl hk.le; omega) _ e

end

/-! ## All trips -/

variable (m : (ℓ : Loc nD τ sig) → Buf (Elt F) ℓ) (c : Dev nD)

/-- The lengths and the rows a device is given, -/
abbrev lensR : (A 1024).Idx → BitVec 32 := m ((c : Thread nD τ).loc main_arg2)
abbrev sidsR : (A 1024).Idx → BitVec 32 := m ((c : Thread nD τ).loc main_arg3)
/-- and the tokens with their logarithms. -/
abbrev ntokR : (A 1024).Idx → BitVec 32 := m ((c : Thread nD τ).loc main_arg4)
abbrev nlpR : (A 1024).Idx → F .f32 := m ((c : Thread nD τ).loc main_arg5)

/-- An element of one of the two arrays. -/
def cell (r c : ℕ) : S1024x8192.Idx := fun a => match a with
  | ⟨0, _⟩ => ⟨r % 1024, Nat.mod_lt _ (show 0 < 1024 by decide)⟩
  | ⟨1, _⟩ => ⟨c % 8192, Nat.mod_lt _ (show 0 < 8192 by decide)⟩

theorem cell_eq (j : S1024x8192.Idx) : cell (j 0).val (j 1).val = j := by
  have h0 : (j 0).val < 1024 := (j 0).isLt
  have h1 : (j 1).val < 8192 := (j 1).isLt
  exact Shape.idx_ext₂ (Nat.mod_eq_of_lt h0) (Nat.mod_eq_of_lt h1)

/-- The array of tokens with the tokens of `P` written, -/
def tokR (P : ℕ → Prop) : S1024x8192.Idx → BitVec 32 := fun j =>
  written (lensR m c) (sidsR m c) (fun r k => (m ((c : Thread nD τ).loc main_arg0) : S1024x8192.Idx → BitVec 32) (cell r k)) (fun i => ntokR m c (ix i)) P (j 0).val (j 1).val
/-- and the array of logarithms. -/
def lpR (P : ℕ → Prop) : S1024x8192.Idx → F .f32 := fun j =>
  written (lensR m c) (sidsR m c) (fun r k => (m ((c : Thread nD τ).loc main_arg1) : S1024x8192.Idx → F .f32) (cell r k)) (fun i => nlpR m c (ix i)) P (j 0).val (j 1).val

theorem pre_0 (V : Valuation τ sig (Elt F)) : after preOps V main_v0_0 = V main_arg3 := by
  unfold preOps; after_results; rfl
theorem pre_1 (V : Valuation τ sig (Elt F)) : after preOps V main_v0_1 = V main_arg4 := by
  unfold preOps; after_results; rfl
theorem pre_2 (V : Valuation τ sig (Elt F)) : after preOps V main_v0_2 = V main_arg5 := by
  unfold preOps; after_results; rfl
theorem pre_5 (V : Valuation τ sig (Elt F)) : after preOps V main_v0_5 = V main_arg0 := by
  unfold preOps; after_results; rfl
theorem pre_6 (V : Valuation τ sig (Elt F)) : after preOps V main_v0_6 = V main_arg1 := by
  unfold preOps; after_results; rfl
theorem pre_7 (V : Valuation τ sig (Elt F)) : after preOps V main_v0_7 = V main_arg2 := by
  unfold preOps; after_results; rfl

/-- The rows, the tokens and the logarithms stay. -/
theorem trip_sids (k : ℕ) : tripV m c k main_v0_0 = sidsR m c := (trip_keep m c k main_v0_0 (by decide)).trans (pre_0 _)
theorem trip_ntok (k : ℕ) : tripV m c k main_v0_1 = ntokR m c := (trip_keep m c k main_v0_1 (by decide)).trans (pre_1 _)
theorem trip_nlp (k : ℕ) : tripV m c k main_v0_2 = nlpR m c := (trip_keep m c k main_v0_2 (by decide)).trans (pre_2 _)

theorem trip_k (k : ℕ) : tripV m c k main_v0_3 = fun _ : S_.Idx => BitVec.ofNat 32 k := by
  rw [trip_ctr]
  unfold Scf.iv
  funext _
  rw [BitVec.mul_one, BitVec.zero_add]

/-- After `k` trips. -/
theorem trips_at (hr : RowsOk (sidsR m c)) (hl : LensOk (lensR m c)) : ∀ k, k ≤ 1024 →
    (tripV m c k main_v0_7 = cntR (lensR m c) (sidsR m c) k ∧ (tripV m c k main_v0_5 = tokR m c (· < k)) ∧ tripV m c k main_v0_6 = lpR m c (· < k))
  | 0, _ => by
    refine ⟨(pre_7 _).trans (cntR_zero _ _).symm, (pre_5 _).trans ?_, (pre_6 _).trans ?_⟩
    · funext j
      unfold tokR
      rw [written_miss fun i _ h => absurd h (Nat.not_lt_zero i), cell_eq]; rfl
    · funext j
      unfold lpR
      rw [written_miss fun i _ h => absurd h (Nat.not_lt_zero i), cell_eq]; rfl
  | k + 1, hk => by
    obtain ⟨h7, h5, h6⟩ := trips_at hr hl k (by omega)
    have hk' : k < 1024 := hk
    have hV : tripV m c (k + 1) = step (after condOps (tripV m c k)) := rfl
    have e0 : after condOps (tripV m c k) main_v0_0 = sidsR m c := (condOps_keep _ (by decide)).trans (trip_sids m c k)
    have e3 : after condOps (tripV m c k) main_v0_3 = fun _ : S_.Idx => BitVec.ofNat 32 k := (condOps_keep _ (by decide)).trans (trip_k m c k)
    have e7 : after condOps (tripV m c k) main_v0_7 = cntR (lensR m c) (sidsR m c) k := (condOps_keep _ (by decide)).trans h7
    have e1 : after condOps (tripV m c k) main_v0_1 = ntokR m c := (condOps_keep _ (by decide)).trans (trip_ntok m c k)
    have e2 : after condOps (tripV m c k) main_v0_2 = nlpR m c := (condOps_keep _ (by decide)).trans (trip_nlp m c k)
    have e5 : after condOps (tripV m c k) main_v0_5 = tokR m c (· < k) := (condOps_keep _ (by decide)).trans h5
    have e6 : after condOps (tripV m c k) main_v0_6 = lpR m c (· < k) := (condOps_keep _ (by decide)).trans h6
    rw [hV]
    have hP : ∀ i, i < 1024 → (i < k + 1 ↔ i < k ∨ i = k) := fun i _ => by omega
    refine ⟨step_cnt _ hr hk' e0 e3 e7, ?_, ?_⟩
    · funext e
      refine (step_tok _ hr hl hk' e0 e3 e7 e).trans ?_
      rw [e1, e5]
      exact (written_step hr hl hk' hP).symm
    · funext e
      refine (step_lp _ hr hl hk' e0 e3 e7 e).trans ?_
      rw [e2, e6]
      exact (written_step hr hl hk' hP).symm

variable (hb : ∀ d : Dev nD, m ((d : Thread nD τ).loc main_arg6) = fun _ : S_.Idx => 1024#32)

include hb in
/-- There are 1024 trips. -/
theorem trips_eq : trips m = 1024 := by
  unfold trips bound
  rw [hb 0]
  rfl

section
variable (hr : RowsOk (sidsR m c)) (hl : LensOk (lensR m c))

include hb hr hl in
/-- The lengths at the end, -/
theorem last_cnt : lastV m c main_v0_7 = cntR (lensR m c) (sidsR m c) 1024 := by
  unfold lastV
  rw [condOps_keep _ (by decide), trips_eq m hb]
  exact (trips_at m c hr hl 1024 le_rfl).1

include hb hr hl in
/-- the tokens at the end, -/
theorem last_tok : lastV m c main_v0_5 = tokR m c (fun _ => True) := by
  unfold lastV
  rw [condOps_keep _ (by decide), trips_eq m hb]
  refine (trips_at m c hr hl 1024 le_rfl).2.1.trans (funext fun j => ?_)
  exact written_congr hr hl (fun i hi _ _ => iff_true_intro hi) (fun _ _ => rfl) rfl

include hb hr hl in
/-- and the logarithms. -/
theorem last_lp : lastV m c main_v0_6 = lpR m c (fun _ => True) := by
  unfold lastV
  rw [condOps_keep _ (by decide), trips_eq m hb]
  refine (trips_at m c hr hl 1024 le_rfl).2.2.trans (funext fun j => ?_)
  exact written_congr hr hl (fun i hi _ _ => iff_true_intro hi) (fun _ _ => rfl) rfl

end

end Cert.Proof.Ref

end
-- ==== Proof.Equation.lean ====
/-
  The reference's frame, and the equation: from the same arguments in range the kernel and the reference end with the same three results.
-/
module

public import proofs.«01_k».proof.Proof.Frames
public import proofs.«01_k».proof.Proof.RefTrip
public import Idealize.ShloMosaic.Lib.Quiescent

@[expose] public section

noncomputable section

namespace Cert.Proof.Equation

open Idealize.ShloMosaic Idealize.ShloMosaic.TcCoe Idealize.SL.Sem
open Cert.Proof.Plan

/-! ## The reference's frame -/

section
open Cert.ReferenceIdeal Cert.ReferenceIdeal.Gen

variable (m : (ℓ : Loc nD τ sig) → Buf (Elt Ideal) ℓ)

/-- The buffers of the devices are those the reference's operations leave. -/
abbrev QR (r : PUnit × MemSt nD τ sig (Elt Ideal)) : Prop :=
  ∀ (c : Dev nD) (b : Ref sig .tc), (Proc.devRef .tc b : DevRef τ sig).isScoped = false → r.2.mem ((c.tc : Thread nD τ).loc b) = Ref.lastV m c (Proc.devRef .tc b)

/-- The arguments are as they were. -/
theorem ref_args {r : PUnit × MemSt nD τ sig (Elt Ideal)} (h : QR m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c main_arg0 rfl).trans (Ref.last_args m c _ (by decide)), (h c main_arg1 rfl).trans (Ref.last_args m c _ (by decide)),
    (h c main_arg2 rfl).trans (Ref.last_args m c _ (by decide)), (h c main_arg3 rfl).trans (Ref.last_args m c _ (by decide)),
    (h c main_arg4 rfl).trans (Ref.last_args m c _ (by decide)), (h c main_arg5 rfl).trans (Ref.last_args m c _ (by decide)),
    (h c main_arg6 rfl).trans (Ref.last_args m c _ (by decide))⟩

/-- The reference runs from any arguments, leaves them as they were and every semaphore at zero; -/
theorem reference : Cert.quiescent_ReferenceIdeal := by
  intro m g _
  exact (θ_run (Cert.ReferenceIdeal.defs (F := Ideal)) (onTc (τ := τ) (main (F := Ideal))) _).mono
    (fun r h => ⟨fun c => ref_args m h c, sem_eq_zero_of_no_sems (by decide) r.2⟩) (Ref.run_ref (F := Ideal) m g)

/-- so it does from those the precondition admits. -/
theorem reference_drawn : Cert.quiescent_ReferenceIdeal_pre_drawn := fun m g _ => reference m g trivial

end

/-! ## The equation -/

/-- From the same arguments, in range, the kernel and the reference end with the same tokens, the same logarithms and the same lengths. -/
theorem algebraic : Cert.algebraic_KernelIdeal_ReferenceIdeal := by
  intro m g m' g' hpre heq
  have hd := fun d => Drawn.spec (hpre d)
  have hr : ∀ d, RowsOk (Setup.sids (F := Ideal) d m) := fun d => (hd d).2.1
  have hl : ∀ d, LensOk (Setup.lens (F := Ideal) d m) := fun d => (hd d).1
  have e2 : ∀ c, Ref.lensR m' c = Setup.lens (F := Ideal) c m := fun c => (heq c).2.2.1
  have e3 : ∀ c, Ref.sidsR m' c = Setup.sids (F := Ideal) c m := fun c => (heq c).2.2.2.1
  have e4 : ∀ c, Ref.ntokR m' c = Setup.ntok (F := Ideal) c m := fun c => (heq c).2.2.2.2.1
  have e5 : ∀ c, Ref.nlpR m' c = Setup.nlp (F := Ideal) c m := fun c => (heq c).2.2.2.2.2.1
  have hb : ∀ d : Dev Cert.ReferenceIdeal.nD, m' ((d.tc : Thread Cert.ReferenceIdeal.nD Cert.ReferenceIdeal.τ).loc Cert.ReferenceIdeal.main_arg6)
      = fun _ : Cert.ReferenceIdeal.S_.Idx => 1024#32 := fun d => (heq d).2.2.2.2.2.2.trans (funext (hd d).2.2)
  have hr' : ∀ d, RowsOk (Ref.sidsR m' d) := fun d => by rw [e3 d]; exact hr d
  have hl' : ∀ d, LensOk (Ref.lensR m' d) := fun d => by rw [e2 d]; exact hl d
  refine ⟨fun c => Run.fin (F := Ideal) m c Cert.KernelIdeal.main_v1_0, fun c => Run.fin (F := Ideal) m c Cert.KernelIdeal.main_v1_1,
    fun c => Run.fin (F := Ideal) m c Cert.KernelIdeal.main_v0_0, ?_, ?_⟩
  · exact (θ_run (Cert.KernelIdeal.defs (F := Ideal)) (Cert.KernelIdeal.threads (F := Ideal)) _).mono
      (fun r h c => ⟨h.1 c _ (by decide), h.1 c _ (by decide), h.1 c _ (by decide), Frames.args_same m h c⟩) (Run.run_main (F := Ideal) m g hr hl)
  · refine (θ_run (Cert.ReferenceIdeal.defs (F := Ideal)) (onTc (τ := Cert.ReferenceIdeal.τ) (Cert.ReferenceIdeal.main (F := Ideal))) _).mono
      (fun r h c => ⟨(h c Cert.ReferenceIdeal.main_v0_5 rfl).trans ?_, (h c Cert.ReferenceIdeal.main_v0_6 rfl).trans ?_,
        (h c Cert.ReferenceIdeal.main_v0_7 rfl).trans ?_, ref_args m' h c⟩) (Ref.run_ref (F := Ideal) m' g')
    · refine (Ref.last_tok m' c hb (hr' c) (hl' c)).trans (Eq.trans ?_ (Run.fin_tok m c).symm)
      funext j
      unfold Ref.tokR Region.newTok
      rw [e2 c, e3 c, e4 c]
      refine written_congr (hr c) (hl c) (fun _ _ _ _ => Iff.rfl) (fun _ _ => rfl) ?_
      rw [Run.mid_other m c Cert.KernelIdeal.main_arg0 (by decide) (by decide) (by decide) (by decide) (by decide) (by decide) (by decide)]
      exact congrFun (heq c).1 _
    · refine (Ref.last_lp m' c hb (hr' c) (hl' c)).trans (Eq.trans ?_ (Run.fin_lp m c).symm)
      funext j
      unfold Ref.lpR Region.newLp
      rw [e2 c, e3 c, e5 c]
      refine written_congr (hr c) (hl c) (fun _ _ _ _ => Iff.rfl) (fun _ _ => rfl) ?_
      rw [Run.mid_other m c Cert.KernelIdeal.main_arg1 (by decide) (by decide) (by decide) (by decide) (by decide) (by decide) (by decide)]
      exact congrFun (heq c).2.1 _
    · refine (Ref.last_cnt m' c hb (hr' c) (hl' c)).trans (Eq.trans ?_ ((Run.fin_other m c Cert.KernelIdeal.main_v0_0 (by decide) (by decide)).trans (Run.mid_cnt m c)).symm)
      rw [e2 c, e3 c]
      rfl

end Cert.Proof.Equation

end
-- ==== Proof.lean ====
/-
  The claims: the kernel's frame as printed and over the extended reals, the reference's frame, and the equation between the two.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_drawn
public import proofs.«01_k».proof.Proof.Frames
public import proofs.«01_k».proof.Proof.Equation

@[expose] public section

noncomputable section

namespace Cert.Proof

/-- Every claim of the certificate holds. -/
theorem claim : Cert.Claim :=
  ⟨Cert.Kernel.Gen.facts, Cert.KernelIdeal.Gen.facts, Cert.ReferenceIdeal.Gen.facts, Cert.Pre_drawn.Gen.facts,
    Frames.kernel, Frames.kernelIdeal, Equation.reference, Equation.reference_drawn, trivial, Equation.algebraic⟩

end Cert.Proof

end
